-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13)
      ∧ r.2.mem ((c.tc : Thread Cert.Kernel4.nD Cert.Kernel4.τ).loc Cert.Kernel4.main_arg14) = m ((c.tc : Thread Cert.Kernel4.nD Cert.Kernel4.τ).loc Cert.Kernel4.main_arg14))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
      ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13)
      ∧ r.2.mem ((c.tc : Thread Cert.Reference4Ideal.nD Cert.Reference4Ideal.τ).loc Cert.Reference4Ideal.main_arg14) = m ((c.tc : Thread Cert.Reference4Ideal.nD Cert.Reference4Ideal.τ).loc Cert.Reference4Ideal.main_arg14))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9)
      ∧ r.2.mem ((c.tc : Thread Cert.Kernel8.nD Cert.Kernel8.τ).loc Cert.Kernel8.main_arg10) = m ((c.tc : Thread Cert.Kernel8.nD Cert.Kernel8.τ).loc Cert.Kernel8.main_arg10)
      ∧ r.2.mem ((c.tc : Thread Cert.Kernel8.nD Cert.Kernel8.τ).loc Cert.Kernel8.main_arg11) = m ((c.tc : Thread Cert.Kernel8.nD Cert.Kernel8.τ).loc Cert.Kernel8.main_arg11)
      ∧ r.2.mem ((c.tc : Thread Cert.Kernel8.nD Cert.Kernel8.τ).loc Cert.Kernel8.main_arg12) = m ((c.tc : Thread Cert.Kernel8.nD Cert.Kernel8.τ).loc Cert.Kernel8.main_arg12)
      ∧ r.2.mem ((c.tc : Thread Cert.Kernel8.nD Cert.Kernel8.τ).loc Cert.Kernel8.main_arg13) = m ((c.tc : Thread Cert.Kernel8.nD Cert.Kernel8.τ).loc Cert.Kernel8.main_arg13)
      ∧ r.2.mem ((c.tc : Thread Cert.Kernel8.nD Cert.Kernel8.τ).loc Cert.Kernel8.main_arg14) = m ((c.tc : Thread Cert.Kernel8.nD Cert.Kernel8.τ).loc Cert.Kernel8.main_arg14)
      ∧ r.2.mem ((c.tc : Thread Cert.Kernel8.nD Cert.Kernel8.τ).loc Cert.Kernel8.main_arg15) = m ((c.tc : Thread Cert.Kernel8.nD Cert.Kernel8.τ).loc Cert.Kernel8.main_arg15)
      ∧ r.2.mem ((c.tc : Thread Cert.Kernel8.nD Cert.Kernel8.τ).loc Cert.Kernel8.main_arg16) = m ((c.tc : Thread Cert.Kernel8.nD Cert.Kernel8.τ).loc Cert.Kernel8.main_arg16)
      ∧ r.2.mem ((c.tc : Thread Cert.Kernel8.nD Cert.Kernel8.τ).loc Cert.Kernel8.main_arg17) = m ((c.tc : Thread Cert.Kernel8.nD Cert.Kernel8.τ).loc Cert.Kernel8.main_arg17)
      ∧ r.2.mem ((c.tc : Thread Cert.Kernel8.nD Cert.Kernel8.τ).loc Cert.Kernel8.main_arg18) = m ((c.tc : Thread Cert.Kernel8.nD Cert.Kernel8.τ).loc Cert.Kernel8.main_arg18)
      ∧ r.2.mem ((c.tc : Thread Cert.Kernel8.nD Cert.Kernel8.τ).loc Cert.Kernel8.main_arg19) = m ((c.tc : Thread Cert.Kernel8.nD Cert.Kernel8.τ).loc Cert.Kernel8.main_arg19)
      ∧ r.2.mem ((c.tc : Thread Cert.Kernel8.nD Cert.Kernel8.τ).loc Cert.Kernel8.main_arg20) = m ((c.tc : Thread Cert.Kernel8.nD Cert.Kernel8.τ).loc Cert.Kernel8.main_arg20)
      ∧ r.2.mem ((c.tc : Thread Cert.Kernel8.nD Cert.Kernel8.τ).loc Cert.Kernel8.main_arg21) = m ((c.tc : Thread Cert.Kernel8.nD Cert.Kernel8.τ).loc Cert.Kernel8.main_arg21)
      ∧ r.2.mem ((c.tc : Thread Cert.Kernel8.nD Cert.Kernel8.τ).loc Cert.Kernel8.main_arg22) = m ((c.tc : Thread Cert.Kernel8.nD Cert.Kernel8.τ).loc Cert.Kernel8.main_arg22)
      ∧ r.2.mem ((c.tc : Thread Cert.Kernel8.nD Cert.Kernel8.τ).loc Cert.Kernel8.main_arg23) = m ((c.tc : Thread Cert.Kernel8.nD Cert.Kernel8.τ).loc Cert.Kernel8.main_arg23)
      ∧ r.2.mem ((c.tc : Thread Cert.Kernel8.nD Cert.Kernel8.τ).loc Cert.Kernel8.main_arg24) = m ((c.tc : Thread Cert.Kernel8.nD Cert.Kernel8.τ).loc Cert.Kernel8.main_arg24)
      ∧ r.2.mem ((c.tc : Thread Cert.Kernel8.nD Cert.Kernel8.τ).loc Cert.Kernel8.main_arg25) = m ((c.tc : Thread Cert.Kernel8.nD Cert.Kernel8.τ).loc Cert.Kernel8.main_arg25)
      ∧ r.2.mem ((c.tc : Thread Cert.Kernel8.nD Cert.Kernel8.τ).loc Cert.Kernel8.main_arg26) = m ((c.tc : Thread Cert.Kernel8.nD Cert.Kernel8.τ).loc Cert.Kernel8.main_arg26)
      ∧ r.2.mem ((c.tc : Thread Cert.Kernel8.nD Cert.Kernel8.τ).loc Cert.Kernel8.main_arg27) = m ((c.tc : Thread Cert.Kernel8.nD Cert.Kernel8.τ).loc Cert.Kernel8.main_arg27)
      ∧ r.2.mem ((c.tc : Thread Cert.Kernel8.nD Cert.Kernel8.τ).loc Cert.Kernel8.main_arg28) = m ((c.tc : Thread Cert.Kernel8.nD Cert.Kernel8.τ).loc Cert.Kernel8.main_arg28)
      ∧ r.2.mem ((c.tc : Thread Cert.Kernel8.nD Cert.Kernel8.τ).loc Cert.Kernel8.main_arg29) = m ((c.tc : Thread Cert.Kernel8.nD Cert.Kernel8.τ).loc Cert.Kernel8.main_arg29)
      ∧ r.2.mem ((c.tc : Thread Cert.Kernel8.nD Cert.Kernel8.τ).loc Cert.Kernel8.main_arg30) = m ((c.tc : Thread Cert.Kernel8.nD Cert.Kernel8.τ).loc Cert.Kernel8.main_arg30)
      ∧ r.2.mem ((c.tc : Thread Cert.Kernel8.nD Cert.Kernel8.τ).loc Cert.Kernel8.main_arg31) = m ((c.tc : Thread Cert.Kernel8.nD Cert.Kernel8.τ).loc Cert.Kernel8.main_arg31)
      ∧ r.2.mem ((c.tc : Thread Cert.Kernel8.nD Cert.Kernel8.τ).loc Cert.Kernel8.main_arg32) = m ((c.tc : Thread Cert.Kernel8.nD Cert.Kernel8.τ).loc Cert.Kernel8.main_arg32)
      ∧ r.2.mem ((c.tc : Thread Cert.Kernel8.nD Cert.Kernel8.τ).loc Cert.Kernel8.main_arg33) = m ((c.tc : Thread Cert.Kernel8.nD Cert.Kernel8.τ).loc Cert.Kernel8.main_arg33)
      ∧ r.2.mem ((c.tc : Thread Cert.Kernel8.nD Cert.Kernel8.τ).loc Cert.Kernel8.main_arg34) = m ((c.tc : Thread Cert.Kernel8.nD Cert.Kernel8.τ).loc Cert.Kernel8.main_arg34)
      ∧ r.2.mem ((c.tc : Thread Cert.Kernel8.nD Cert.Kernel8.τ).loc Cert.Kernel8.main_arg35) = m ((c.tc : Thread Cert.Kernel8.nD Cert.Kernel8.τ).loc Cert.Kernel8.main_arg35)
      ∧ r.2.mem ((c.tc : Thread Cert.Kernel8.nD Cert.Kernel8.τ).loc Cert.Kernel8.main_arg36) = m ((c.tc : Thread Cert.Kernel8.nD Cert.Kernel8.τ).loc Cert.Kernel8.main_arg36)
      ∧ r.2.mem ((c.tc : Thread Cert.Kernel8.nD Cert.Kernel8.τ).loc Cert.Kernel8.main_arg37) = m ((c.tc : Thread Cert.Kernel8.nD Cert.Kernel8.τ).loc Cert.Kernel8.main_arg37)
      ∧ r.2.mem ((c.tc : Thread Cert.Kernel8.nD Cert.Kernel8.τ).loc Cert.Kernel8.main_arg38) = m ((c.tc : Thread Cert.Kernel8.nD Cert.Kernel8.τ).loc Cert.Kernel8.main_arg38)
      ∧ r.2.mem ((c.tc : Thread Cert.Kernel8.nD Cert.Kernel8.τ).loc Cert.Kernel8.main_arg39) = m ((c.tc : Thread Cert.Kernel8.nD Cert.Kernel8.τ).loc Cert.Kernel8.main_arg39)
      ∧ r.2.mem ((c.tc : Thread Cert.Kernel8.nD Cert.Kernel8.τ).loc Cert.Kernel8.main_arg40) = m ((c.tc : Thread Cert.Kernel8.nD Cert.Kernel8.τ).loc Cert.Kernel8.main_arg40)
      ∧ r.2.mem ((c.tc : Thread Cert.Kernel8.nD Cert.Kernel8.τ).loc Cert.Kernel8.main_arg41) = m ((c.tc : Thread Cert.Kernel8.nD Cert.Kernel8.τ).loc Cert.Kernel8.main_arg41))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
      ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
      ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
      ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
      ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
      ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
      ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
      ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
      ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
      ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
      ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
      ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
      ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
      ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
      ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
      ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
      ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
      ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
      ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
      ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
      ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
      ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
      ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
      ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32)
      ∧ r.2.mem ((c.tc : Thread Cert.Kernel8Ideal.nD Cert.Kernel8Ideal.τ).loc Cert.Kernel8Ideal.main_arg33) = m ((c.tc : Thread Cert.Kernel8Ideal.nD Cert.Kernel8Ideal.τ).loc Cert.Kernel8Ideal.main_arg33)
      ∧ r.2.mem ((c.tc : Thread Cert.Kernel8Ideal.nD Cert.Kernel8Ideal.τ).loc Cert.Kernel8Ideal.main_arg34) = m ((c.tc : Thread Cert.Kernel8Ideal.nD Cert.Kernel8Ideal.τ).loc Cert.Kernel8Ideal.main_arg34)
      ∧ r.2.mem ((c.tc : Thread Cert.Kernel8Ideal.nD Cert.Kernel8Ideal.τ).loc Cert.Kernel8Ideal.main_arg35) = m ((c.tc : Thread Cert.Kernel8Ideal.nD Cert.Kernel8Ideal.τ).loc Cert.Kernel8Ideal.main_arg35)
      ∧ r.2.mem ((c.tc : Thread Cert.Kernel8Ideal.nD Cert.Kernel8Ideal.τ).loc Cert.Kernel8Ideal.main_arg36) = m ((c.tc : Thread Cert.Kernel8Ideal.nD Cert.Kernel8Ideal.τ).loc Cert.Kernel8Ideal.main_arg36)
      ∧ r.2.mem ((c.tc : Thread Cert.Kernel8Ideal.nD Cert.Kernel8Ideal.τ).loc Cert.Kernel8Ideal.main_arg37) = m ((c.tc : Thread Cert.Kernel8Ideal.nD Cert.Kernel8Ideal.τ).loc Cert.Kernel8Ideal.main_arg37)
      ∧ r.2.mem ((c.tc : Thread Cert.Kernel8Ideal.nD Cert.Kernel8Ideal.τ).loc Cert.Kernel8Ideal.main_arg38) = m ((c.tc : Thread Cert.Kernel8Ideal.nD Cert.Kernel8Ideal.τ).loc Cert.Kernel8Ideal.main_arg38)
      ∧ r.2.mem ((c.tc : Thread Cert.Kernel8Ideal.nD Cert.Kernel8Ideal.τ).loc Cert.Kernel8Ideal.main_arg39) = m ((c.tc : Thread Cert.Kernel8Ideal.nD Cert.Kernel8Ideal.τ).loc Cert.Kernel8Ideal.main_arg39)
      ∧ r.2.mem ((c.tc : Thread Cert.Kernel8Ideal.nD Cert.Kernel8Ideal.τ).loc Cert.Kernel8Ideal.main_arg40) = m ((c.tc : Thread Cert.Kernel8Ideal.nD Cert.Kernel8Ideal.τ).loc Cert.Kernel8Ideal.main_arg40)
      ∧ r.2.mem ((c.tc : Thread Cert.Kernel8Ideal.nD Cert.Kernel8Ideal.τ).loc Cert.Kernel8Ideal.main_arg41) = m ((c.tc : Thread Cert.Kernel8Ideal.nD Cert.Kernel8Ideal.τ).loc Cert.Kernel8Ideal.main_arg41))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9)
      ∧ r.2.mem ((c.tc : Thread Cert.Reference8Ideal.nD Cert.Reference8Ideal.τ).loc Cert.Reference8Ideal.main_arg10) = m ((c.tc : Thread Cert.Reference8Ideal.nD Cert.Reference8Ideal.τ).loc Cert.Reference8Ideal.main_arg10)
      ∧ r.2.mem ((c.tc : Thread Cert.Reference8Ideal.nD Cert.Reference8Ideal.τ).loc Cert.Reference8Ideal.main_arg11) = m ((c.tc : Thread Cert.Reference8Ideal.nD Cert.Reference8Ideal.τ).loc Cert.Reference8Ideal.main_arg11)
      ∧ r.2.mem ((c.tc : Thread Cert.Reference8Ideal.nD Cert.Reference8Ideal.τ).loc Cert.Reference8Ideal.main_arg12) = m ((c.tc : Thread Cert.Reference8Ideal.nD Cert.Reference8Ideal.τ).loc Cert.Reference8Ideal.main_arg12)
      ∧ r.2.mem ((c.tc : Thread Cert.Reference8Ideal.nD Cert.Reference8Ideal.τ).loc Cert.Reference8Ideal.main_arg13) = m ((c.tc : Thread Cert.Reference8Ideal.nD Cert.Reference8Ideal.τ).loc Cert.Reference8Ideal.main_arg13)
      ∧ r.2.mem ((c.tc : Thread Cert.Reference8Ideal.nD Cert.Reference8Ideal.τ).loc Cert.Reference8Ideal.main_arg14) = m ((c.tc : Thread Cert.Reference8Ideal.nD Cert.Reference8Ideal.τ).loc Cert.Reference8Ideal.main_arg14)
      ∧ r.2.mem ((c.tc : Thread Cert.Reference8Ideal.nD Cert.Reference8Ideal.τ).loc Cert.Reference8Ideal.main_arg15) = m ((c.tc : Thread Cert.Reference8Ideal.nD Cert.Reference8Ideal.τ).loc Cert.Reference8Ideal.main_arg15)
      ∧ r.2.mem ((c.tc : Thread Cert.Reference8Ideal.nD Cert.Reference8Ideal.τ).loc Cert.Reference8Ideal.main_arg16) = m ((c.tc : Thread Cert.Reference8Ideal.nD Cert.Reference8Ideal.τ).loc Cert.Reference8Ideal.main_arg16)
      ∧ r.2.mem ((c.tc : Thread Cert.Reference8Ideal.nD Cert.Reference8Ideal.τ).loc Cert.Reference8Ideal.main_arg17) = m ((c.tc : Thread Cert.Reference8Ideal.nD Cert.Reference8Ideal.τ).loc Cert.Reference8Ideal.main_arg17)
      ∧ r.2.mem ((c.tc : Thread Cert.Reference8Ideal.nD Cert.Reference8Ideal.τ).loc Cert.Reference8Ideal.main_arg18) = m ((c.tc : Thread Cert.Reference8Ideal.nD Cert.Reference8Ideal.τ).loc Cert.Reference8Ideal.main_arg18)
      ∧ r.2.mem ((c.tc : Thread Cert.Reference8Ideal.nD Cert.Reference8Ideal.τ).loc Cert.Reference8Ideal.main_arg19) = m ((c.tc : Thread Cert.Reference8Ideal.nD Cert.Reference8Ideal.τ).loc Cert.Reference8Ideal.main_arg19)
      ∧ r.2.mem ((c.tc : Thread Cert.Reference8Ideal.nD Cert.Reference8Ideal.τ).loc Cert.Reference8Ideal.main_arg20) = m ((c.tc : Thread Cert.Reference8Ideal.nD Cert.Reference8Ideal.τ).loc Cert.Reference8Ideal.main_arg20)
      ∧ r.2.mem ((c.tc : Thread Cert.Reference8Ideal.nD Cert.Reference8Ideal.τ).loc Cert.Reference8Ideal.main_arg21) = m ((c.tc : Thread Cert.Reference8Ideal.nD Cert.Reference8Ideal.τ).loc Cert.Reference8Ideal.main_arg21)
      ∧ r.2.mem ((c.tc : Thread Cert.Reference8Ideal.nD Cert.Reference8Ideal.τ).loc Cert.Reference8Ideal.main_arg22) = m ((c.tc : Thread Cert.Reference8Ideal.nD Cert.Reference8Ideal.τ).loc Cert.Reference8Ideal.main_arg22)
      ∧ r.2.mem ((c.tc : Thread Cert.Reference8Ideal.nD Cert.Reference8Ideal.τ).loc Cert.Reference8Ideal.main_arg23) = m ((c.tc : Thread Cert.Reference8Ideal.nD Cert.Reference8Ideal.τ).loc Cert.Reference8Ideal.main_arg23)
      ∧ r.2.mem ((c.tc : Thread Cert.Reference8Ideal.nD Cert.Reference8Ideal.τ).loc Cert.Reference8Ideal.main_arg24) = m ((c.tc : Thread Cert.Reference8Ideal.nD Cert.Reference8Ideal.τ).loc Cert.Reference8Ideal.main_arg24)
      ∧ r.2.mem ((c.tc : Thread Cert.Reference8Ideal.nD Cert.Reference8Ideal.τ).loc Cert.Reference8Ideal.main_arg25) = m ((c.tc : Thread Cert.Reference8Ideal.nD Cert.Reference8Ideal.τ).loc Cert.Reference8Ideal.main_arg25)
      ∧ r.2.mem ((c.tc : Thread Cert.Reference8Ideal.nD Cert.Reference8Ideal.τ).loc Cert.Reference8Ideal.main_arg26) = m ((c.tc : Thread Cert.Reference8Ideal.nD Cert.Reference8Ideal.τ).loc Cert.Reference8Ideal.main_arg26)
      ∧ r.2.mem ((c.tc : Thread Cert.Reference8Ideal.nD Cert.Reference8Ideal.τ).loc Cert.Reference8Ideal.main_arg27) = m ((c.tc : Thread Cert.Reference8Ideal.nD Cert.Reference8Ideal.τ).loc Cert.Reference8Ideal.main_arg27)
      ∧ r.2.mem ((c.tc : Thread Cert.Reference8Ideal.nD Cert.Reference8Ideal.τ).loc Cert.Reference8Ideal.main_arg28) = m ((c.tc : Thread Cert.Reference8Ideal.nD Cert.Reference8Ideal.τ).loc Cert.Reference8Ideal.main_arg28)
      ∧ r.2.mem ((c.tc : Thread Cert.Reference8Ideal.nD Cert.Reference8Ideal.τ).loc Cert.Reference8Ideal.main_arg29) = m ((c.tc : Thread Cert.Reference8Ideal.nD Cert.Reference8Ideal.τ).loc Cert.Reference8Ideal.main_arg29)
      ∧ r.2.mem ((c.tc : Thread Cert.Reference8Ideal.nD Cert.Reference8Ideal.τ).loc Cert.Reference8Ideal.main_arg30) = m ((c.tc : Thread Cert.Reference8Ideal.nD Cert.Reference8Ideal.τ).loc Cert.Reference8Ideal.main_arg30)
      ∧ r.2.mem ((c.tc : Thread Cert.Reference8Ideal.nD Cert.Reference8Ideal.τ).loc Cert.Reference8Ideal.main_arg31) = m ((c.tc : Thread Cert.Reference8Ideal.nD Cert.Reference8Ideal.τ).loc Cert.Reference8Ideal.main_arg31)
      ∧ r.2.mem ((c.tc : Thread Cert.Reference8Ideal.nD Cert.Reference8Ideal.τ).loc Cert.Reference8Ideal.main_arg32) = m ((c.tc : Thread Cert.Reference8Ideal.nD Cert.Reference8Ideal.τ).loc Cert.Reference8Ideal.main_arg32)
      ∧ r.2.mem ((c.tc : Thread Cert.Reference8Ideal.nD Cert.Reference8Ideal.τ).loc Cert.Reference8Ideal.main_arg33) = m ((c.tc : Thread Cert.Reference8Ideal.nD Cert.Reference8Ideal.τ).loc Cert.Reference8Ideal.main_arg33)
      ∧ r.2.mem ((c.tc : Thread Cert.Reference8Ideal.nD Cert.Reference8Ideal.τ).loc Cert.Reference8Ideal.main_arg34) = m ((c.tc : Thread Cert.Reference8Ideal.nD Cert.Reference8Ideal.τ).loc Cert.Reference8Ideal.main_arg34)
      ∧ r.2.mem ((c.tc : Thread Cert.Reference8Ideal.nD Cert.Reference8Ideal.τ).loc Cert.Reference8Ideal.main_arg35) = m ((c.tc : Thread Cert.Reference8Ideal.nD Cert.Reference8Ideal.τ).loc Cert.Reference8Ideal.main_arg35)
      ∧ r.2.mem ((c.tc : Thread Cert.Reference8Ideal.nD Cert.Reference8Ideal.τ).loc Cert.Reference8Ideal.main_arg36) = m ((c.tc : Thread Cert.Reference8Ideal.nD Cert.Reference8Ideal.τ).loc Cert.Reference8Ideal.main_arg36)
      ∧ r.2.mem ((c.tc : Thread Cert.Reference8Ideal.nD Cert.Reference8Ideal.τ).loc Cert.Reference8Ideal.main_arg37) = m ((c.tc : Thread Cert.Reference8Ideal.nD Cert.Reference8Ideal.τ).loc Cert.Reference8Ideal.main_arg37)
      ∧ r.2.mem ((c.tc : Thread Cert.Reference8Ideal.nD Cert.Reference8Ideal.τ).loc Cert.Reference8Ideal.main_arg38) = m ((c.tc : Thread Cert.Reference8Ideal.nD Cert.Reference8Ideal.τ).loc Cert.Reference8Ideal.main_arg38)
      ∧ r.2.mem ((c.tc : Thread Cert.Reference8Ideal.nD Cert.Reference8Ideal.τ).loc Cert.Reference8Ideal.main_arg39) = m ((c.tc : Thread Cert.Reference8Ideal.nD Cert.Reference8Ideal.τ).loc Cert.Reference8Ideal.main_arg39)
      ∧ r.2.mem ((c.tc : Thread Cert.Reference8Ideal.nD Cert.Reference8Ideal.τ).loc Cert.Reference8Ideal.main_arg40) = m ((c.tc : Thread Cert.Reference8Ideal.nD Cert.Reference8Ideal.τ).loc Cert.Reference8Ideal.main_arg40)
      ∧ r.2.mem ((c.tc : Thread Cert.Reference8Ideal.nD Cert.Reference8Ideal.τ).loc Cert.Reference8Ideal.main_arg41) = m ((c.tc : Thread Cert.Reference8Ideal.nD Cert.Reference8Ideal.τ).loc Cert.Reference8Ideal.main_arg41))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)) (v7 : (c : Dev Cert.KernelIdeal.nD) → Buf (Elt Ideal) ((c.tc : Thread Cert.KernelIdeal.nD Cert.KernelIdeal.τ).loc Cert.KernelIdeal.main_v7_7)) (v8 : (c : Dev Cert.KernelIdeal.nD) → Buf (Elt Ideal) ((c.tc : Thread Cert.KernelIdeal.nD Cert.KernelIdeal.τ).loc Cert.KernelIdeal.main_v7_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_v7_7) = v7 c
          ∧ r.2.mem ((c.tc : Thread Cert.KernelIdeal.nD Cert.KernelIdeal.τ).loc Cert.KernelIdeal.main_v7_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v104) = v4 c
          ∧ r.2.mem ((c.tc : Thread Cert.ReferenceIdeal.nD Cert.ReferenceIdeal.τ).loc Cert.ReferenceIdeal.main_v105) = v5 c
          ∧ r.2.mem ((c.tc : Thread Cert.ReferenceIdeal.nD Cert.ReferenceIdeal.τ).loc Cert.ReferenceIdeal.main_v106) = v6 c
          ∧ r.2.mem ((c.tc : Thread Cert.ReferenceIdeal.nD Cert.ReferenceIdeal.τ).loc Cert.ReferenceIdeal.main_v107) = v7 c
          ∧ r.2.mem ((c.tc : Thread Cert.ReferenceIdeal.nD Cert.ReferenceIdeal.τ).loc Cert.ReferenceIdeal.main_v108) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def algebraic_Kernel2Ideal_Reference3Ideal [hKernel2Ideal : Cert.Kernel2Ideal.Facts] [hReference3Ideal : Cert.Reference3Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel2Ideal m →
    (∀ c : Dev Cert.Kernel2Ideal.nD,
      m' ((c.tc : Thread Cert.Reference3Ideal.nD Cert.Reference3Ideal.τ).loc Cert.Reference3Ideal.main_arg0) = m ((c.tc : Thread Cert.Kernel2Ideal.nD Cert.Kernel2Ideal.τ).loc Cert.Kernel2Ideal.main_arg0)
      ∧ m' ((c.tc : Thread Cert.Reference3Ideal.nD Cert.Reference3Ideal.τ).loc Cert.Reference3Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)
      ∧ m' ((c.tc : Thread Cert.Reference4Ideal.nD Cert.Reference4Ideal.τ).loc Cert.Reference4Ideal.main_arg12) = m ((c.tc : Thread Cert.Kernel4Ideal.nD Cert.Kernel4Ideal.τ).loc Cert.Kernel4Ideal.main_arg12)
      ∧ m' ((c.tc : Thread Cert.Reference4Ideal.nD Cert.Reference4Ideal.τ).loc Cert.Reference4Ideal.main_arg13) = m ((c.tc : Thread Cert.Kernel4Ideal.nD Cert.Kernel4Ideal.τ).loc Cert.Kernel4Ideal.main_arg13)
      ∧ m' ((c.tc : Thread Cert.Reference4Ideal.nD Cert.Reference4Ideal.τ).loc Cert.Reference4Ideal.main_arg14) = m ((c.tc : Thread Cert.Kernel4Ideal.nD Cert.Kernel4Ideal.τ).loc Cert.Kernel4Ideal.main_arg14)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
          ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
          ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13)
          ∧ r.2.mem ((c.tc : Thread Cert.Kernel4Ideal.nD Cert.Kernel4Ideal.τ).loc Cert.Kernel4Ideal.main_arg14) = m ((c.tc : Thread Cert.Kernel4Ideal.nD Cert.Kernel4Ideal.τ).loc Cert.Kernel4Ideal.main_arg14))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v56) = v1 c
          ∧ r.2.mem ((c.tc : Thread Cert.Reference4Ideal.nD Cert.Reference4Ideal.τ).loc Cert.Reference4Ideal.main_v57) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11)
          ∧ r.2.mem ((c.tc : Thread Cert.Reference4Ideal.nD Cert.Reference4Ideal.τ).loc Cert.Reference4Ideal.main_arg12) = m' ((c.tc : Thread Cert.Reference4Ideal.nD Cert.Reference4Ideal.τ).loc Cert.Reference4Ideal.main_arg12)
          ∧ r.2.mem ((c.tc : Thread Cert.Reference4Ideal.nD Cert.Reference4Ideal.τ).loc Cert.Reference4Ideal.main_arg13) = m' ((c.tc : Thread Cert.Reference4Ideal.nD Cert.Reference4Ideal.τ).loc Cert.Reference4Ideal.main_arg13)
          ∧ r.2.mem ((c.tc : Thread Cert.Reference4Ideal.nD Cert.Reference4Ideal.τ).loc Cert.Reference4Ideal.main_arg14) = m' ((c.tc : Thread Cert.Reference4Ideal.nD Cert.Reference4Ideal.τ).loc Cert.Reference4Ideal.main_arg14))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_v26) = v1 c
          ∧ r.2.mem ((c.tc : Thread Cert.Reference5Ideal.nD Cert.Reference5Ideal.τ).loc Cert.Reference5Ideal.main_v7) = v2 c
          ∧ r.2.mem ((c.tc : Thread Cert.Reference5Ideal.nD Cert.Reference5Ideal.τ).loc Cert.Reference5Ideal.main_v13) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_v26) = v1 c
          ∧ r.2.mem ((c.tc : Thread Cert.Reference6Ideal.nD Cert.Reference6Ideal.τ).loc Cert.Reference6Ideal.main_v7) = v2 c
          ∧ r.2.mem ((c.tc : Thread Cert.Reference6Ideal.nD Cert.Reference6Ideal.τ).loc Cert.Reference6Ideal.main_v13) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v28) = v1 c
          ∧ r.2.mem ((c.tc : Thread Cert.Reference7Ideal.nD Cert.Reference7Ideal.τ).loc Cert.Reference7Ideal.main_v9) = v2 c
          ∧ r.2.mem ((c.tc : Thread Cert.Reference7Ideal.nD Cert.Reference7Ideal.τ).loc Cert.Reference7Ideal.main_v15) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)
      ∧ m' ((c.tc : Thread Cert.Reference8Ideal.nD Cert.Reference8Ideal.τ).loc Cert.Reference8Ideal.main_arg10) = m ((c.tc : Thread Cert.Kernel8Ideal.nD Cert.Kernel8Ideal.τ).loc Cert.Kernel8Ideal.main_arg10)
      ∧ m' ((c.tc : Thread Cert.Reference8Ideal.nD Cert.Reference8Ideal.τ).loc Cert.Reference8Ideal.main_arg11) = m ((c.tc : Thread Cert.Kernel8Ideal.nD Cert.Kernel8Ideal.τ).loc Cert.Kernel8Ideal.main_arg11)
      ∧ m' ((c.tc : Thread Cert.Reference8Ideal.nD Cert.Reference8Ideal.τ).loc Cert.Reference8Ideal.main_arg12) = m ((c.tc : Thread Cert.Kernel8Ideal.nD Cert.Kernel8Ideal.τ).loc Cert.Kernel8Ideal.main_arg12)
      ∧ m' ((c.tc : Thread Cert.Reference8Ideal.nD Cert.Reference8Ideal.τ).loc Cert.Reference8Ideal.main_arg13) = m ((c.tc : Thread Cert.Kernel8Ideal.nD Cert.Kernel8Ideal.τ).loc Cert.Kernel8Ideal.main_arg13)
      ∧ m' ((c.tc : Thread Cert.Reference8Ideal.nD Cert.Reference8Ideal.τ).loc Cert.Reference8Ideal.main_arg14) = m ((c.tc : Thread Cert.Kernel8Ideal.nD Cert.Kernel8Ideal.τ).loc Cert.Kernel8Ideal.main_arg14)
      ∧ m' ((c.tc : Thread Cert.Reference8Ideal.nD Cert.Reference8Ideal.τ).loc Cert.Reference8Ideal.main_arg15) = m ((c.tc : Thread Cert.Kernel8Ideal.nD Cert.Kernel8Ideal.τ).loc Cert.Kernel8Ideal.main_arg15)
      ∧ m' ((c.tc : Thread Cert.Reference8Ideal.nD Cert.Reference8Ideal.τ).loc Cert.Reference8Ideal.main_arg16) = m ((c.tc : Thread Cert.Kernel8Ideal.nD Cert.Kernel8Ideal.τ).loc Cert.Kernel8Ideal.main_arg16)
      ∧ m' ((c.tc : Thread Cert.Reference8Ideal.nD Cert.Reference8Ideal.τ).loc Cert.Reference8Ideal.main_arg17) = m ((c.tc : Thread Cert.Kernel8Ideal.nD Cert.Kernel8Ideal.τ).loc Cert.Kernel8Ideal.main_arg17)
      ∧ m' ((c.tc : Thread Cert.Reference8Ideal.nD Cert.Reference8Ideal.τ).loc Cert.Reference8Ideal.main_arg18) = m ((c.tc : Thread Cert.Kernel8Ideal.nD Cert.Kernel8Ideal.τ).loc Cert.Kernel8Ideal.main_arg18)
      ∧ m' ((c.tc : Thread Cert.Reference8Ideal.nD Cert.Reference8Ideal.τ).loc Cert.Reference8Ideal.main_arg19) = m ((c.tc : Thread Cert.Kernel8Ideal.nD Cert.Kernel8Ideal.τ).loc Cert.Kernel8Ideal.main_arg19)
      ∧ m' ((c.tc : Thread Cert.Reference8Ideal.nD Cert.Reference8Ideal.τ).loc Cert.Reference8Ideal.main_arg20) = m ((c.tc : Thread Cert.Kernel8Ideal.nD Cert.Kernel8Ideal.τ).loc Cert.Kernel8Ideal.main_arg20)
      ∧ m' ((c.tc : Thread Cert.Reference8Ideal.nD Cert.Reference8Ideal.τ).loc Cert.Reference8Ideal.main_arg21) = m ((c.tc : Thread Cert.Kernel8Ideal.nD Cert.Kernel8Ideal.τ).loc Cert.Kernel8Ideal.main_arg21)
      ∧ m' ((c.tc : Thread Cert.Reference8Ideal.nD Cert.Reference8Ideal.τ).loc Cert.Reference8Ideal.main_arg22) = m ((c.tc : Thread Cert.Kernel8Ideal.nD Cert.Kernel8Ideal.τ).loc Cert.Kernel8Ideal.main_arg22)
      ∧ m' ((c.tc : Thread Cert.Reference8Ideal.nD Cert.Reference8Ideal.τ).loc Cert.Reference8Ideal.main_arg23) = m ((c.tc : Thread Cert.Kernel8Ideal.nD Cert.Kernel8Ideal.τ).loc Cert.Kernel8Ideal.main_arg23)
      ∧ m' ((c.tc : Thread Cert.Reference8Ideal.nD Cert.Reference8Ideal.τ).loc Cert.Reference8Ideal.main_arg24) = m ((c.tc : Thread Cert.Kernel8Ideal.nD Cert.Kernel8Ideal.τ).loc Cert.Kernel8Ideal.main_arg24)
      ∧ m' ((c.tc : Thread Cert.Reference8Ideal.nD Cert.Reference8Ideal.τ).loc Cert.Reference8Ideal.main_arg25) = m ((c.tc : Thread Cert.Kernel8Ideal.nD Cert.Kernel8Ideal.τ).loc Cert.Kernel8Ideal.main_arg25)
      ∧ m' ((c.tc : Thread Cert.Reference8Ideal.nD Cert.Reference8Ideal.τ).loc Cert.Reference8Ideal.main_arg26) = m ((c.tc : Thread Cert.Kernel8Ideal.nD Cert.Kernel8Ideal.τ).loc Cert.Kernel8Ideal.main_arg26)
      ∧ m' ((c.tc : Thread Cert.Reference8Ideal.nD Cert.Reference8Ideal.τ).loc Cert.Reference8Ideal.main_arg27) = m ((c.tc : Thread Cert.Kernel8Ideal.nD Cert.Kernel8Ideal.τ).loc Cert.Kernel8Ideal.main_arg27)
      ∧ m' ((c.tc : Thread Cert.Reference8Ideal.nD Cert.Reference8Ideal.τ).loc Cert.Reference8Ideal.main_arg28) = m ((c.tc : Thread Cert.Kernel8Ideal.nD Cert.Kernel8Ideal.τ).loc Cert.Kernel8Ideal.main_arg28)
      ∧ m' ((c.tc : Thread Cert.Reference8Ideal.nD Cert.Reference8Ideal.τ).loc Cert.Reference8Ideal.main_arg29) = m ((c.tc : Thread Cert.Kernel8Ideal.nD Cert.Kernel8Ideal.τ).loc Cert.Kernel8Ideal.main_arg29)
      ∧ m' ((c.tc : Thread Cert.Reference8Ideal.nD Cert.Reference8Ideal.τ).loc Cert.Reference8Ideal.main_arg30) = m ((c.tc : Thread Cert.Kernel8Ideal.nD Cert.Kernel8Ideal.τ).loc Cert.Kernel8Ideal.main_arg30)
      ∧ m' ((c.tc : Thread Cert.Reference8Ideal.nD Cert.Reference8Ideal.τ).loc Cert.Reference8Ideal.main_arg31) = m ((c.tc : Thread Cert.Kernel8Ideal.nD Cert.Kernel8Ideal.τ).loc Cert.Kernel8Ideal.main_arg31)
      ∧ m' ((c.tc : Thread Cert.Reference8Ideal.nD Cert.Reference8Ideal.τ).loc Cert.Reference8Ideal.main_arg32) = m ((c.tc : Thread Cert.Kernel8Ideal.nD Cert.Kernel8Ideal.τ).loc Cert.Kernel8Ideal.main_arg32)
      ∧ m' ((c.tc : Thread Cert.Reference8Ideal.nD Cert.Reference8Ideal.τ).loc Cert.Reference8Ideal.main_arg33) = m ((c.tc : Thread Cert.Kernel8Ideal.nD Cert.Kernel8Ideal.τ).loc Cert.Kernel8Ideal.main_arg33)
      ∧ m' ((c.tc : Thread Cert.Reference8Ideal.nD Cert.Reference8Ideal.τ).loc Cert.Reference8Ideal.main_arg34) = m ((c.tc : Thread Cert.Kernel8Ideal.nD Cert.Kernel8Ideal.τ).loc Cert.Kernel8Ideal.main_arg34)
      ∧ m' ((c.tc : Thread Cert.Reference8Ideal.nD Cert.Reference8Ideal.τ).loc Cert.Reference8Ideal.main_arg35) = m ((c.tc : Thread Cert.Kernel8Ideal.nD Cert.Kernel8Ideal.τ).loc Cert.Kernel8Ideal.main_arg35)
      ∧ m' ((c.tc : Thread Cert.Reference8Ideal.nD Cert.Reference8Ideal.τ).loc Cert.Reference8Ideal.main_arg36) = m ((c.tc : Thread Cert.Kernel8Ideal.nD Cert.Kernel8Ideal.τ).loc Cert.Kernel8Ideal.main_arg36)
      ∧ m' ((c.tc : Thread Cert.Reference8Ideal.nD Cert.Reference8Ideal.τ).loc Cert.Reference8Ideal.main_arg37) = m ((c.tc : Thread Cert.Kernel8Ideal.nD Cert.Kernel8Ideal.τ).loc Cert.Kernel8Ideal.main_arg37)
      ∧ m' ((c.tc : Thread Cert.Reference8Ideal.nD Cert.Reference8Ideal.τ).loc Cert.Reference8Ideal.main_arg38) = m ((c.tc : Thread Cert.Kernel8Ideal.nD Cert.Kernel8Ideal.τ).loc Cert.Kernel8Ideal.main_arg38)
      ∧ m' ((c.tc : Thread Cert.Reference8Ideal.nD Cert.Reference8Ideal.τ).loc Cert.Reference8Ideal.main_arg39) = m ((c.tc : Thread Cert.Kernel8Ideal.nD Cert.Kernel8Ideal.τ).loc Cert.Kernel8Ideal.main_arg39)
      ∧ m' ((c.tc : Thread Cert.Reference8Ideal.nD Cert.Reference8Ideal.τ).loc Cert.Reference8Ideal.main_arg40) = m ((c.tc : Thread Cert.Kernel8Ideal.nD Cert.Kernel8Ideal.τ).loc Cert.Kernel8Ideal.main_arg40)
      ∧ m' ((c.tc : Thread Cert.Reference8Ideal.nD Cert.Reference8Ideal.τ).loc Cert.Reference8Ideal.main_arg41) = m ((c.tc : Thread Cert.Kernel8Ideal.nD Cert.Kernel8Ideal.τ).loc Cert.Kernel8Ideal.main_arg41)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)) (v10 : (c : Dev Cert.Kernel8Ideal.nD) → Buf (Elt Ideal) ((c.tc : Thread Cert.Kernel8Ideal.nD Cert.Kernel8Ideal.τ).loc Cert.Kernel8Ideal.main_v0_10)) (v11 : (c : Dev Cert.Kernel8Ideal.nD) → Buf (Elt Ideal) ((c.tc : Thread Cert.Kernel8Ideal.nD Cert.Kernel8Ideal.τ).loc Cert.Kernel8Ideal.main_v0_11)) (v12 : (c : Dev Cert.Kernel8Ideal.nD) → Buf (Elt Ideal) ((c.tc : Thread Cert.Kernel8Ideal.nD Cert.Kernel8Ideal.τ).loc Cert.Kernel8Ideal.main_v0_12)) (v13 : (c : Dev Cert.Kernel8Ideal.nD) → Buf (Elt Ideal) ((c.tc : Thread Cert.Kernel8Ideal.nD Cert.Kernel8Ideal.τ).loc Cert.Kernel8Ideal.main_v0_13)) (v14 : (c : Dev Cert.Kernel8Ideal.nD) → Buf (Elt Ideal) ((c.tc : Thread Cert.Kernel8Ideal.nD Cert.Kernel8Ideal.τ).loc Cert.Kernel8Ideal.main_v0_14)) (v15 : (c : Dev Cert.Kernel8Ideal.nD) → Buf (Elt Ideal) ((c.tc : Thread Cert.Kernel8Ideal.nD Cert.Kernel8Ideal.τ).loc Cert.Kernel8Ideal.main_v0_15)) (v16 : (c : Dev Cert.Kernel8Ideal.nD) → Buf (Elt Ideal) ((c.tc : Thread Cert.Kernel8Ideal.nD Cert.Kernel8Ideal.τ).loc Cert.Kernel8Ideal.main_v0_16)) (v17 : (c : Dev Cert.Kernel8Ideal.nD) → Buf (Elt Ideal) ((c.tc : Thread Cert.Kernel8Ideal.nD Cert.Kernel8Ideal.τ).loc Cert.Kernel8Ideal.main_v0_17)) (v18 : (c : Dev Cert.Kernel8Ideal.nD) → Buf (Elt Ideal) ((c.tc : Thread Cert.Kernel8Ideal.nD Cert.Kernel8Ideal.τ).loc Cert.Kernel8Ideal.main_v0_18)) (v19 : (c : Dev Cert.Kernel8Ideal.nD) → Buf (Elt Ideal) ((c.tc : Thread Cert.Kernel8Ideal.nD Cert.Kernel8Ideal.τ).loc Cert.Kernel8Ideal.main_v0_19)) (v20 : (c : Dev Cert.Kernel8Ideal.nD) → Buf (Elt Ideal) ((c.tc : Thread Cert.Kernel8Ideal.nD Cert.Kernel8Ideal.τ).loc Cert.Kernel8Ideal.main_v0_20)) (v21 : (c : Dev Cert.Kernel8Ideal.nD) → Buf (Elt Ideal) ((c.tc : Thread Cert.Kernel8Ideal.nD Cert.Kernel8Ideal.τ).loc Cert.Kernel8Ideal.main_v0_21)) (v22 : (c : Dev Cert.Kernel8Ideal.nD) → Buf (Elt Ideal) ((c.tc : Thread Cert.Kernel8Ideal.nD Cert.Kernel8Ideal.τ).loc Cert.Kernel8Ideal.main_v0_22)) (v23 : (c : Dev Cert.Kernel8Ideal.nD) → Buf (Elt Ideal) ((c.tc : Thread Cert.Kernel8Ideal.nD Cert.Kernel8Ideal.τ).loc Cert.Kernel8Ideal.main_v0_23)) (v24 : (c : Dev Cert.Kernel8Ideal.nD) → Buf (Elt Ideal) ((c.tc : Thread Cert.Kernel8Ideal.nD Cert.Kernel8Ideal.τ).loc Cert.Kernel8Ideal.main_v0_24)) (v25 : (c : Dev Cert.Kernel8Ideal.nD) → Buf (Elt Ideal) ((c.tc : Thread Cert.Kernel8Ideal.nD Cert.Kernel8Ideal.τ).loc Cert.Kernel8Ideal.main_v0_25)) (v26 : (c : Dev Cert.Kernel8Ideal.nD) → Buf (Elt Ideal) ((c.tc : Thread Cert.Kernel8Ideal.nD Cert.Kernel8Ideal.τ).loc Cert.Kernel8Ideal.main_v0_26)) (v27 : (c : Dev Cert.Kernel8Ideal.nD) → Buf (Elt Ideal) ((c.tc : Thread Cert.Kernel8Ideal.nD Cert.Kernel8Ideal.τ).loc Cert.Kernel8Ideal.main_v0_27)) (v28 : (c : Dev Cert.Kernel8Ideal.nD) → Buf (Elt Ideal) ((c.tc : Thread Cert.Kernel8Ideal.nD Cert.Kernel8Ideal.τ).loc Cert.Kernel8Ideal.main_v0_28)) (v29 : (c : Dev Cert.Kernel8Ideal.nD) → Buf (Elt Ideal) ((c.tc : Thread Cert.Kernel8Ideal.nD Cert.Kernel8Ideal.τ).loc Cert.Kernel8Ideal.main_v0_29)) (v30 : (c : Dev Cert.Kernel8Ideal.nD) → Buf (Elt Ideal) ((c.tc : Thread Cert.Kernel8Ideal.nD Cert.Kernel8Ideal.τ).loc Cert.Kernel8Ideal.main_v0_30)) (v31 : (c : Dev Cert.Kernel8Ideal.nD) → Buf (Elt Ideal) ((c.tc : Thread Cert.Kernel8Ideal.nD Cert.Kernel8Ideal.τ).loc Cert.Kernel8Ideal.main_v0_31)) (v32 : (c : Dev Cert.Kernel8Ideal.nD) → Buf (Elt Ideal) ((c.tc : Thread Cert.Kernel8Ideal.nD Cert.Kernel8Ideal.τ).loc Cert.Kernel8Ideal.main_v0_32)) (v33 : (c : Dev Cert.Kernel8Ideal.nD) → Buf (Elt Ideal) ((c.tc : Thread Cert.Kernel8Ideal.nD Cert.Kernel8Ideal.τ).loc Cert.Kernel8Ideal.main_v0_33)) (v34 : (c : Dev Cert.Kernel8Ideal.nD) → Buf (Elt Ideal) ((c.tc : Thread Cert.Kernel8Ideal.nD Cert.Kernel8Ideal.τ).loc Cert.Kernel8Ideal.main_v0_34)) (v35 : (c : Dev Cert.Kernel8Ideal.nD) → Buf (Elt Ideal) ((c.tc : Thread Cert.Kernel8Ideal.nD Cert.Kernel8Ideal.τ).loc Cert.Kernel8Ideal.main_v0_35)) (v36 : (c : Dev Cert.Kernel8Ideal.nD) → Buf (Elt Ideal) ((c.tc : Thread Cert.Kernel8Ideal.nD Cert.Kernel8Ideal.τ).loc Cert.Kernel8Ideal.main_v0_36)) (v37 : (c : Dev Cert.Kernel8Ideal.nD) → Buf (Elt Ideal) ((c.tc : Thread Cert.Kernel8Ideal.nD Cert.Kernel8Ideal.τ).loc Cert.Kernel8Ideal.main_v0_37)) (v38 : (c : Dev Cert.Kernel8Ideal.nD) → Buf (Elt Ideal) ((c.tc : Thread Cert.Kernel8Ideal.nD Cert.Kernel8Ideal.τ).loc Cert.Kernel8Ideal.main_v0_38)) (v39 : (c : Dev Cert.Kernel8Ideal.nD) → Buf (Elt Ideal) ((c.tc : Thread Cert.Kernel8Ideal.nD Cert.Kernel8Ideal.τ).loc Cert.Kernel8Ideal.main_v0_39)) (v40 : (c : Dev Cert.Kernel8Ideal.nD) → Buf (Elt Ideal) ((c.tc : Thread Cert.Kernel8Ideal.nD Cert.Kernel8Ideal.τ).loc Cert.Kernel8Ideal.main_v0_40)) (v41 : (c : Dev Cert.Kernel8Ideal.nD) → Buf (Elt Ideal) ((c.tc : Thread Cert.Kernel8Ideal.nD Cert.Kernel8Ideal.τ).loc Cert.Kernel8Ideal.main_v0_41)) (v42 : (c : Dev Cert.Kernel8Ideal.nD) → Buf (Elt Ideal) ((c.tc : Thread Cert.Kernel8Ideal.nD Cert.Kernel8Ideal.τ).loc Cert.Kernel8Ideal.main_v0_42)) (v43 : (c : Dev Cert.Kernel8Ideal.nD) → Buf (Elt Ideal) ((c.tc : Thread Cert.Kernel8Ideal.nD Cert.Kernel8Ideal.τ).loc Cert.Kernel8Ideal.main_v0_43)) (v44 : (c : Dev Cert.Kernel8Ideal.nD) → Buf (Elt Ideal) ((c.tc : Thread Cert.Kernel8Ideal.nD Cert.Kernel8Ideal.τ).loc Cert.Kernel8Ideal.main_v0_44)) (v45 : (c : Dev Cert.Kernel8Ideal.nD) → Buf (Elt Ideal) ((c.tc : Thread Cert.Kernel8Ideal.nD Cert.Kernel8Ideal.τ).loc Cert.Kernel8Ideal.main_v0_45)) (v46 : (c : Dev Cert.Kernel8Ideal.nD) → Buf (Elt Ideal) ((c.tc : Thread Cert.Kernel8Ideal.nD Cert.Kernel8Ideal.τ).loc Cert.Kernel8Ideal.main_v0_46)) (v47 : (c : Dev Cert.Kernel8Ideal.nD) → Buf (Elt Ideal) ((c.tc : Thread Cert.Kernel8Ideal.nD Cert.Kernel8Ideal.τ).loc Cert.Kernel8Ideal.main_v0_47)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_v0_10) = v10 c
          ∧ r.2.mem ((c.tc : Thread Cert.Kernel8Ideal.nD Cert.Kernel8Ideal.τ).loc Cert.Kernel8Ideal.main_v0_11) = v11 c
          ∧ r.2.mem ((c.tc : Thread Cert.Kernel8Ideal.nD Cert.Kernel8Ideal.τ).loc Cert.Kernel8Ideal.main_v0_12) = v12 c
          ∧ r.2.mem ((c.tc : Thread Cert.Kernel8Ideal.nD Cert.Kernel8Ideal.τ).loc Cert.Kernel8Ideal.main_v0_13) = v13 c
          ∧ r.2.mem ((c.tc : Thread Cert.Kernel8Ideal.nD Cert.Kernel8Ideal.τ).loc Cert.Kernel8Ideal.main_v0_14) = v14 c
          ∧ r.2.mem ((c.tc : Thread Cert.Kernel8Ideal.nD Cert.Kernel8Ideal.τ).loc Cert.Kernel8Ideal.main_v0_15) = v15 c
          ∧ r.2.mem ((c.tc : Thread Cert.Kernel8Ideal.nD Cert.Kernel8Ideal.τ).loc Cert.Kernel8Ideal.main_v0_16) = v16 c
          ∧ r.2.mem ((c.tc : Thread Cert.Kernel8Ideal.nD Cert.Kernel8Ideal.τ).loc Cert.Kernel8Ideal.main_v0_17) = v17 c
          ∧ r.2.mem ((c.tc : Thread Cert.Kernel8Ideal.nD Cert.Kernel8Ideal.τ).loc Cert.Kernel8Ideal.main_v0_18) = v18 c
          ∧ r.2.mem ((c.tc : Thread Cert.Kernel8Ideal.nD Cert.Kernel8Ideal.τ).loc Cert.Kernel8Ideal.main_v0_19) = v19 c
          ∧ r.2.mem ((c.tc : Thread Cert.Kernel8Ideal.nD Cert.Kernel8Ideal.τ).loc Cert.Kernel8Ideal.main_v0_20) = v20 c
          ∧ r.2.mem ((c.tc : Thread Cert.Kernel8Ideal.nD Cert.Kernel8Ideal.τ).loc Cert.Kernel8Ideal.main_v0_21) = v21 c
          ∧ r.2.mem ((c.tc : Thread Cert.Kernel8Ideal.nD Cert.Kernel8Ideal.τ).loc Cert.Kernel8Ideal.main_v0_22) = v22 c
          ∧ r.2.mem ((c.tc : Thread Cert.Kernel8Ideal.nD Cert.Kernel8Ideal.τ).loc Cert.Kernel8Ideal.main_v0_23) = v23 c
          ∧ r.2.mem ((c.tc : Thread Cert.Kernel8Ideal.nD Cert.Kernel8Ideal.τ).loc Cert.Kernel8Ideal.main_v0_24) = v24 c
          ∧ r.2.mem ((c.tc : Thread Cert.Kernel8Ideal.nD Cert.Kernel8Ideal.τ).loc Cert.Kernel8Ideal.main_v0_25) = v25 c
          ∧ r.2.mem ((c.tc : Thread Cert.Kernel8Ideal.nD Cert.Kernel8Ideal.τ).loc Cert.Kernel8Ideal.main_v0_26) = v26 c
          ∧ r.2.mem ((c.tc : Thread Cert.Kernel8Ideal.nD Cert.Kernel8Ideal.τ).loc Cert.Kernel8Ideal.main_v0_27) = v27 c
          ∧ r.2.mem ((c.tc : Thread Cert.Kernel8Ideal.nD Cert.Kernel8Ideal.τ).loc Cert.Kernel8Ideal.main_v0_28) = v28 c
          ∧ r.2.mem ((c.tc : Thread Cert.Kernel8Ideal.nD Cert.Kernel8Ideal.τ).loc Cert.Kernel8Ideal.main_v0_29) = v29 c
          ∧ r.2.mem ((c.tc : Thread Cert.Kernel8Ideal.nD Cert.Kernel8Ideal.τ).loc Cert.Kernel8Ideal.main_v0_30) = v30 c
          ∧ r.2.mem ((c.tc : Thread Cert.Kernel8Ideal.nD Cert.Kernel8Ideal.τ).loc Cert.Kernel8Ideal.main_v0_31) = v31 c
          ∧ r.2.mem ((c.tc : Thread Cert.Kernel8Ideal.nD Cert.Kernel8Ideal.τ).loc Cert.Kernel8Ideal.main_v0_32) = v32 c
          ∧ r.2.mem ((c.tc : Thread Cert.Kernel8Ideal.nD Cert.Kernel8Ideal.τ).loc Cert.Kernel8Ideal.main_v0_33) = v33 c
          ∧ r.2.mem ((c.tc : Thread Cert.Kernel8Ideal.nD Cert.Kernel8Ideal.τ).loc Cert.Kernel8Ideal.main_v0_34) = v34 c
          ∧ r.2.mem ((c.tc : Thread Cert.Kernel8Ideal.nD Cert.Kernel8Ideal.τ).loc Cert.Kernel8Ideal.main_v0_35) = v35 c
          ∧ r.2.mem ((c.tc : Thread Cert.Kernel8Ideal.nD Cert.Kernel8Ideal.τ).loc Cert.Kernel8Ideal.main_v0_36) = v36 c
          ∧ r.2.mem ((c.tc : Thread Cert.Kernel8Ideal.nD Cert.Kernel8Ideal.τ).loc Cert.Kernel8Ideal.main_v0_37) = v37 c
          ∧ r.2.mem ((c.tc : Thread Cert.Kernel8Ideal.nD Cert.Kernel8Ideal.τ).loc Cert.Kernel8Ideal.main_v0_38) = v38 c
          ∧ r.2.mem ((c.tc : Thread Cert.Kernel8Ideal.nD Cert.Kernel8Ideal.τ).loc Cert.Kernel8Ideal.main_v0_39) = v39 c
          ∧ r.2.mem ((c.tc : Thread Cert.Kernel8Ideal.nD Cert.Kernel8Ideal.τ).loc Cert.Kernel8Ideal.main_v0_40) = v40 c
          ∧ r.2.mem ((c.tc : Thread Cert.Kernel8Ideal.nD Cert.Kernel8Ideal.τ).loc Cert.Kernel8Ideal.main_v0_41) = v41 c
          ∧ r.2.mem ((c.tc : Thread Cert.Kernel8Ideal.nD Cert.Kernel8Ideal.τ).loc Cert.Kernel8Ideal.main_v0_42) = v42 c
          ∧ r.2.mem ((c.tc : Thread Cert.Kernel8Ideal.nD Cert.Kernel8Ideal.τ).loc Cert.Kernel8Ideal.main_v0_43) = v43 c
          ∧ r.2.mem ((c.tc : Thread Cert.Kernel8Ideal.nD Cert.Kernel8Ideal.τ).loc Cert.Kernel8Ideal.main_v0_44) = v44 c
          ∧ r.2.mem ((c.tc : Thread Cert.Kernel8Ideal.nD Cert.Kernel8Ideal.τ).loc Cert.Kernel8Ideal.main_v0_45) = v45 c
          ∧ r.2.mem ((c.tc : Thread Cert.Kernel8Ideal.nD Cert.Kernel8Ideal.τ).loc Cert.Kernel8Ideal.main_v0_46) = v46 c
          ∧ r.2.mem ((c.tc : Thread Cert.Kernel8Ideal.nD Cert.Kernel8Ideal.τ).loc Cert.Kernel8Ideal.main_v0_47) = v47 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9)
          ∧ r.2.mem ((c.tc : Thread Cert.Kernel8Ideal.nD Cert.Kernel8Ideal.τ).loc Cert.Kernel8Ideal.main_arg10) = m ((c.tc : Thread Cert.Kernel8Ideal.nD Cert.Kernel8Ideal.τ).loc Cert.Kernel8Ideal.main_arg10)
          ∧ r.2.mem ((c.tc : Thread Cert.Kernel8Ideal.nD Cert.Kernel8Ideal.τ).loc Cert.Kernel8Ideal.main_arg11) = m ((c.tc : Thread Cert.Kernel8Ideal.nD Cert.Kernel8Ideal.τ).loc Cert.Kernel8Ideal.main_arg11)
          ∧ r.2.mem ((c.tc : Thread Cert.Kernel8Ideal.nD Cert.Kernel8Ideal.τ).loc Cert.Kernel8Ideal.main_arg12) = m ((c.tc : Thread Cert.Kernel8Ideal.nD Cert.Kernel8Ideal.τ).loc Cert.Kernel8Ideal.main_arg12)
          ∧ r.2.mem ((c.tc : Thread Cert.Kernel8Ideal.nD Cert.Kernel8Ideal.τ).loc Cert.Kernel8Ideal.main_arg13) = m ((c.tc : Thread Cert.Kernel8Ideal.nD Cert.Kernel8Ideal.τ).loc Cert.Kernel8Ideal.main_arg13)
          ∧ r.2.mem ((c.tc : Thread Cert.Kernel8Ideal.nD Cert.Kernel8Ideal.τ).loc Cert.Kernel8Ideal.main_arg14) = m ((c.tc : Thread Cert.Kernel8Ideal.nD Cert.Kernel8Ideal.τ).loc Cert.Kernel8Ideal.main_arg14)
          ∧ r.2.mem ((c.tc : Thread Cert.Kernel8Ideal.nD Cert.Kernel8Ideal.τ).loc Cert.Kernel8Ideal.main_arg15) = m ((c.tc : Thread Cert.Kernel8Ideal.nD Cert.Kernel8Ideal.τ).loc Cert.Kernel8Ideal.main_arg15)
          ∧ r.2.mem ((c.tc : Thread Cert.Kernel8Ideal.nD Cert.Kernel8Ideal.τ).loc Cert.Kernel8Ideal.main_arg16) = m ((c.tc : Thread Cert.Kernel8Ideal.nD Cert.Kernel8Ideal.τ).loc Cert.Kernel8Ideal.main_arg16)
          ∧ r.2.mem ((c.tc : Thread Cert.Kernel8Ideal.nD Cert.Kernel8Ideal.τ).loc Cert.Kernel8Ideal.main_arg17) = m ((c.tc : Thread Cert.Kernel8Ideal.nD Cert.Kernel8Ideal.τ).loc Cert.Kernel8Ideal.main_arg17)
          ∧ r.2.mem ((c.tc : Thread Cert.Kernel8Ideal.nD Cert.Kernel8Ideal.τ).loc Cert.Kernel8Ideal.main_arg18) = m ((c.tc : Thread Cert.Kernel8Ideal.nD Cert.Kernel8Ideal.τ).loc Cert.Kernel8Ideal.main_arg18)
          ∧ r.2.mem ((c.tc : Thread Cert.Kernel8Ideal.nD Cert.Kernel8Ideal.τ).loc Cert.Kernel8Ideal.main_arg19) = m ((c.tc : Thread Cert.Kernel8Ideal.nD Cert.Kernel8Ideal.τ).loc Cert.Kernel8Ideal.main_arg19)
          ∧ r.2.mem ((c.tc : Thread Cert.Kernel8Ideal.nD Cert.Kernel8Ideal.τ).loc Cert.Kernel8Ideal.main_arg20) = m ((c.tc : Thread Cert.Kernel8Ideal.nD Cert.Kernel8Ideal.τ).loc Cert.Kernel8Ideal.main_arg20)
          ∧ r.2.mem ((c.tc : Thread Cert.Kernel8Ideal.nD Cert.Kernel8Ideal.τ).loc Cert.Kernel8Ideal.main_arg21) = m ((c.tc : Thread Cert.Kernel8Ideal.nD Cert.Kernel8Ideal.τ).loc Cert.Kernel8Ideal.main_arg21)
          ∧ r.2.mem ((c.tc : Thread Cert.Kernel8Ideal.nD Cert.Kernel8Ideal.τ).loc Cert.Kernel8Ideal.main_arg22) = m ((c.tc : Thread Cert.Kernel8Ideal.nD Cert.Kernel8Ideal.τ).loc Cert.Kernel8Ideal.main_arg22)
          ∧ r.2.mem ((c.tc : Thread Cert.Kernel8Ideal.nD Cert.Kernel8Ideal.τ).loc Cert.Kernel8Ideal.main_arg23) = m ((c.tc : Thread Cert.Kernel8Ideal.nD Cert.Kernel8Ideal.τ).loc Cert.Kernel8Ideal.main_arg23)
          ∧ r.2.mem ((c.tc : Thread Cert.Kernel8Ideal.nD Cert.Kernel8Ideal.τ).loc Cert.Kernel8Ideal.main_arg24) = m ((c.tc : Thread Cert.Kernel8Ideal.nD Cert.Kernel8Ideal.τ).loc Cert.Kernel8Ideal.main_arg24)
          ∧ r.2.mem ((c.tc : Thread Cert.Kernel8Ideal.nD Cert.Kernel8Ideal.τ).loc Cert.Kernel8Ideal.main_arg25) = m ((c.tc : Thread Cert.Kernel8Ideal.nD Cert.Kernel8Ideal.τ).loc Cert.Kernel8Ideal.main_arg25)
          ∧ r.2.mem ((c.tc : Thread Cert.Kernel8Ideal.nD Cert.Kernel8Ideal.τ).loc Cert.Kernel8Ideal.main_arg26) = m ((c.tc : Thread Cert.Kernel8Ideal.nD Cert.Kernel8Ideal.τ).loc Cert.Kernel8Ideal.main_arg26)
          ∧ r.2.mem ((c.tc : Thread Cert.Kernel8Ideal.nD Cert.Kernel8Ideal.τ).loc Cert.Kernel8Ideal.main_arg27) = m ((c.tc : Thread Cert.Kernel8Ideal.nD Cert.Kernel8Ideal.τ).loc Cert.Kernel8Ideal.main_arg27)
          ∧ r.2.mem ((c.tc : Thread Cert.Kernel8Ideal.nD Cert.Kernel8Ideal.τ).loc Cert.Kernel8Ideal.main_arg28) = m ((c.tc : Thread Cert.Kernel8Ideal.nD Cert.Kernel8Ideal.τ).loc Cert.Kernel8Ideal.main_arg28)
          ∧ r.2.mem ((c.tc : Thread Cert.Kernel8Ideal.nD Cert.Kernel8Ideal.τ).loc Cert.Kernel8Ideal.main_arg29) = m ((c.tc : Thread Cert.Kernel8Ideal.nD Cert.Kernel8Ideal.τ).loc Cert.Kernel8Ideal.main_arg29)
          ∧ r.2.mem ((c.tc : Thread Cert.Kernel8Ideal.nD Cert.Kernel8Ideal.τ).loc Cert.Kernel8Ideal.main_arg30) = m ((c.tc : Thread Cert.Kernel8Ideal.nD Cert.Kernel8Ideal.τ).loc Cert.Kernel8Ideal.main_arg30)
          ∧ r.2.mem ((c.tc : Thread Cert.Kernel8Ideal.nD Cert.Kernel8Ideal.τ).loc Cert.Kernel8Ideal.main_arg31) = m ((c.tc : Thread Cert.Kernel8Ideal.nD Cert.Kernel8Ideal.τ).loc Cert.Kernel8Ideal.main_arg31)
          ∧ r.2.mem ((c.tc : Thread Cert.Kernel8Ideal.nD Cert.Kernel8Ideal.τ).loc Cert.Kernel8Ideal.main_arg32) = m ((c.tc : Thread Cert.Kernel8Ideal.nD Cert.Kernel8Ideal.τ).loc Cert.Kernel8Ideal.main_arg32)
          ∧ r.2.mem ((c.tc : Thread Cert.Kernel8Ideal.nD Cert.Kernel8Ideal.τ).loc Cert.Kernel8Ideal.main_arg33) = m ((c.tc : Thread Cert.Kernel8Ideal.nD Cert.Kernel8Ideal.τ).loc Cert.Kernel8Ideal.main_arg33)
          ∧ r.2.mem ((c.tc : Thread Cert.Kernel8Ideal.nD Cert.Kernel8Ideal.τ).loc Cert.Kernel8Ideal.main_arg34) = m ((c.tc : Thread Cert.Kernel8Ideal.nD Cert.Kernel8Ideal.τ).loc Cert.Kernel8Ideal.main_arg34)
          ∧ r.2.mem ((c.tc : Thread Cert.Kernel8Ideal.nD Cert.Kernel8Ideal.τ).loc Cert.Kernel8Ideal.main_arg35) = m ((c.tc : Thread Cert.Kernel8Ideal.nD Cert.Kernel8Ideal.τ).loc Cert.Kernel8Ideal.main_arg35)
          ∧ r.2.mem ((c.tc : Thread Cert.Kernel8Ideal.nD Cert.Kernel8Ideal.τ).loc Cert.Kernel8Ideal.main_arg36) = m ((c.tc : Thread Cert.Kernel8Ideal.nD Cert.Kernel8Ideal.τ).loc Cert.Kernel8Ideal.main_arg36)
          ∧ r.2.mem ((c.tc : Thread Cert.Kernel8Ideal.nD Cert.Kernel8Ideal.τ).loc Cert.Kernel8Ideal.main_arg37) = m ((c.tc : Thread Cert.Kernel8Ideal.nD Cert.Kernel8Ideal.τ).loc Cert.Kernel8Ideal.main_arg37)
          ∧ r.2.mem ((c.tc : Thread Cert.Kernel8Ideal.nD Cert.Kernel8Ideal.τ).loc Cert.Kernel8Ideal.main_arg38) = m ((c.tc : Thread Cert.Kernel8Ideal.nD Cert.Kernel8Ideal.τ).loc Cert.Kernel8Ideal.main_arg38)
          ∧ r.2.mem ((c.tc : Thread Cert.Kernel8Ideal.nD Cert.Kernel8Ideal.τ).loc Cert.Kernel8Ideal.main_arg39) = m ((c.tc : Thread Cert.Kernel8Ideal.nD Cert.Kernel8Ideal.τ).loc Cert.Kernel8Ideal.main_arg39)
          ∧ r.2.mem ((c.tc : Thread Cert.Kernel8Ideal.nD Cert.Kernel8Ideal.τ).loc Cert.Kernel8Ideal.main_arg40) = m ((c.tc : Thread Cert.Kernel8Ideal.nD Cert.Kernel8Ideal.τ).loc Cert.Kernel8Ideal.main_arg40)
          ∧ r.2.mem ((c.tc : Thread Cert.Kernel8Ideal.nD Cert.Kernel8Ideal.τ).loc Cert.Kernel8Ideal.main_arg41) = m ((c.tc : Thread Cert.Kernel8Ideal.nD Cert.Kernel8Ideal.τ).loc Cert.Kernel8Ideal.main_arg41))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_v24) = v1 c
          ∧ r.2.mem ((c.tc : Thread Cert.Reference8Ideal.nD Cert.Reference8Ideal.τ).loc Cert.Reference8Ideal.main_v5) = v2 c
          ∧ r.2.mem ((c.tc : Thread Cert.Reference8Ideal.nD Cert.Reference8Ideal.τ).loc Cert.Reference8Ideal.main_v11) = v3 c
          ∧ r.2.mem ((c.tc : Thread Cert.Reference8Ideal.nD Cert.Reference8Ideal.τ).loc Cert.Reference8Ideal.main_arg1) = v4 c
          ∧ r.2.mem ((c.tc : Thread Cert.Reference8Ideal.nD Cert.Reference8Ideal.τ).loc Cert.Reference8Ideal.main_v48) = v5 c
          ∧ r.2.mem ((c.tc : Thread Cert.Reference8Ideal.nD Cert.Reference8Ideal.τ).loc Cert.Reference8Ideal.main_v29) = v6 c
          ∧ r.2.mem ((c.tc : Thread Cert.Reference8Ideal.nD Cert.Reference8Ideal.τ).loc Cert.Reference8Ideal.main_v35) = v7 c
          ∧ r.2.mem ((c.tc : Thread Cert.Reference8Ideal.nD Cert.Reference8Ideal.τ).loc Cert.Reference8Ideal.main_v49) = v8 c
          ∧ r.2.mem ((c.tc : Thread Cert.Reference8Ideal.nD Cert.Reference8Ideal.τ).loc Cert.Reference8Ideal.main_v73) = v9 c
          ∧ r.2.mem ((c.tc : Thread Cert.Reference8Ideal.nD Cert.Reference8Ideal.τ).loc Cert.Reference8Ideal.main_v54) = v10 c
          ∧ r.2.mem ((c.tc : Thread Cert.Reference8Ideal.nD Cert.Reference8Ideal.τ).loc Cert.Reference8Ideal.main_v60) = v11 c
          ∧ r.2.mem ((c.tc : Thread Cert.Reference8Ideal.nD Cert.Reference8Ideal.τ).loc Cert.Reference8Ideal.main_arg3) = v12 c
          ∧ r.2.mem ((c.tc : Thread Cert.Reference8Ideal.nD Cert.Reference8Ideal.τ).loc Cert.Reference8Ideal.main_v97) = v13 c
          ∧ r.2.mem ((c.tc : Thread Cert.Reference8Ideal.nD Cert.Reference8Ideal.τ).loc Cert.Reference8Ideal.main_v78) = v14 c
          ∧ r.2.mem ((c.tc : Thread Cert.Reference8Ideal.nD Cert.Reference8Ideal.τ).loc Cert.Reference8Ideal.main_v84) = v15 c
          ∧ r.2.mem ((c.tc : Thread Cert.Reference8Ideal.nD Cert.Reference8Ideal.τ).loc Cert.Reference8Ideal.main_v98) = v16 c
          ∧ r.2.mem ((c.tc : Thread Cert.Reference8Ideal.nD Cert.Reference8Ideal.τ).loc Cert.Reference8Ideal.main_v122) = v17 c
          ∧ r.2.mem ((c.tc : Thread Cert.Reference8Ideal.nD Cert.Reference8Ideal.τ).loc Cert.Reference8Ideal.main_v103) = v18 c
          ∧ r.2.mem ((c.tc : Thread Cert.Reference8Ideal.nD Cert.Reference8Ideal.τ).loc Cert.Reference8Ideal.main_v109) = v19 c
          ∧ r.2.mem ((c.tc : Thread Cert.Reference8Ideal.nD Cert.Reference8Ideal.τ).loc Cert.Reference8Ideal.main_v123) = v20 c
          ∧ r.2.mem ((c.tc : Thread Cert.Reference8Ideal.nD Cert.Reference8Ideal.τ).loc Cert.Reference8Ideal.main_v147) = v21 c
          ∧ r.2.mem ((c.tc : Thread Cert.Reference8Ideal.nD Cert.Reference8Ideal.τ).loc Cert.Reference8Ideal.main_v128) = v22 c
          ∧ r.2.mem ((c.tc : Thread Cert.Reference8Ideal.nD Cert.Reference8Ideal.τ).loc Cert.Reference8Ideal.main_v134) = v23 c
          ∧ r.2.mem ((c.tc : Thread Cert.Reference8Ideal.nD Cert.Reference8Ideal.τ).loc Cert.Reference8Ideal.main_v148) = v24 c
          ∧ r.2.mem ((c.tc : Thread Cert.Reference8Ideal.nD Cert.Reference8Ideal.τ).loc Cert.Reference8Ideal.main_v172) = v25 c
          ∧ r.2.mem ((c.tc : Thread Cert.Reference8Ideal.nD Cert.Reference8Ideal.τ).loc Cert.Reference8Ideal.main_v153) = v26 c
          ∧ r.2.mem ((c.tc : Thread Cert.Reference8Ideal.nD Cert.Reference8Ideal.τ).loc Cert.Reference8Ideal.main_v159) = v27 c
          ∧ r.2.mem ((c.tc : Thread Cert.Reference8Ideal.nD Cert.Reference8Ideal.τ).loc Cert.Reference8Ideal.main_v173) = v28 c
          ∧ r.2.mem ((c.tc : Thread Cert.Reference8Ideal.nD Cert.Reference8Ideal.τ).loc Cert.Reference8Ideal.main_v197) = v29 c
          ∧ r.2.mem ((c.tc : Thread Cert.Reference8Ideal.nD Cert.Reference8Ideal.τ).loc Cert.Reference8Ideal.main_v178) = v30 c
          ∧ r.2.mem ((c.tc : Thread Cert.Reference8Ideal.nD Cert.Reference8Ideal.τ).loc Cert.Reference8Ideal.main_v184) = v31 c
          ∧ r.2.mem ((c.tc : Thread Cert.Reference8Ideal.nD Cert.Reference8Ideal.τ).loc Cert.Reference8Ideal.main_v198) = v32 c
          ∧ r.2.mem ((c.tc : Thread Cert.Reference8Ideal.nD Cert.Reference8Ideal.τ).loc Cert.Reference8Ideal.main_v222) = v33 c
          ∧ r.2.mem ((c.tc : Thread Cert.Reference8Ideal.nD Cert.Reference8Ideal.τ).loc Cert.Reference8Ideal.main_v203) = v34 c
          ∧ r.2.mem ((c.tc : Thread Cert.Reference8Ideal.nD Cert.Reference8Ideal.τ).loc Cert.Reference8Ideal.main_v209) = v35 c
          ∧ r.2.mem ((c.tc : Thread Cert.Reference8Ideal.nD Cert.Reference8Ideal.τ).loc Cert.Reference8Ideal.main_v223) = v36 c
          ∧ r.2.mem ((c.tc : Thread Cert.Reference8Ideal.nD Cert.Reference8Ideal.τ).loc Cert.Reference8Ideal.main_v247) = v37 c
          ∧ r.2.mem ((c.tc : Thread Cert.Reference8Ideal.nD Cert.Reference8Ideal.τ).loc Cert.Reference8Ideal.main_v228) = v38 c
          ∧ r.2.mem ((c.tc : Thread Cert.Reference8Ideal.nD Cert.Reference8Ideal.τ).loc Cert.Reference8Ideal.main_v234) = v39 c
          ∧ r.2.mem ((c.tc : Thread Cert.Reference8Ideal.nD Cert.Reference8Ideal.τ).loc Cert.Reference8Ideal.main_v248) = v40 c
          ∧ r.2.mem ((c.tc : Thread Cert.Reference8Ideal.nD Cert.Reference8Ideal.τ).loc Cert.Reference8Ideal.main_v272) = v41 c
          ∧ r.2.mem ((c.tc : Thread Cert.Reference8Ideal.nD Cert.Reference8Ideal.τ).loc Cert.Reference8Ideal.main_v253) = v42 c
          ∧ r.2.mem ((c.tc : Thread Cert.Reference8Ideal.nD Cert.Reference8Ideal.τ).loc Cert.Reference8Ideal.main_v259) = v43 c
          ∧ r.2.mem ((c.tc : Thread Cert.Reference8Ideal.nD Cert.Reference8Ideal.τ).loc Cert.Reference8Ideal.main_v273) = v44 c
          ∧ r.2.mem ((c.tc : Thread Cert.Reference8Ideal.nD Cert.Reference8Ideal.τ).loc Cert.Reference8Ideal.main_v297) = v45 c
          ∧ r.2.mem ((c.tc : Thread Cert.Reference8Ideal.nD Cert.Reference8Ideal.τ).loc Cert.Reference8Ideal.main_v278) = v46 c
          ∧ r.2.mem ((c.tc : Thread Cert.Reference8Ideal.nD Cert.Reference8Ideal.τ).loc Cert.Reference8Ideal.main_v284) = v47 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9)
          ∧ r.2.mem ((c.tc : Thread Cert.Reference8Ideal.nD Cert.Reference8Ideal.τ).loc Cert.Reference8Ideal.main_arg10) = m' ((c.tc : Thread Cert.Reference8Ideal.nD Cert.Reference8Ideal.τ).loc Cert.Reference8Ideal.main_arg10)
          ∧ r.2.mem ((c.tc : Thread Cert.Reference8Ideal.nD Cert.Reference8Ideal.τ).loc Cert.Reference8Ideal.main_arg11) = m' ((c.tc : Thread Cert.Reference8Ideal.nD Cert.Reference8Ideal.τ).loc Cert.Reference8Ideal.main_arg11)
          ∧ r.2.mem ((c.tc : Thread Cert.Reference8Ideal.nD Cert.Reference8Ideal.τ).loc Cert.Reference8Ideal.main_arg12) = m' ((c.tc : Thread Cert.Reference8Ideal.nD Cert.Reference8Ideal.τ).loc Cert.Reference8Ideal.main_arg12)
          ∧ r.2.mem ((c.tc : Thread Cert.Reference8Ideal.nD Cert.Reference8Ideal.τ).loc Cert.Reference8Ideal.main_arg13) = m' ((c.tc : Thread Cert.Reference8Ideal.nD Cert.Reference8Ideal.τ).loc Cert.Reference8Ideal.main_arg13)
          ∧ r.2.mem ((c.tc : Thread Cert.Reference8Ideal.nD Cert.Reference8Ideal.τ).loc Cert.Reference8Ideal.main_arg14) = m' ((c.tc : Thread Cert.Reference8Ideal.nD Cert.Reference8Ideal.τ).loc Cert.Reference8Ideal.main_arg14)
          ∧ r.2.mem ((c.tc : Thread Cert.Reference8Ideal.nD Cert.Reference8Ideal.τ).loc Cert.Reference8Ideal.main_arg15) = m' ((c.tc : Thread Cert.Reference8Ideal.nD Cert.Reference8Ideal.τ).loc Cert.Reference8Ideal.main_arg15)
          ∧ r.2.mem ((c.tc : Thread Cert.Reference8Ideal.nD Cert.Reference8Ideal.τ).loc Cert.Reference8Ideal.main_arg16) = m' ((c.tc : Thread Cert.Reference8Ideal.nD Cert.Reference8Ideal.τ).loc Cert.Reference8Ideal.main_arg16)
          ∧ r.2.mem ((c.tc : Thread Cert.Reference8Ideal.nD Cert.Reference8Ideal.τ).loc Cert.Reference8Ideal.main_arg17) = m' ((c.tc : Thread Cert.Reference8Ideal.nD Cert.Reference8Ideal.τ).loc Cert.Reference8Ideal.main_arg17)
          ∧ r.2.mem ((c.tc : Thread Cert.Reference8Ideal.nD Cert.Reference8Ideal.τ).loc Cert.Reference8Ideal.main_arg18) = m' ((c.tc : Thread Cert.Reference8Ideal.nD Cert.Reference8Ideal.τ).loc Cert.Reference8Ideal.main_arg18)
          ∧ r.2.mem ((c.tc : Thread Cert.Reference8Ideal.nD Cert.Reference8Ideal.τ).loc Cert.Reference8Ideal.main_arg19) = m' ((c.tc : Thread Cert.Reference8Ideal.nD Cert.Reference8Ideal.τ).loc Cert.Reference8Ideal.main_arg19)
          ∧ r.2.mem ((c.tc : Thread Cert.Reference8Ideal.nD Cert.Reference8Ideal.τ).loc Cert.Reference8Ideal.main_arg20) = m' ((c.tc : Thread Cert.Reference8Ideal.nD Cert.Reference8Ideal.τ).loc Cert.Reference8Ideal.main_arg20)
          ∧ r.2.mem ((c.tc : Thread Cert.Reference8Ideal.nD Cert.Reference8Ideal.τ).loc Cert.Reference8Ideal.main_arg21) = m' ((c.tc : Thread Cert.Reference8Ideal.nD Cert.Reference8Ideal.τ).loc Cert.Reference8Ideal.main_arg21)
          ∧ r.2.mem ((c.tc : Thread Cert.Reference8Ideal.nD Cert.Reference8Ideal.τ).loc Cert.Reference8Ideal.main_arg22) = m' ((c.tc : Thread Cert.Reference8Ideal.nD Cert.Reference8Ideal.τ).loc Cert.Reference8Ideal.main_arg22)
          ∧ r.2.mem ((c.tc : Thread Cert.Reference8Ideal.nD Cert.Reference8Ideal.τ).loc Cert.Reference8Ideal.main_arg23) = m' ((c.tc : Thread Cert.Reference8Ideal.nD Cert.Reference8Ideal.τ).loc Cert.Reference8Ideal.main_arg23)
          ∧ r.2.mem ((c.tc : Thread Cert.Reference8Ideal.nD Cert.Reference8Ideal.τ).loc Cert.Reference8Ideal.main_arg24) = m' ((c.tc : Thread Cert.Reference8Ideal.nD Cert.Reference8Ideal.τ).loc Cert.Reference8Ideal.main_arg24)
          ∧ r.2.mem ((c.tc : Thread Cert.Reference8Ideal.nD Cert.Reference8Ideal.τ).loc Cert.Reference8Ideal.main_arg25) = m' ((c.tc : Thread Cert.Reference8Ideal.nD Cert.Reference8Ideal.τ).loc Cert.Reference8Ideal.main_arg25)
          ∧ r.2.mem ((c.tc : Thread Cert.Reference8Ideal.nD Cert.Reference8Ideal.τ).loc Cert.Reference8Ideal.main_arg26) = m' ((c.tc : Thread Cert.Reference8Ideal.nD Cert.Reference8Ideal.τ).loc Cert.Reference8Ideal.main_arg26)
          ∧ r.2.mem ((c.tc : Thread Cert.Reference8Ideal.nD Cert.Reference8Ideal.τ).loc Cert.Reference8Ideal.main_arg27) = m' ((c.tc : Thread Cert.Reference8Ideal.nD Cert.Reference8Ideal.τ).loc Cert.Reference8Ideal.main_arg27)
          ∧ r.2.mem ((c.tc : Thread Cert.Reference8Ideal.nD Cert.Reference8Ideal.τ).loc Cert.Reference8Ideal.main_arg28) = m' ((c.tc : Thread Cert.Reference8Ideal.nD Cert.Reference8Ideal.τ).loc Cert.Reference8Ideal.main_arg28)
          ∧ r.2.mem ((c.tc : Thread Cert.Reference8Ideal.nD Cert.Reference8Ideal.τ).loc Cert.Reference8Ideal.main_arg29) = m' ((c.tc : Thread Cert.Reference8Ideal.nD Cert.Reference8Ideal.τ).loc Cert.Reference8Ideal.main_arg29)
          ∧ r.2.mem ((c.tc : Thread Cert.Reference8Ideal.nD Cert.Reference8Ideal.τ).loc Cert.Reference8Ideal.main_arg30) = m' ((c.tc : Thread Cert.Reference8Ideal.nD Cert.Reference8Ideal.τ).loc Cert.Reference8Ideal.main_arg30)
          ∧ r.2.mem ((c.tc : Thread Cert.Reference8Ideal.nD Cert.Reference8Ideal.τ).loc Cert.Reference8Ideal.main_arg31) = m' ((c.tc : Thread Cert.Reference8Ideal.nD Cert.Reference8Ideal.τ).loc Cert.Reference8Ideal.main_arg31)
          ∧ r.2.mem ((c.tc : Thread Cert.Reference8Ideal.nD Cert.Reference8Ideal.τ).loc Cert.Reference8Ideal.main_arg32) = m' ((c.tc : Thread Cert.Reference8Ideal.nD Cert.Reference8Ideal.τ).loc Cert.Reference8Ideal.main_arg32)
          ∧ r.2.mem ((c.tc : Thread Cert.Reference8Ideal.nD Cert.Reference8Ideal.τ).loc Cert.Reference8Ideal.main_arg33) = m' ((c.tc : Thread Cert.Reference8Ideal.nD Cert.Reference8Ideal.τ).loc Cert.Reference8Ideal.main_arg33)
          ∧ r.2.mem ((c.tc : Thread Cert.Reference8Ideal.nD Cert.Reference8Ideal.τ).loc Cert.Reference8Ideal.main_arg34) = m' ((c.tc : Thread Cert.Reference8Ideal.nD Cert.Reference8Ideal.τ).loc Cert.Reference8Ideal.main_arg34)
          ∧ r.2.mem ((c.tc : Thread Cert.Reference8Ideal.nD Cert.Reference8Ideal.τ).loc Cert.Reference8Ideal.main_arg35) = m' ((c.tc : Thread Cert.Reference8Ideal.nD Cert.Reference8Ideal.τ).loc Cert.Reference8Ideal.main_arg35)
          ∧ r.2.mem ((c.tc : Thread Cert.Reference8Ideal.nD Cert.Reference8Ideal.τ).loc Cert.Reference8Ideal.main_arg36) = m' ((c.tc : Thread Cert.Reference8Ideal.nD Cert.Reference8Ideal.τ).loc Cert.Reference8Ideal.main_arg36)
          ∧ r.2.mem ((c.tc : Thread Cert.Reference8Ideal.nD Cert.Reference8Ideal.τ).loc Cert.Reference8Ideal.main_arg37) = m' ((c.tc : Thread Cert.Reference8Ideal.nD Cert.Reference8Ideal.τ).loc Cert.Reference8Ideal.main_arg37)
          ∧ r.2.mem ((c.tc : Thread Cert.Reference8Ideal.nD Cert.Reference8Ideal.τ).loc Cert.Reference8Ideal.main_arg38) = m' ((c.tc : Thread Cert.Reference8Ideal.nD Cert.Reference8Ideal.τ).loc Cert.Reference8Ideal.main_arg38)
          ∧ r.2.mem ((c.tc : Thread Cert.Reference8Ideal.nD Cert.Reference8Ideal.τ).loc Cert.Reference8Ideal.main_arg39) = m' ((c.tc : Thread Cert.Reference8Ideal.nD Cert.Reference8Ideal.τ).loc Cert.Reference8Ideal.main_arg39)
          ∧ r.2.mem ((c.tc : Thread Cert.Reference8Ideal.nD Cert.Reference8Ideal.τ).loc Cert.Reference8Ideal.main_arg40) = m' ((c.tc : Thread Cert.Reference8Ideal.nD Cert.Reference8Ideal.τ).loc Cert.Reference8Ideal.main_arg40)
          ∧ r.2.mem ((c.tc : Thread Cert.Reference8Ideal.nD Cert.Reference8Ideal.τ).loc Cert.Reference8Ideal.main_arg41) = m' ((c.tc : Thread Cert.Reference8Ideal.nD Cert.Reference8Ideal.τ).loc Cert.Reference8Ideal.main_arg41))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_v28) = v1 c
          ∧ r.2.mem ((c.tc : Thread Cert.Reference9Ideal.nD Cert.Reference9Ideal.τ).loc Cert.Reference9Ideal.main_v9) = v2 c
          ∧ r.2.mem ((c.tc : Thread Cert.Reference9Ideal.nD Cert.Reference9Ideal.τ).loc Cert.Reference9Ideal.main_v15) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ algebraic_Kernel2Ideal_Reference3Ideal (hKernel2Ideal := hKernel2Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1024 .f32) (main_v2 : IVec S8192x1024 1) (main_v5 : IVec S8192x1024 1) (main_v8 : IVec S1024 1) (main_v11 : IVec S1024x2816 1) (main_v14 : IVec S1024x2816 1) (main_v17 : IVec S2816x1024 1) : IVec S8192x1024 1 × IVec S8192x1024 1 × IVec S1024 1 × IVec S1024x2816 1 × IVec S1024x2816 1 × IVec S2816x1024 1 × IVec S1024 1 :=
  let main_v18 : FVec F S1024 .f32 := Host.absf main_arg6
  let main_cst_5 : FVec F S_ .f32 := constant S_ .f32 0x7F800000#32
  let main_v19 : FVec F S1024 .f32 := broadcastInDim S1024 ![] bcast_S_S1024 main_cst_5
  let main_v20 : IVec S1024 1 := cmpf .olt main_v18 main_v19
  (main_v2, main_v5, main_v8, main_v11, main_v14, main_v17, main_v20)

def fn {F : FTy → Type} [FloatOps F] (main_arg0 : FVec F S8192x1024 .f32) (main_arg1 : FVec F S8192x1024 .f32) (main_arg2 : FVec F S1024 .f32) (main_arg3 : FVec F S1024x2816 .f32) (main_arg4 : FVec F S1024x2816 .f32) (main_arg5 : FVec F S2816x1024 .f32) (main_arg6 : FVec F S1024 .f32) : IVec S8192x1024 1 × IVec S8192x1024 1 × IVec S1024 1 × IVec S1024x2816 1 × IVec S1024x2816 1 × IVec S2816x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg4
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg5
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg6 main_v2 main_v5 main_v8 main_v11 main_v14 main_v17
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S8x128 : Shape := ⟨2, ![8, 128]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩

abbrev nBuf : Space → Nat
  | .hbm => 23
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S1x1024, .f32⟩
  | .hbm, ⟨8, _⟩ => ⟨S1x1024, .f32⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S2816x1024, .bf16⟩
  | .hbm, ⟨14, _⟩ => ⟨S8192x1024, .f32⟩
  | .hbm, ⟨15, _⟩ => ⟨S8192x1024, .bf16⟩
  | .hbm, ⟨16, _⟩ => ⟨S8192x2816, .bf16⟩
  | .hbm, ⟨17, _⟩ => ⟨S8192x2816, .bf16⟩
  | .hbm, ⟨18, _⟩ => ⟨S8192x2816, .bf16⟩
  | .hbm, ⟨19, _⟩ => ⟨S8192x1024, .bf16⟩
  | .hbm, ⟨20, _⟩ => ⟨S8x128, .f32⟩
  | .hbm, ⟨21, _⟩ => ⟨S1x1024, .f32⟩
  | .hbm, ⟨22, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2816x1024, .bf16⟩
  | .local _ .vmem, ⟨7, _⟩ => ⟨S2816x1024, .bf16⟩
  | .local _ .vmem, ⟨8, _⟩ => ⟨S2816x1024, .bf16⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x1024, .bf16⟩
  | .local _ .vmem, ⟨20, _⟩ => ⟨S256x1024, .bf16⟩
  | .local _ .vmem, ⟨21, _⟩ => ⟨S8x128, .f32⟩
  | .local _ .vmem, ⟨22, _⟩ => ⟨S1x1024, .f32⟩
  | .local _ .vmem, ⟨23, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_v7_5 : Ref sig .tc := ⟨.hbm, 19, rfl⟩
abbrev main_v7_6 : Ref sig .tc := ⟨.hbm, 20, rfl⟩
abbrev main_v7_7 : Ref sig .tc := ⟨.hbm, 21, rfl⟩
abbrev main_v7_8 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩
abbrev S8x128 : Shape := ⟨2, ![8, 128]⟩

abbrev nBuf : Space → Nat
  | .hbm => 157
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S1024x2816, .f32⟩
  | 4 => ⟨S1024x2816, .f32⟩
  | 5 => ⟨S2816x1024, .f32⟩
  | 6 => ⟨S1024, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S1x1024, .f32⟩
  | 25 => ⟨S8192x1024, .f32⟩
  | 26 => ⟨S8192x1024, .f32⟩
  | 27 => ⟨S8192x2816, .f32⟩
  | 28 => ⟨S8192x2816, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S_, .f32⟩
  | 38 => ⟨S8192x2816, .f32⟩
  | 39 => ⟨S8192x2816, .f32⟩
  | 40 => ⟨S8192x2816, .f32⟩
  | 41 => ⟨S8192x2816, .f32⟩
  | 42 => ⟨S8192x2816, .f32⟩
  | 43 => ⟨S8192x1024, .f32⟩
  | 44 => ⟨S8192x1024, .f32⟩
  | 45 => ⟨S8192x1024, .f32⟩
  | 46 => ⟨S_, .f32⟩
  | 47 => ⟨S8192, .f32⟩
  | 48 => ⟨S8192x1, .f32⟩
  | 49 => ⟨S_, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1, .f32⟩
  | 56 => ⟨S8192x1, .f32⟩
  | 57 => ⟨S_, .f32⟩
  | 58 => ⟨S8192x1, .f32⟩
  | 59 => ⟨S8192x1, .f32⟩
  | 60 => ⟨S8192x1024, .f32⟩
  | 61 => ⟨S8192x1024, .f32⟩
  | 62 => ⟨S1x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192, .f32⟩
  | 72 => ⟨S_, .f32⟩
  | 73 => ⟨S8192, .f32⟩
  | 74 => ⟨S8192, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S8192, .f32⟩
  | 83 => ⟨S_, .f32⟩
  | 84 => ⟨S8192, .f32⟩
  | 85 => ⟨S8192, .f32⟩
  | 86 => ⟨S8192x1024, .f32⟩
  | 87 => ⟨S8192x1024, .f32⟩
  | 88 => ⟨S8192x1024, .f32⟩
  | 89 => ⟨S_, .f32⟩
  | 90 => ⟨S1024, .f32⟩
  | 91 => ⟨S1x1024, .f32⟩
  | 92 => ⟨S8192x1024, .f32⟩
  | 93 => ⟨S8192x1024, .f32⟩
  | 94 => ⟨S_, .f32⟩
  | 95 => ⟨S1024, .f32⟩
  | 96 => ⟨S8192x1024, .f32⟩
  | 97 => ⟨S_, .f32⟩
  | 98 => ⟨S8192, .f32⟩
  | 99 => ⟨S8192x1, .f32⟩
  | 100 => ⟨S8192x1024, .f32⟩
  | 101 => ⟨S8192x1024, .f32⟩
  | 102 => ⟨S8192x1, .f32⟩
  | 103 => ⟨S_, .f32⟩
  | 104 => ⟨S8192x1, .f32⟩
  | 105 => ⟨S8192x1, .f32⟩
  | 106 => ⟨S_, .f32⟩
  | 107 => ⟨S8192, .f32⟩
  | 108 => ⟨S8192x1024, .f32⟩
  | 109 => ⟨S8192x1024, .f32⟩
  | 110 => ⟨S8192x1024, .f32⟩
  | 111 => ⟨S8192x1024, .f32⟩
  | 112 => ⟨S8192x1024, .f32⟩
  | 113 => ⟨S8192x2816, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S8192x2816, .f32⟩
  | 120 => ⟨S8192x1024, .f32⟩
  | 121 => ⟨S8192x1024, .f32⟩
  | 122 => ⟨S8192x1024, .f32⟩
  | 123 => ⟨S8192x1024, .f32⟩
  | 124 => ⟨S_, .f32⟩
  | 125 => ⟨S1024, .f32⟩
  | 126 => ⟨S1x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S_, .f32⟩
  | 2 => ⟨S1024, .f32⟩
  | 3 => ⟨S8192x1024, .f32⟩
  | 4 => ⟨S_, .f32⟩
  | 5 => ⟨S8192, .f32⟩
  | 6 => ⟨S8192x1, .f32⟩
  | 7 => ⟨S8192x1024, .f32⟩
  | 8 => ⟨S8192x1024, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192, .f32⟩
  | 15 => ⟨S8192x1024, .f32⟩
  | 16 => ⟨S8192x1024, .f32⟩
  | 17 => ⟨S8192x1024, .f32⟩
  | 18 => ⟨S8192x1024, .f32⟩
  | 19 => ⟨S8192x1024, .f32⟩
  | 20 => ⟨S8192x1024, .f32⟩
  | 21 => ⟨S8192x1024, .bf16⟩
  | 22 => ⟨S8192x2816, .bf16⟩
  | 23 => ⟨S8192x2816, .bf16⟩
  | 24 => ⟨S8192x2816, .bf16⟩
  | 25 => ⟨S8192x1024, .bf16⟩
  | 26 => ⟨S8x128, .f32⟩
  | 27 => ⟨S1x1024, .f32⟩
  | 28 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v18_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v18_1 : Ref sig .tc := ⟨.hbm, 40, rfl⟩
abbrev main_v18_0 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_cst_4 : Ref sig .tc := ⟨.hbm, 49, rfl⟩
abbrev main_v25 : Ref sig .tc := ⟨.hbm, 50, rfl⟩
abbrev main_v26 : Ref sig .tc := ⟨.hbm, 51, rfl⟩
abbrev main_cst_5 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_6 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_cst_8 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_cst_11 : Ref sig .tc := ⟨.hbm, 77, rfl⟩
abbrev main_v46 : Ref sig .tc := ⟨.hbm, 78, rfl⟩
abbrev main_cst_12 : Ref sig .tc := ⟨.hbm, 79, rfl⟩
abbrev main_cst_13 : Ref sig .tc := ⟨.hbm, 80, rfl⟩
abbrev main_v47 : Ref sig .tc := ⟨.hbm, 81, rfl⟩
abbrev main_v48 : Ref sig .tc := ⟨.hbm, 82, rfl⟩
abbrev main_cst_14 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_cst_15 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_16 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_18 : Ref sig .tc := ⟨.hbm, 103, rfl⟩
abbrev main_v65 : Ref sig .tc := ⟨.hbm, 104, rfl⟩
abbrev main_v66 : Ref sig .tc := ⟨.hbm, 105, rfl⟩
abbrev main_cst_19 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_cst_20 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_cst_21 : Ref sig .tc := ⟨.hbm, 129, rfl⟩
abbrev main_v85 : Ref sig .tc := ⟨.hbm, 130, rfl⟩
abbrev main_v86 : Ref sig .tc := ⟨.hbm, 131, rfl⟩
abbrev main_cst_22 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_23 : Ref sig .tc := ⟨.hbm, 138, rfl⟩
abbrev main_v92 : Ref sig .tc := ⟨.hbm, 139, rfl⟩
abbrev main_v93 : Ref sig .tc := ⟨.hbm, 140, rfl⟩
abbrev main_cst_24 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩

abbrev nD : Nat := 1
abbrev τ : Topo := Topo.v7x

variable {F : FTy → Type} [FloatOps F]
-- ==== Kernel2.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Reference3Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S1024x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S8192x1024 : Shape := ⟨2, ![8192, 1024]⟩
abbrev S1024 : Shape := ⟨1, ![1024]⟩
abbrev S1024x2592 : Shape := ⟨2, ![1024, 2592]⟩
abbrev S8192x256 : Shape := ⟨2, ![8192, 256]⟩
abbrev S8192x512 : Shape := ⟨2, ![8192, 512]⟩
abbrev S8192x16 : Shape := ⟨2, ![8192, 16]⟩
abbrev S_ : Shape := ⟨0, ![]⟩
abbrev S8192x112 : Shape := ⟨2, ![8192, 112]⟩
abbrev S8192x128 : Shape := ⟨2, ![8192, 128]⟩
abbrev S8192x96 : Shape := ⟨2, ![8192, 96]⟩
abbrev S1x1024 : Shape := ⟨2, ![1, 1024]⟩
abbrev S2592x1024 : Shape := ⟨2, ![2592, 1024]⟩
abbrev S8192x2688 : Shape := ⟨2, ![8192, 2688]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x2688 : Shape := ⟨2, ![512, 2688]⟩
abbrev S512x1536 : Shape := ⟨2, ![512, 1536]⟩
abbrev S1536x1024 : Shape := ⟨2, ![1536, 1024]⟩
abbrev S1024x1024 : Shape := ⟨2, ![1024, 1024]⟩
abbrev S128x1024 : Shape := ⟨2, ![128, 1024]⟩
abbrev S512 : Shape := ⟨1, ![512]⟩
abbrev S512x1 : Shape := ⟨2, ![512, 1]⟩

abbrev nBuf : Space → Nat
  | .hbm => 29
  | .vmem => 33
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S8192x1024, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x16, .bf16⟩
  | .hbm, ⟨14, _⟩ => ⟨S8192x16, .bf16⟩
  | .hbm, ⟨15, _⟩ => ⟨S_, .bf16⟩
  | .hbm, ⟨16, _⟩ => ⟨S8192x112, .bf16⟩
  | .hbm, ⟨17, _⟩ => ⟨S8192x128, .bf16⟩
  | .hbm, ⟨18, _⟩ => ⟨S_, .bf16⟩
  | .hbm, ⟨19, _⟩ => ⟨S8192x16, .bf16⟩
  | .hbm, ⟨20, _⟩ => ⟨S_, .bf16⟩
  | .hbm, ⟨21, _⟩ => ⟨S8192x96, .bf16⟩
  | .hbm, ⟨22, _⟩ => ⟨S8192x128, .bf16⟩
  | .hbm, ⟨23, _⟩ => ⟨S1x1024, .f32⟩
  | .hbm, ⟨24, _⟩ => ⟨S2592x1024, .f32⟩
  | .hbm, ⟨25, _⟩ => ⟨S2592x1024, .bf16⟩
  | .hbm, ⟨26, _⟩ => ⟨S8192x1024, .f32⟩
  | .hbm, ⟨27, _⟩ => ⟨S8192x2688, .bf16⟩
  | .hbm, ⟨28, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x128, .bf16⟩
  | .local _ .vmem, ⟨24, _⟩ => ⟨S512x128, .bf16⟩
  | .local _ .vmem, ⟨25, _⟩ => ⟨S512x128, .bf16⟩
  | .local _ .vmem, ⟨26, _⟩ => ⟨S512x128, .bf16⟩
  | .local _ .vmem, ⟨27, _⟩ => ⟨S2592x1024, .bf16⟩
  | .local _ .vmem, ⟨28, _⟩ => ⟨S512x1024, .f32⟩
  | .local _ .vmem, ⟨29, _⟩ => ⟨S512x1024, .f32⟩
  | .local _ .vmem, ⟨30, _⟩ => ⟨S512x2688, .bf16⟩
  | .local _ .vmem, ⟨31, _⟩ => ⟨S512x2688, .bf16⟩
  | .local _ .vmem, ⟨32, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_cst_1 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8_0 : Ref sig .tc := ⟨.hbm, 26, rfl⟩
abbrev main_v8_1 : Ref sig .tc := ⟨.hbm, 27, rfl⟩
abbrev main_v8_2 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S2592x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2688 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference4Ideal.lean ====
abbrev S8192x1024 : Shape := ⟨2, ![8192, 1024]⟩
abbrev S1024 : Shape := ⟨1, ![1024]⟩
abbrev S1024x2592 : Shape := ⟨2, ![1024, 2592]⟩
abbrev S8192x256 : Shape := ⟨2, ![8192, 256]⟩
abbrev S8192x512 : Shape := ⟨2, ![8192, 512]⟩
abbrev S8192x16 : Shape := ⟨2, ![8192, 16]⟩
abbrev S8192x2592 : Shape := ⟨2, ![8192, 2592]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x96 : Shape := ⟨2, ![8192, 96]⟩
abbrev S8192x2688 : Shape := ⟨2, ![8192, 2688]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2592, .f32⟩
  | .hbm, ⟨3, _⟩ => ⟨S8192x1024, .f32⟩
  | .hbm, ⟨4, _⟩ => ⟨S8192x256, .bf16⟩
  | .hbm, ⟨5, _⟩ => ⟨S8192x256, .bf16⟩
  | .hbm, ⟨6, _⟩ => ⟨S8192x256, .bf16⟩
  | .hbm, ⟨7, _⟩ => ⟨S8192x256, .bf16⟩
  | .hbm, ⟨8, _⟩ => ⟨S8192x512, .bf16⟩
  | .hbm, ⟨9, _⟩ => ⟨S8192x512, .bf16⟩
  | .hbm, ⟨10, _⟩ => ⟨S8192x512, .bf16⟩
  | .hbm, ⟨11, _⟩ => ⟨S8192x512, .bf16⟩
  | .hbm, ⟨12, _⟩ => ⟨S8192x512, .bf16⟩
  | .hbm, ⟨13, _⟩ => ⟨S8192x16, .bf16⟩
  | .hbm, ⟨14, _⟩ => ⟨S8192x16, .bf16⟩
  | .hbm, ⟨15, _⟩ => ⟨S8192x256, .f32⟩
  | .hbm, ⟨16, _⟩ => ⟨S8192x256, .f32⟩
  | .hbm, ⟨17, _⟩ => ⟨S8192x256, .f32⟩
  | .hbm, ⟨18, _⟩ => ⟨S8192x256, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x16, .f32⟩
  | .hbm, ⟨25, _⟩ => ⟨S8192x16, .f32⟩
  | .hbm, ⟨26, _⟩ => ⟨S8192x256, .f32⟩
  | .hbm, ⟨27, _⟩ => ⟨S8192x256, .f32⟩
  | .hbm, ⟨28, _⟩ => ⟨S8192x512, .f32⟩
  | .hbm, ⟨29, _⟩ => ⟨S8192x2592, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S8192x2592, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192x96, .f32⟩
  | .hbm, ⟨79, _⟩ => ⟨S8192x2688, .f32⟩
  | .hbm, ⟨80, _⟩ => ⟨S8192x1024, .f32⟩
  | .hbm, ⟨81, _⟩ => ⟨S8192x2688, .bf16⟩
  | .hbm, ⟨82, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst : Ref sig .tc := ⟨.hbm, 31, rfl⟩
abbrev main_v16 : Ref sig .tc := ⟨.hbm, 32, rfl⟩
abbrev main_v17 : Ref sig .tc := ⟨.hbm, 33, rfl⟩
abbrev main_cst_0 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_4 : Ref sig .tc := ⟨.hbm, 58, rfl⟩
abbrev main_v38 : Ref sig .tc := ⟨.hbm, 59, rfl⟩
abbrev main_v39 : Ref sig .tc := ⟨.hbm, 60, rfl⟩
abbrev main_cst_5 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩

abbrev nD : Nat := 1
abbrev τ : Topo := Topo.v7x

variable {F : FTy → Type} [FloatOps F]
-- ==== Kernel5.lean ====
abbrev S352x1024 : Shape := ⟨2, ![352, 1024]⟩
abbrev S3x352x1024 : Shape := ⟨3, ![3, 352, 1024]⟩
abbrev S176x1024 : Shape := ⟨2, ![176, 1024]⟩
abbrev S3x176x1024 : Shape := ⟨3, ![3, 176, 1024]⟩
abbrev S1x176x1024 : Shape := ⟨3, ![1, 176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S176x1024, .f32⟩
  | .local _ .vmem, ⟨1, _⟩ => ⟨S176x1024, .f32⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference5Ideal.lean ====
abbrev S352x1024 : Shape := ⟨2, ![352, 1024]⟩
abbrev S3x352x1024 : Shape := ⟨3, ![3, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S3x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel6.lean ====
abbrev S128x1024 : Shape := ⟨2, ![128, 1024]⟩
abbrev S3x128x1024 : Shape := ⟨3, ![3, 128, 1024]⟩
abbrev S64x1024 : Shape := ⟨2, ![64, 1024]⟩
abbrev S3x64x1024 : Shape := ⟨3, ![3, 64, 1024]⟩
abbrev S1x64x1024 : Shape := ⟨3, ![1, 64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S64x1024, .f32⟩
  | .local _ .vmem, ⟨1, _⟩ => ⟨S64x1024, .f32⟩
  | .local _ .vmem, ⟨2, _⟩ => ⟨S3x64x1024, .bf16⟩
  | .local _ .vmem, ⟨3, _⟩ => ⟨S3x64x1024, .bf16⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S128x1024 : Shape := ⟨2, ![128, 1024]⟩
abbrev S3x128x1024 : Shape := ⟨3, ![3, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S3x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel7.lean ====
abbrev S336x1024 : Shape := ⟨2, ![336, 1024]⟩
abbrev S3x336x1024 : Shape := ⟨3, ![3, 336, 1024]⟩
abbrev S322x1024 : Shape := ⟨2, ![322, 1024]⟩
abbrev S1x336x1024 : Shape := ⟨3, ![1, 336, 1024]⟩

abbrev nBuf : Space → Nat
  | .hbm => 9
  | .vmem => 9
  | .smem => 0
  | _ => 0

abbrev bufTy : (tb : Table) → Fin (tcTables nBuf tb) → BufTy
  | .hbm, ⟨0, _⟩ => ⟨S336x1024, .f32⟩
  | .hbm, ⟨1, _⟩ => ⟨S3x336x1024, .bf16⟩
  | .hbm, ⟨2, _⟩ => ⟨S322x1024, .f32⟩
  | .hbm, ⟨3, _⟩ => ⟨S322x1024, .f32⟩
  | .hbm, ⟨4, _⟩ => ⟨S322x1024, .f32⟩
  | .hbm, ⟨5, _⟩ => ⟨S322x1024, .f32⟩
  | .hbm, ⟨6, _⟩ => ⟨S322x1024, .f32⟩
  | .hbm, ⟨7, _⟩ => ⟨S322x1024, .f32⟩
  | .hbm, ⟨8, _⟩ => ⟨S322x1024, .f32⟩
  | .local _ .vmem, ⟨0, _⟩ => ⟨S336x1024, .f32⟩
  | .local _ .vmem, ⟨1, _⟩ => ⟨S3x336x1024, .bf16⟩
  | .local _ .vmem, ⟨2, _⟩ => ⟨S322x1024, .f32⟩
  | .local _ .vmem, ⟨3, _⟩ => ⟨S322x1024, .f32⟩
  | .local _ .vmem, ⟨4, _⟩ => ⟨S322x1024, .f32⟩
  | .local _ .vmem, ⟨5, _⟩ => ⟨S322x1024, .f32⟩
  | .local _ .vmem, ⟨6, _⟩ => ⟨S322x1024, .f32⟩
  | .local _ .vmem, ⟨7, _⟩ => ⟨S322x1024, .f32⟩
  | .local _ .vmem, ⟨8, _⟩ => ⟨S322x1024, .f32⟩
  | _, _ => ⟨S336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x336x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S322x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S322x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S322x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S322x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S322x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S322x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S322x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference7Ideal.lean ====
abbrev S336x1024 : Shape := ⟨2, ![336, 1024]⟩
abbrev S3x336x1024 : Shape := ⟨3, ![3, 336, 1024]⟩
abbrev S322x1024 : Shape := ⟨2, ![322, 1024]⟩
abbrev S3x322x1024 : Shape := ⟨3, ![3, 322, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S336x1024, .f32⟩
  | .hbm, ⟨1, _⟩ => ⟨S3x336x1024, .bf16⟩
  | .hbm, ⟨2, _⟩ => ⟨S322x1024, .f32⟩
  | .hbm, ⟨3, _⟩ => ⟨S322x1024, .f32⟩
  | .hbm, ⟨4, _⟩ => ⟨S322x1024, .f32⟩
  | .hbm, ⟨5, _⟩ => ⟨S322x1024, .f32⟩
  | .hbm, ⟨6, _⟩ => ⟨S3x322x1024, .bf16⟩
  | .hbm, ⟨7, _⟩ => ⟨S3x322x1024, .f32⟩
  | .hbm, ⟨8, _⟩ => ⟨S_, .f32⟩
  | .hbm, ⟨9, _⟩ => ⟨S322x1024, .f32⟩
  | .hbm, ⟨10, _⟩ => ⟨S322x1024, .f32⟩
  | .hbm, ⟨11, _⟩ => ⟨S_, .f32⟩
  | .hbm, ⟨12, _⟩ => ⟨S322x1024, .f32⟩
  | .hbm, ⟨13, _⟩ => ⟨S322x1024, .f32⟩
  | .hbm, ⟨14, _⟩ => ⟨S_, .f32⟩
  | .hbm, ⟨15, _⟩ => ⟨S322x1024, .f32⟩
  | .hbm, ⟨16, _⟩ => ⟨S322x1024, .f32⟩
  | .hbm, ⟨17, _⟩ => ⟨S322x1024, .f32⟩
  | .hbm, ⟨18, _⟩ => ⟨S_, .f32⟩
  | .hbm, ⟨19, _⟩ => ⟨S322x1024, .f32⟩
  | .hbm, ⟨20, _⟩ => ⟨S322x1024, .f32⟩
  | .hbm, ⟨21, _⟩ => ⟨S322x1024, .f32⟩
  | .hbm, ⟨22, _⟩ => ⟨S_, .f32⟩
  | .hbm, ⟨23, _⟩ => ⟨S322x1024, .f32⟩
  | .hbm, ⟨24, _⟩ => ⟨S322x1024, .f32⟩
  | .hbm, ⟨25, _⟩ => ⟨S322x1024, .f32⟩
  | .hbm, ⟨26, _⟩ => ⟨S_, .f32⟩
  | .hbm, ⟨27, _⟩ => ⟨S322x1024, .f32⟩
  | .hbm, ⟨28, _⟩ => ⟨S322x1024, .f32⟩
  | .hbm, ⟨29, _⟩ => ⟨S_, .f32⟩
  | .hbm, ⟨30, _⟩ => ⟨S322x1024, .f32⟩
  | .hbm, ⟨31, _⟩ => ⟨S322x1024, .f32⟩
  | .hbm, ⟨32, _⟩ => ⟨S322x1024, .f32⟩
  | .hbm, ⟨33, _⟩ => ⟨S_, .f32⟩
  | .hbm, ⟨34, _⟩ => ⟨S322x1024, .f32⟩
  | .hbm, ⟨35, _⟩ => ⟨S322x1024, .f32⟩
  | .hbm, ⟨36, _⟩ => ⟨S322x1024, .f32⟩
  | .hbm, ⟨37, _⟩ => ⟨S_, .f32⟩
  | .hbm, ⟨38, _⟩ => ⟨S322x1024, .f32⟩
  | .hbm, ⟨39, _⟩ => ⟨S322x1024, .f32⟩
  | .hbm, ⟨40, _⟩ => ⟨S322x1024, .f32⟩
  | .hbm, ⟨41, _⟩ => ⟨S_, .f32⟩
  | .hbm, ⟨42, _⟩ => ⟨S322x1024, .f32⟩
  | .hbm, ⟨43, _⟩ => ⟨S322x1024, .f32⟩
  | _, _ => ⟨S336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel8.lean ====
abbrev S8x1024 : Shape := ⟨2, ![8, 1024]⟩
abbrev S16x32 : Shape := ⟨2, ![16, 32]⟩
abbrev S40x256 : Shape := ⟨2, ![40, 256]⟩
abbrev S8x512 : Shape := ⟨2, ![8, 512]⟩
abbrev S520x128 : Shape := ⟨2, ![520, 128]⟩
abbrev S1x1024 : Shape := ⟨2, ![1, 1024]⟩
abbrev S1x256 : Shape := ⟨2, ![1, 256]⟩
abbrev S1x512 : Shape := ⟨2, ![1, 512]⟩
abbrev S512x128 : Shape := ⟨2, ![512, 128]⟩
abbrev S4x128 : Shape := ⟨2, ![4, 128]⟩

abbrev nBuf : Space → Nat
  | .hbm => 90
  | .vmem => 90
  | .smem => 0
  | _ => 0

abbrev bufTy : (tb : Table) → Fin (tcTables nBuf tb) → BufTy
  | .hbm, ⟨0, _⟩ => ⟨S8x1024, .f32⟩
  | .hbm, ⟨1, _⟩ => ⟨S16x32, .f32⟩
  | .hbm, ⟨2, _⟩ => ⟨S40x256, .f32⟩
  | .hbm, ⟨3, _⟩ => ⟨S16x32, .f32⟩
  | .hbm, ⟨4, _⟩ => ⟨S8x512, .f32⟩
  | .hbm, ⟨5, _⟩ => ⟨S520x128, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S16x32, .f32⟩
  | .hbm, ⟨10, _⟩ => ⟨S16x32, .f32⟩
  | .hbm, ⟨11, _⟩ => ⟨S16x32, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S16x32, .f32⟩
  | .hbm, ⟨16, _⟩ => ⟨S16x32, .f32⟩
  | .hbm, ⟨17, _⟩ => ⟨S16x32, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S512x128, .f32⟩
  | .hbm, ⟨31, _⟩ => ⟨S512x128, .f32⟩
  | .hbm, ⟨32, _⟩ => ⟨S512x128, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S16x32, .f32⟩
  | .hbm, ⟨47, _⟩ => ⟨S16x32, .f32⟩
  | .hbm, ⟨48, _⟩ => ⟨S16x32, .f32⟩
  | .hbm, ⟨49, _⟩ => ⟨S16x32, .f32⟩
  | .hbm, ⟨50, _⟩ => ⟨S1x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S16x32, .f32⟩
  | .hbm, ⟨55, _⟩ => ⟨S16x32, .f32⟩
  | .hbm, ⟨56, _⟩ => ⟨S16x32, .f32⟩
  | .hbm, ⟨57, _⟩ => ⟨S16x32, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S1x256, .f32⟩
  | .hbm, ⟨62, _⟩ => ⟨S1x512, .f32⟩
  | .hbm, ⟨63, _⟩ => ⟨S1x512, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S1x512, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S1x512, .f32⟩
  | .hbm, ⟨72, _⟩ => ⟨S1x512, .f32⟩
  | .hbm, ⟨73, _⟩ => ⟨S1x512, .f32⟩
  | .hbm, ⟨74, _⟩ => ⟨S512x128, .f32⟩
  | .hbm, ⟨75, _⟩ => ⟨S512x128, .f32⟩
  | .hbm, ⟨76, _⟩ => ⟨S512x128, .f32⟩
  | .hbm, ⟨77, _⟩ => ⟨S512x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128, .f32⟩
  | .hbm, ⟨82, _⟩ => ⟨S1x1024, .f32⟩
  | .hbm, ⟨83, _⟩ => ⟨S1x1024, .f32⟩
  | .hbm, ⟨84, _⟩ => ⟨S1x1024, .f32⟩
  | .hbm, ⟨85, _⟩ => ⟨S1x1024, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S1x1024, .f32⟩
  | .local _ .vmem, ⟨0, _⟩ => ⟨S8x1024, .f32⟩
  | .local _ .vmem, ⟨1, _⟩ => ⟨S16x32, .f32⟩
  | .local _ .vmem, ⟨2, _⟩ => ⟨S40x256, .f32⟩
  | .local _ .vmem, ⟨3, _⟩ => ⟨S16x32, .f32⟩
  | .local _ .vmem, ⟨4, _⟩ => ⟨S8x512, .f32⟩
  | .local _ .vmem, ⟨5, _⟩ => ⟨S520x128, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S16x32, .f32⟩
  | .local _ .vmem, ⟨10, _⟩ => ⟨S16x32, .f32⟩
  | .local _ .vmem, ⟨11, _⟩ => ⟨S16x32, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S16x32, .f32⟩
  | .local _ .vmem, ⟨16, _⟩ => ⟨S16x32, .f32⟩
  | .local _ .vmem, ⟨17, _⟩ => ⟨S16x32, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x512, .f32⟩
  | .local _ .vmem, ⟨22, _⟩ => ⟨S1x512, .f32⟩
  | .local _ .vmem, ⟨23, _⟩ => ⟨S1x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x512, .f32⟩
  | .local _ .vmem, ⟨30, _⟩ => ⟨S512x128, .f32⟩
  | .local _ .vmem, ⟨31, _⟩ => ⟨S512x128, .f32⟩
  | .local _ .vmem, ⟨32, _⟩ => ⟨S512x128, .f32⟩
  | .local _ .vmem, ⟨33, _⟩ => ⟨S4x128, .f32⟩
  | .local _ .vmem, ⟨34, _⟩ => ⟨S4x128, .f32⟩
  | .local _ .vmem, ⟨35, _⟩ => ⟨S4x128, .f32⟩
  | .local _ .vmem, ⟨36, _⟩ => ⟨S1x1024, .f32⟩
  | .local _ .vmem, ⟨37, _⟩ => ⟨S1x1024, .f32⟩
  | .local _ .vmem, ⟨38, _⟩ => ⟨S1x1024, .f32⟩
  | .local _ .vmem, ⟨39, _⟩ => ⟨S1x1024, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S16x32, .f32⟩
  | .local _ .vmem, ⟨47, _⟩ => ⟨S16x32, .f32⟩
  | .local _ .vmem, ⟨48, _⟩ => ⟨S16x32, .f32⟩
  | .local _ .vmem, ⟨49, _⟩ => ⟨S16x32, .f32⟩
  | .local _ .vmem, ⟨50, _⟩ => ⟨S1x256, .f32⟩
  | .local _ .vmem, ⟨51, _⟩ => ⟨S1x256, .f32⟩
  | .local _ .vmem, ⟨52, _⟩ => ⟨S1x256, .f32⟩
  | .local _ .vmem, ⟨53, _⟩ => ⟨S1x256, .f32⟩
  | .local _ .vmem, ⟨54, _⟩ => ⟨S16x32, .f32⟩
  | .local _ .vmem, ⟨55, _⟩ => ⟨S16x32, .f32⟩
  | .local _ .vmem, ⟨56, _⟩ => ⟨S16x32, .f32⟩
  | .local _ .vmem, ⟨57, _⟩ => ⟨S16x32, .f32⟩
  | .local _ .vmem, ⟨58, _⟩ => ⟨S1x256, .f32⟩
  | .local _ .vmem, ⟨59, _⟩ => ⟨S1x256, .f32⟩
  | .local _ .vmem, ⟨60, _⟩ => ⟨S1x256, .f32⟩
  | .local _ .vmem, ⟨61, _⟩ => ⟨S1x256, .f32⟩
  | .local _ .vmem, ⟨62, _⟩ => ⟨S1x512, .f32⟩
  | .local _ .vmem, ⟨63, _⟩ => ⟨S1x512, .f32⟩
  | .local _ .vmem, ⟨64, _⟩ => ⟨S1x512, .f32⟩
  | .local _ .vmem, ⟨65, _⟩ => ⟨S1x512, .f32⟩
  | .local _ .vmem, ⟨66, _⟩ => ⟨S1x512, .f32⟩
  | .local _ .vmem, ⟨67, _⟩ => ⟨S1x512, .f32⟩
  | .local _ .vmem, ⟨68, _⟩ => ⟨S1x512, .f32⟩
  | .local _ .vmem, ⟨69, _⟩ => ⟨S1x512, .f32⟩
  | .local _ .vmem, ⟨70, _⟩ => ⟨S1x512, .f32⟩
  | .local _ .vmem, ⟨71, _⟩ => ⟨S1x512, .f32⟩
  | .local _ .vmem, ⟨72, _⟩ => ⟨S1x512, .f32⟩
  | .local _ .vmem, ⟨73, _⟩ => ⟨S1x512, .f32⟩
  | .local _ .vmem, ⟨74, _⟩ => ⟨S512x128, .f32⟩
  | .local _ .vmem, ⟨75, _⟩ => ⟨S512x128, .f32⟩
  | .local _ .vmem, ⟨76, _⟩ => ⟨S512x128, .f32⟩
  | .local _ .vmem, ⟨77, _⟩ => ⟨S512x128, .f32⟩
  | .local _ .vmem, ⟨78, _⟩ => ⟨S4x128, .f32⟩
  | .local _ .vmem, ⟨79, _⟩ => ⟨S4x128, .f32⟩
  | .local _ .vmem, ⟨80, _⟩ => ⟨S4x128, .f32⟩
  | .local _ .vmem, ⟨81, _⟩ => ⟨S4x128, .f32⟩
  | .local _ .vmem, ⟨82, _⟩ => ⟨S1x1024, .f32⟩
  | .local _ .vmem, ⟨83, _⟩ => ⟨S1x1024, .f32⟩
  | .local _ .vmem, ⟨84, _⟩ => ⟨S1x1024, .f32⟩
  | .local _ .vmem, ⟨85, _⟩ => ⟨S1x1024, .f32⟩
  | .local _ .vmem, ⟨86, _⟩ => ⟨S1x1024, .f32⟩
  | .local _ .vmem, ⟨87, _⟩ => ⟨S1x1024, .f32⟩
  | .local _ .vmem, ⟨88, _⟩ => ⟨S1x1024, .f32⟩
  | .local _ .vmem, ⟨89, _⟩ => ⟨S1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0_0 : Ref sig .tc := ⟨.hbm, 42, rfl⟩
abbrev main_v0_1 : Ref sig .tc := ⟨.hbm, 43, rfl⟩
abbrev main_v0_2 : Ref sig .tc := ⟨.hbm, 44, rfl⟩
abbrev main_v0_3 : Ref sig .tc := ⟨.hbm, 45, rfl⟩
abbrev main_v0_4 : Ref sig .tc := ⟨.hbm, 46, rfl⟩
abbrev main_v0_5 : Ref sig .tc := ⟨.hbm, 47, rfl⟩
abbrev main_v0_6 : Ref sig .tc := ⟨.hbm, 48, rfl⟩
abbrev main_v0_7 : Ref sig .tc := ⟨.hbm, 49, rfl⟩
abbrev main_v0_8 : Ref sig .tc := ⟨.hbm, 50, rfl⟩
abbrev main_v0_9 : Ref sig .tc := ⟨.hbm, 51, rfl⟩
abbrev main_v0_10 : Ref sig .tc := ⟨.hbm, 52, rfl⟩
abbrev main_v0_11 : Ref sig .tc := ⟨.hbm, 53, rfl⟩
abbrev main_v0_12 : Ref sig .tc := ⟨.hbm, 54, rfl⟩
abbrev main_v0_13 : Ref sig .tc := ⟨.hbm, 55, rfl⟩
abbrev main_v0_14 : Ref sig .tc := ⟨.hbm, 56, rfl⟩
abbrev main_v0_15 : Ref sig .tc := ⟨.hbm, 57, rfl⟩
abbrev main_v0_16 : Ref sig .tc := ⟨.hbm, 58, rfl⟩
abbrev main_v0_17 : Ref sig .tc := ⟨.hbm, 59, rfl⟩
abbrev main_v0_18 : Ref sig .tc := ⟨.hbm, 60, rfl⟩
abbrev main_v0_19 : Ref sig .tc := ⟨.hbm, 61, rfl⟩
abbrev main_v0_20 : Ref sig .tc := ⟨.hbm, 62, rfl⟩
abbrev main_v0_21 : Ref sig .tc := ⟨.hbm, 63, rfl⟩
abbrev main_v0_22 : Ref sig .tc := ⟨.hbm, 64, rfl⟩
abbrev main_v0_23 : Ref sig .tc := ⟨.hbm, 65, rfl⟩
abbrev main_v0_24 : Ref sig .tc := ⟨.hbm, 66, rfl⟩
abbrev main_v0_25 : Ref sig .tc := ⟨.hbm, 67, rfl⟩
abbrev main_v0_26 : Ref sig .tc := ⟨.hbm, 68, rfl⟩
abbrev main_v0_27 : Ref sig .tc := ⟨.hbm, 69, rfl⟩
abbrev main_v0_28 : Ref sig .tc := ⟨.hbm, 70, rfl⟩
abbrev main_v0_29 : Ref sig .tc := ⟨.hbm, 71, rfl⟩
abbrev main_v0_30 : Ref sig .tc := ⟨.hbm, 72, rfl⟩
abbrev main_v0_31 : Ref sig .tc := ⟨.hbm, 73, rfl⟩
abbrev main_v0_32 : Ref sig .tc := ⟨.hbm, 74, rfl⟩
abbrev main_v0_33 : Ref sig .tc := ⟨.hbm, 75, rfl⟩
abbrev main_v0_34 : Ref sig .tc := ⟨.hbm, 76, rfl⟩
abbrev main_v0_35 : Ref sig .tc := ⟨.hbm, 77, rfl⟩
abbrev main_v0_36 : Ref sig .tc := ⟨.hbm, 78, rfl⟩
abbrev main_v0_37 : Ref sig .tc := ⟨.hbm, 79, rfl⟩
abbrev main_v0_38 : Ref sig .tc := ⟨.hbm, 80, rfl⟩
abbrev main_v0_39 : Ref sig .tc := ⟨.hbm, 81, rfl⟩
abbrev main_v0_40 : Ref sig .tc := ⟨.hbm, 82, rfl⟩
abbrev main_v0_41 : Ref sig .tc := ⟨.hbm, 83, rfl⟩
abbrev main_v0_42 : Ref sig .tc := ⟨.hbm, 84, rfl⟩
abbrev main_v0_43 : Ref sig .tc := ⟨.hbm, 85, rfl⟩
abbrev main_v0_44 : Ref sig .tc := ⟨.hbm, 86, rfl⟩
abbrev main_v0_45 : Ref sig .tc := ⟨.hbm, 87, rfl⟩
abbrev main_v0_46 : Ref sig .tc := ⟨.hbm, 88, rfl⟩
abbrev main_v0_47 : Ref sig .tc := ⟨.hbm, 89, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S40x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S520x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x32 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x32 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S16x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x256 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S512x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S512x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S512x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S4x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S4x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S4x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x1024 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x1024 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S16x32 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S16x32 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S16x32 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S16x32 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x256 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x256 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x256 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x256 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S16x32 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S16x32 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S16x32 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S16x32 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x256 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x256 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x256 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x256 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x512 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x512 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x512 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x512 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x512 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x512 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x512 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x512 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x512 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x512 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S512x128 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S512x128 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S512x128 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S512x128 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S4x128 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S4x128 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S4x128 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S4x128 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S1x1024 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S1x1024 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S1x1024 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S1x1024 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S1x1024 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S1x1024 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S1x1024 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S1x1024 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))
-- ==== Reference8Ideal.lean ====
abbrev S8x1024 : Shape := ⟨2, ![8, 1024]⟩
abbrev S16x32 : Shape := ⟨2, ![16, 32]⟩
abbrev S40x256 : Shape := ⟨2, ![40, 256]⟩
abbrev S8x512 : Shape := ⟨2, ![8, 512]⟩
abbrev S520x128 : Shape := ⟨2, ![520, 128]⟩
abbrev S1x1024 : Shape := ⟨2, ![1, 1024]⟩
abbrev S1x256 : Shape := ⟨2, ![1, 256]⟩
abbrev S1x512 : Shape := ⟨2, ![1, 512]⟩
abbrev S512x128 : Shape := ⟨2, ![512, 128]⟩
abbrev S4x128 : Shape := ⟨2, ![4, 128]⟩
abbrev S_ : Shape := ⟨0, ![]⟩

abbrev nBuf : Space → Nat
  | .hbm => 448
  | .vmem => 0
  | .smem => 0
  | _ => 0

abbrev hbmTy0_0 (i : Nat) : BufTy := match i % 128 with
  | 0 => ⟨S8x1024, .f32⟩
  | 1 => ⟨S16x32, .f32⟩
  | 2 => ⟨S40x256, .f32⟩
  | 3 => ⟨S16x32, .f32⟩
  | 4 => ⟨S8x512, .f32⟩
  | 5 => ⟨S520x128, .f32⟩
  | 6 => ⟨S1x1024, .f32⟩
  | 7 => ⟨S1x1024, .f32⟩
  | 8 => ⟨S1x1024, .f32⟩
  | 9 => ⟨S16x32, .f32⟩
  | 10 => ⟨S16x32, .f32⟩
  | 11 => ⟨S16x32, .f32⟩
  | 12 => ⟨S1x256, .f32⟩
  | 13 => ⟨S1x256, .f32⟩
  | 14 => ⟨S1x256, .f32⟩
  | 15 => ⟨S16x32, .f32⟩
  | 16 => ⟨S16x32, .f32⟩
  | 17 => ⟨S16x32, .f32⟩
  | 18 => ⟨S1x256, .f32⟩
  | 19 => ⟨S1x256, .f32⟩
  | 20 => ⟨S1x256, .f32⟩
  | 21 => ⟨S1x512, .f32⟩
  | 22 => ⟨S1x512, .f32⟩
  | 23 => ⟨S1x512, .f32⟩
  | 24 => ⟨S1x512, .f32⟩
  | 25 => ⟨S1x512, .f32⟩
  | 26 => ⟨S1x512, .f32⟩
  | 27 => ⟨S1x512, .f32⟩
  | 28 => ⟨S1x512, .f32⟩
  | 29 => ⟨S1x512, .f32⟩
  | 30 => ⟨S512x128, .f32⟩
  | 31 => ⟨S512x128, .f32⟩
  | 32 => ⟨S512x128, .f32⟩
  | 33 => ⟨S4x128, .f32⟩
  | 34 => ⟨S4x128, .f32⟩
  | 35 => ⟨S4x128, .f32⟩
  | 36 => ⟨S1x1024, .f32⟩
  | 37 => ⟨S1x1024, .f32⟩
  | 38 => ⟨S1x1024, .f32⟩
  | 39 => ⟨S1x1024, .f32⟩
  | 40 => ⟨S1x1024, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S1x1024, .f32⟩
  | 50 => ⟨S_, .f32⟩
  | 51 => ⟨S1x1024, .f32⟩
  | 52 => ⟨S1x1024, .f32⟩
  | 53 => ⟨S1x1024, .f32⟩
  | 54 => ⟨S_, .f32⟩
  | 55 => ⟨S1x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S_, .f32⟩
  | 77 => ⟨S16x32, .f32⟩
  | 78 => ⟨S16x32, .f32⟩
  | 79 => ⟨S_, .f32⟩
  | 80 => ⟨S16x32, .f32⟩
  | 81 => ⟨S16x32, .f32⟩
  | 82 => ⟨S16x32, .f32⟩
  | 83 => ⟨S_, .f32⟩
  | 84 => ⟨S16x32, .f32⟩
  | 85 => ⟨S16x32, .f32⟩
  | 86 => ⟨S16x32, .f32⟩
  | 87 => ⟨S_, .f32⟩
  | 88 => ⟨S16x32, .f32⟩
  | 89 => ⟨S16x32, .f32⟩
  | 90 => ⟨S16x32, .f32⟩
  | 91 => ⟨S_, .f32⟩
  | 92 => ⟨S16x32, .f32⟩
  | 93 => ⟨S16x32, .f32⟩
  | 94 => ⟨S_, .f32⟩
  | 95 => ⟨S16x32, .f32⟩
  | 96 => ⟨S16x32, .f32⟩
  | 97 => ⟨S16x32, .f32⟩
  | 98 => ⟨S_, .f32⟩
  | 99 => ⟨S16x32, .f32⟩
  | 100 => ⟨S16x32, .f32⟩
  | 101 => ⟨S16x32, .f32⟩
  | 102 => ⟨S_, .f32⟩
  | 103 => ⟨S16x32, .f32⟩
  | 104 => ⟨S16x32, .f32⟩
  | 105 => ⟨S16x32, .f32⟩
  | 106 => ⟨S_, .f32⟩
  | 107 => ⟨S16x32, .f32⟩
  | 108 => ⟨S16x32, .f32⟩
  | 109 => ⟨S1x256, .f32⟩
  | 110 => ⟨S_, .f32⟩
  | 111 => ⟨S1x256, .f32⟩
  | 112 => ⟨S1x256, .f32⟩
  | 113 => ⟨S_, .f32⟩
  | 114 => ⟨S1x256, .f32⟩
  | 115 => ⟨S1x256, .f32⟩
  | 116 => ⟨S1x256, .f32⟩
  | 117 => ⟨S_, .f32⟩
  | 118 => ⟨S1x256, .f32⟩
  | 119 => ⟨S1x256, .f32⟩
  | 120 => ⟨S1x256, .f32⟩
  | 121 => ⟨S_, .f32⟩
  | 122 => ⟨S1x256, .f32⟩
  | 123 => ⟨S1x256, .f32⟩
  | 124 => ⟨S1x256, .f32⟩
  | 125 => ⟨S_, .f32⟩
  | 126 => ⟨S1x256, .f32⟩
  | 127 => ⟨S1x256, .f32⟩
  | _ => ⟨S8x1024, .f32⟩

abbrev hbmTy0_1 (i : Nat) : BufTy := match i % 128 with
  | 0 => ⟨S_, .f32⟩
  | 1 => ⟨S1x256, .f32⟩
  | 2 => ⟨S1x256, .f32⟩
  | 3 => ⟨S1x256, .f32⟩
  | 4 => ⟨S_, .f32⟩
  | 5 => ⟨S1x256, .f32⟩
  | 6 => ⟨S1x256, .f32⟩
  | 7 => ⟨S1x256, .f32⟩
  | 8 => ⟨S_, .f32⟩
  | 9 => ⟨S1x256, .f32⟩
  | 10 => ⟨S1x256, .f32⟩
  | 11 => ⟨S1x256, .f32⟩
  | 12 => ⟨S_, .f32⟩
  | 13 => ⟨S1x256, .f32⟩
  | 14 => ⟨S1x256, .f32⟩
  | 15 => ⟨S_, .f32⟩
  | 16 => ⟨S16x32, .f32⟩
  | 17 => ⟨S16x32, .f32⟩
  | 18 => ⟨S_, .f32⟩
  | 19 => ⟨S16x32, .f32⟩
  | 20 => ⟨S16x32, .f32⟩
  | 21 => ⟨S16x32, .f32⟩
  | 22 => ⟨S_, .f32⟩
  | 23 => ⟨S16x32, .f32⟩
  | 24 => ⟨S16x32, .f32⟩
  | 25 => ⟨S16x32, .f32⟩
  | 26 => ⟨S_, .f32⟩
  | 27 => ⟨S16x32, .f32⟩
  | 28 => ⟨S16x32, .f32⟩
  | 29 => ⟨S16x32, .f32⟩
  | 30 => ⟨S_, .f32⟩
  | 31 => ⟨S16x32, .f32⟩
  | 32 => ⟨S16x32, .f32⟩
  | 33 => ⟨S_, .f32⟩
  | 34 => ⟨S16x32, .f32⟩
  | 35 => ⟨S16x32, .f32⟩
  | 36 => ⟨S16x32, .f32⟩
  | 37 => ⟨S_, .f32⟩
  | 38 => ⟨S16x32, .f32⟩
  | 39 => ⟨S16x32, .f32⟩
  | 40 => ⟨S16x32, .f32⟩
  | 41 => ⟨S_, .f32⟩
  | 42 => ⟨S16x32, .f32⟩
  | 43 => ⟨S16x32, .f32⟩
  | 44 => ⟨S16x32, .f32⟩
  | 45 => ⟨S_, .f32⟩
  | 46 => ⟨S16x32, .f32⟩
  | 47 => ⟨S16x32, .f32⟩
  | 48 => ⟨S1x256, .f32⟩
  | 49 => ⟨S_, .f32⟩
  | 50 => ⟨S1x256, .f32⟩
  | 51 => ⟨S1x256, .f32⟩
  | 52 => ⟨S_, .f32⟩
  | 53 => ⟨S1x256, .f32⟩
  | 54 => ⟨S1x256, .f32⟩
  | 55 => ⟨S1x256, .f32⟩
  | 56 => ⟨S_, .f32⟩
  | 57 => ⟨S1x256, .f32⟩
  | 58 => ⟨S1x256, .f32⟩
  | 59 => ⟨S1x256, .f32⟩
  | 60 => ⟨S_, .f32⟩
  | 61 => ⟨S1x256, .f32⟩
  | 62 => ⟨S1x256, .f32⟩
  | 63 => ⟨S1x256, .f32⟩
  | 64 => ⟨S_, .f32⟩
  | 65 => ⟨S1x256, .f32⟩
  | 66 => ⟨S1x256, .f32⟩
  | 67 => ⟨S_, .f32⟩
  | 68 => ⟨S1x256, .f32⟩
  | 69 => ⟨S1x256, .f32⟩
  | 70 => ⟨S1x256, .f32⟩
  | 71 => ⟨S_, .f32⟩
  | 72 => ⟨S1x256, .f32⟩
  | 73 => ⟨S1x256, .f32⟩
  | 74 => ⟨S1x256, .f32⟩
  | 75 => ⟨S_, .f32⟩
  | 76 => ⟨S1x256, .f32⟩
  | 77 => ⟨S1x256, .f32⟩
  | 78 => ⟨S1x256, .f32⟩
  | 79 => ⟨S_, .f32⟩
  | 80 => ⟨S1x256, .f32⟩
  | 81 => ⟨S1x256, .f32⟩
  | 82 => ⟨S1x512, .f32⟩
  | 83 => ⟨S_, .f32⟩
  | 84 => ⟨S1x512, .f32⟩
  | 85 => ⟨S1x512, .f32⟩
  | 86 => ⟨S_, .f32⟩
  | 87 => ⟨S1x512, .f32⟩
  | 88 => ⟨S1x512, .f32⟩
  | 89 => ⟨S1x512, .f32⟩
  | 90 => ⟨S_, .f32⟩
  | 91 => ⟨S1x512, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S_, .f32⟩
  | 102 => ⟨S1x512, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S1x512, .f32⟩
  | _ => ⟨S8x1024, .f32⟩

abbrev hbmTy0_2 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S1x512, .f32⟩
  | 30 => ⟨S_, .f32⟩
  | 31 => ⟨S1x512, .f32⟩
  | 32 => ⟨S1x512, .f32⟩
  | 33 => ⟨S1x512, .f32⟩
  | 34 => ⟨S_, .f32⟩
  | 35 => ⟨S1x512, .f32⟩
  | 36 => ⟨S1x512, .f32⟩
  | 37 => ⟨S1x512, .f32⟩
  | 38 => ⟨S_, .f32⟩
  | 39 => ⟨S1x512, .f32⟩
  | 40 => ⟨S1x512, .f32⟩
  | 41 => ⟨S_, .f32⟩
  | 42 => ⟨S1x512, .f32⟩
  | 43 => ⟨S1x512, .f32⟩
  | 44 => ⟨S1x512, .f32⟩
  | 45 => ⟨S_, .f32⟩
  | 46 => ⟨S1x512, .f32⟩
  | 47 => ⟨S1x512, .f32⟩
  | 48 => ⟨S1x512, .f32⟩
  | 49 => ⟨S_, .f32⟩
  | 50 => ⟨S1x512, .f32⟩
  | 51 => ⟨S1x512, .f32⟩
  | 52 => ⟨S1x512, .f32⟩
  | 53 => ⟨S_, .f32⟩
  | 54 => ⟨S1x512, .f32⟩
  | 55 => ⟨S1x512, .f32⟩
  | 56 => ⟨S512x128, .f32⟩
  | 57 => ⟨S_, .f32⟩
  | 58 => ⟨S512x128, .f32⟩
  | 59 => ⟨S512x128, .f32⟩
  | 60 => ⟨S_, .f32⟩
  | 61 => ⟨S512x128, .f32⟩
  | 62 => ⟨S512x128, .f32⟩
  | 63 => ⟨S512x128, .f32⟩
  | 64 => ⟨S_, .f32⟩
  | 65 => ⟨S512x128, .f32⟩
  | 66 => ⟨S512x128, .f32⟩
  | 67 => ⟨S512x128, .f32⟩
  | 68 => ⟨S_, .f32⟩
  | 69 => ⟨S512x128, .f32⟩
  | 70 => ⟨S512x128, .f32⟩
  | 71 => ⟨S512x128, .f32⟩
  | 72 => ⟨S_, .f32⟩
  | 73 => ⟨S512x128, .f32⟩
  | 74 => ⟨S512x128, .f32⟩
  | 75 => ⟨S_, .f32⟩
  | 76 => ⟨S512x128, .f32⟩
  | 77 => ⟨S512x128, .f32⟩
  | 78 => ⟨S512x128, .f32⟩
  | 79 => ⟨S_, .f32⟩
  | 80 => ⟨S512x128, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S_, .f32⟩
  | 88 => ⟨S512x128, .f32⟩
  | 89 => ⟨S512x128, .f32⟩
  | 90 => ⟨S4x128, .f32⟩
  | 91 => ⟨S_, .f32⟩
  | 92 => ⟨S4x128, .f32⟩
  | 93 => ⟨S4x128, .f32⟩
  | 94 => ⟨S_, .f32⟩
  | 95 => ⟨S4x128, .f32⟩
  | 96 => ⟨S4x128, .f32⟩
  | 97 => ⟨S4x128, .f32⟩
  | 98 => ⟨S_, .f32⟩
  | 99 => ⟨S4x128, .f32⟩
  | 100 => ⟨S4x128, .f32⟩
  | 101 => ⟨S4x128, .f32⟩
  | 102 => ⟨S_, .f32⟩
  | 103 => ⟨S4x128, .f32⟩
  | 104 => ⟨S4x128, .f32⟩
  | 105 => ⟨S4x128, .f32⟩
  | 106 => ⟨S_, .f32⟩
  | 107 => ⟨S4x128, .f32⟩
  | 108 => ⟨S4x128, .f32⟩
  | 109 => ⟨S_, .f32⟩
  | 110 => ⟨S4x128, .f32⟩
  | 111 => ⟨S4x128, .f32⟩
  | 112 => ⟨S4x128, .f32⟩
  | 113 => ⟨S_, .f32⟩
  | 114 => ⟨S4x128, .f32⟩
  | 115 => ⟨S4x128, .f32⟩
  | 116 => ⟨S4x128, .f32⟩
  | 117 => ⟨S_, .f32⟩
  | 118 => ⟨S4x128, .f32⟩
  | 119 => ⟨S4x128, .f32⟩
  | 120 => ⟨S4x128, .f32⟩
  | 121 => ⟨S_, .f32⟩
  | 122 => ⟨S4x128, .f32⟩
  | 123 => ⟨S4x128, .f32⟩
  | 124 => ⟨S1x1024, .f32⟩
  | 125 => ⟨S_, .f32⟩
  | 126 => ⟨S1x1024, .f32⟩
  | 127 => ⟨S1x1024, .f32⟩
  | _ => ⟨S8x1024, .f32⟩

abbrev hbmTy0_3 (i : Nat) : BufTy := match i % 128 with
  | 0 => ⟨S_, .f32⟩
  | 1 => ⟨S1x1024, .f32⟩
  | 2 => ⟨S1x1024, .f32⟩
  | 3 => ⟨S1x1024, .f32⟩
  | 4 => ⟨S_, .f32⟩
  | 5 => ⟨S1x1024, .f32⟩
  | 6 => ⟨S1x1024, .f32⟩
  | 7 => ⟨S1x1024, .f32⟩
  | 8 => ⟨S_, .f32⟩
  | 9 => ⟨S1x1024, .f32⟩
  | 10 => ⟨S1x1024, .f32⟩
  | 11 => ⟨S1x1024, .f32⟩
  | 12 => ⟨S_, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S1x1024, .f32⟩
  | 27 => ⟨S_, .f32⟩
  | 28 => ⟨S1x1024, .f32⟩
  | 29 => ⟨S1x1024, .f32⟩
  | 30 => ⟨S1x1024, .f32⟩
  | 31 => ⟨S_, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S1x1024, .f32⟩
  | 42 => ⟨S_, .f32⟩
  | 43 => ⟨S1x1024, .f32⟩
  | 44 => ⟨S1x1024, .f32⟩
  | 45 => ⟨S1x1024, .f32⟩
  | 46 => ⟨S_, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | _ => ⟨S8x1024, .f32⟩

abbrev hbmTy (i : Nat) : BufTy := match i / 128 with
  | 0 => hbmTy0_0 i
  | 1 => hbmTy0_1 i
  | 2 => hbmTy0_2 i
  | 3 => hbmTy0_3 i
  | _ => ⟨S8x1024, .f32⟩

abbrev bufTy : (tb : Table) → Fin (tcTables nBuf tb) → BufTy
  | .hbm, ⟨i, _⟩ => hbmTy i
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_v0 : Ref sig .tc := ⟨.hbm, 42, rfl⟩
abbrev main_cst : Ref sig .tc := ⟨.hbm, 43, rfl⟩
abbrev main_v1 : Ref sig .tc := ⟨.hbm, 44, rfl⟩
abbrev main_v2 : Ref sig .tc := ⟨.hbm, 45, rfl⟩
abbrev main_cst_0 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst_1 : Ref sig .tc := ⟨.hbm, 50, rfl⟩
abbrev main_v6 : Ref sig .tc := ⟨.hbm, 51, rfl⟩
abbrev main_v7 : Ref sig .tc := ⟨.hbm, 52, rfl⟩
abbrev main_v8 : Ref sig .tc := ⟨.hbm, 53, rfl⟩
abbrev main_cst_2 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_cst_3 : Ref sig .tc := ⟨.hbm, 58, rfl⟩
abbrev main_v12 : Ref sig .tc := ⟨.hbm, 59, rfl⟩
abbrev main_v13 : Ref sig .tc := ⟨.hbm, 60, rfl⟩
abbrev main_cst_4 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_cst_5 : Ref sig .tc := ⟨.hbm, 65, rfl⟩
abbrev main_v17 : Ref sig .tc := ⟨.hbm, 66, rfl⟩
abbrev main_v18 : Ref sig .tc := ⟨.hbm, 67, rfl⟩
abbrev main_v19 : Ref sig .tc := ⟨.hbm, 68, rfl⟩
abbrev main_cst_6 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_cst_7 : Ref sig .tc := ⟨.hbm, 73, rfl⟩
abbrev main_v23 : Ref sig .tc := ⟨.hbm, 74, rfl⟩
abbrev main_v24 : Ref sig .tc := ⟨.hbm, 75, rfl⟩
abbrev main_cst_8 : Ref sig .tc := ⟨.hbm, 76, rfl⟩
abbrev main_v25 : Ref sig .tc := ⟨.hbm, 77, rfl⟩
abbrev main_v26 : Ref sig .tc := ⟨.hbm, 78, rfl⟩
abbrev main_cst_9 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_cst_10 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_cst_11 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_cst_12 : Ref sig .tc := ⟨.hbm, 91, rfl⟩
abbrev main_v36 : Ref sig .tc := ⟨.hbm, 92, rfl⟩
abbrev main_v37 : Ref sig .tc := ⟨.hbm, 93, rfl⟩
abbrev main_cst_13 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_14 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_15 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_16 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_cst_17 : Ref sig .tc := ⟨.hbm, 110, rfl⟩
abbrev main_v50 : Ref sig .tc := ⟨.hbm, 111, rfl⟩
abbrev main_v51 : Ref sig .tc := ⟨.hbm, 112, rfl⟩
abbrev main_cst_18 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_19 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_20 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_cst_21 : Ref sig .tc := ⟨.hbm, 125, rfl⟩
abbrev main_v61 : Ref sig .tc := ⟨.hbm, 126, rfl⟩
abbrev main_v62 : Ref sig .tc := ⟨.hbm, 127, rfl⟩
abbrev main_cst_22 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_cst_23 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_24 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_25 : Ref sig .tc := ⟨.hbm, 140, rfl⟩
abbrev main_v72 : Ref sig .tc := ⟨.hbm, 141, rfl⟩
abbrev main_v73 : Ref sig .tc := ⟨.hbm, 142, rfl⟩
abbrev main_cst_26 : Ref sig .tc := ⟨.hbm, 143, rfl⟩
abbrev main_v74 : Ref sig .tc := ⟨.hbm, 144, rfl⟩
abbrev main_v75 : Ref sig .tc := ⟨.hbm, 145, rfl⟩
abbrev main_cst_27 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_cst_28 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_cst_29 : Ref sig .tc := ⟨.hbm, 154, rfl⟩
abbrev main_v82 : Ref sig .tc := ⟨.hbm, 155, rfl⟩
abbrev main_v83 : Ref sig .tc := ⟨.hbm, 156, rfl⟩
abbrev main_v84 : Ref sig .tc := ⟨.hbm, 157, rfl⟩
abbrev main_cst_30 : Ref sig .tc := ⟨.hbm, 158, rfl⟩
abbrev main_v85 : Ref sig .tc := ⟨.hbm, 159, rfl⟩
abbrev main_v86 : Ref sig .tc := ⟨.hbm, 160, rfl⟩
abbrev main_cst_31 : Ref sig .tc := ⟨.hbm, 161, rfl⟩
abbrev main_v87 : Ref sig .tc := ⟨.hbm, 162, rfl⟩
abbrev main_v88 : Ref sig .tc := ⟨.hbm, 163, rfl⟩
abbrev main_v89 : Ref sig .tc := ⟨.hbm, 164, rfl⟩
abbrev main_cst_32 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_cst_33 : Ref sig .tc := ⟨.hbm, 169, rfl⟩
abbrev main_v93 : Ref sig .tc := ⟨.hbm, 170, rfl⟩
abbrev main_v94 : Ref sig .tc := ⟨.hbm, 171, rfl⟩
abbrev main_v95 : Ref sig .tc := ⟨.hbm, 172, rfl⟩
abbrev main_cst_34 : Ref sig .tc := ⟨.hbm, 173, rfl⟩
abbrev main_v96 : Ref sig .tc := ⟨.hbm, 174, rfl⟩
abbrev main_v97 : Ref sig .tc := ⟨.hbm, 175, rfl⟩
abbrev main_v98 : Ref sig .tc := ⟨.hbm, 176, rfl⟩
abbrev main_cst_35 : Ref sig .tc := ⟨.hbm, 177, rfl⟩
abbrev main_v99 : Ref sig .tc := ⟨.hbm, 178, rfl⟩
abbrev main_v100 : Ref sig .tc := ⟨.hbm, 179, rfl⟩
abbrev main_cst_36 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_cst_37 : Ref sig .tc := ⟨.hbm, 184, rfl⟩
abbrev main_v104 : Ref sig .tc := ⟨.hbm, 185, rfl⟩
abbrev main_v105 : Ref sig .tc := ⟨.hbm, 186, rfl⟩
abbrev main_v106 : Ref sig .tc := ⟨.hbm, 187, rfl⟩
abbrev main_cst_38 : Ref sig .tc := ⟨.hbm, 188, rfl⟩
abbrev main_v107 : Ref sig .tc := ⟨.hbm, 189, rfl⟩
abbrev main_v108 : Ref sig .tc := ⟨.hbm, 190, rfl⟩
abbrev main_v109 : Ref sig .tc := ⟨.hbm, 191, rfl⟩
abbrev main_cst_39 : Ref sig .tc := ⟨.hbm, 192, rfl⟩
abbrev main_v110 : Ref sig .tc := ⟨.hbm, 193, rfl⟩
abbrev main_v111 : Ref sig .tc := ⟨.hbm, 194, rfl⟩
abbrev main_cst_40 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_cst_41 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_cst_42 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst_43 : Ref sig .tc := ⟨.hbm, 207, rfl⟩
abbrev main_v121 : Ref sig .tc := ⟨.hbm, 208, rfl⟩
abbrev main_v122 : Ref sig .tc := ⟨.hbm, 209, rfl⟩
abbrev main_v123 : Ref sig .tc := ⟨.hbm, 210, rfl⟩
abbrev main_cst_44 : Ref sig .tc := ⟨.hbm, 211, rfl⟩
abbrev main_v124 : Ref sig .tc := ⟨.hbm, 212, rfl⟩
abbrev main_v125 : Ref sig .tc := ⟨.hbm, 213, rfl⟩
abbrev main_cst_45 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_cst_46 : Ref sig .tc := ⟨.hbm, 218, rfl⟩
abbrev main_v129 : Ref sig .tc := ⟨.hbm, 219, rfl⟩
abbrev main_v130 : Ref sig .tc := ⟨.hbm, 220, rfl⟩
abbrev main_v131 : Ref sig .tc := ⟨.hbm, 221, rfl⟩
abbrev main_cst_47 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_cst_48 : Ref sig .tc := ⟨.hbm, 226, rfl⟩
abbrev main_v135 : Ref sig .tc := ⟨.hbm, 227, rfl⟩
abbrev main_v136 : Ref sig .tc := ⟨.hbm, 228, rfl⟩
abbrev main_cst_49 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_cst_50 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_cst_51 : Ref sig .tc := ⟨.hbm, 237, rfl⟩
abbrev main_v143 : Ref sig .tc := ⟨.hbm, 238, rfl⟩
abbrev main_v144 : Ref sig .tc := ⟨.hbm, 239, rfl⟩
abbrev main_v145 : Ref sig .tc := ⟨.hbm, 240, rfl⟩
abbrev main_cst_52 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_53 : Ref sig .tc := ⟨.hbm, 245, rfl⟩
abbrev main_v149 : Ref sig .tc := ⟨.hbm, 246, rfl⟩
abbrev main_v150 : Ref sig .tc := ⟨.hbm, 247, rfl⟩
abbrev main_cst_54 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_cst_55 : Ref sig .tc := ⟨.hbm, 252, rfl⟩
abbrev main_v154 : Ref sig .tc := ⟨.hbm, 253, rfl⟩
abbrev main_v155 : Ref sig .tc := ⟨.hbm, 254, rfl⟩
abbrev main_v156 : Ref sig .tc := ⟨.hbm, 255, rfl⟩
abbrev main_cst_56 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_57 : Ref sig .tc := ⟨.hbm, 260, rfl⟩
abbrev main_v160 : Ref sig .tc := ⟨.hbm, 261, rfl⟩
abbrev main_v161 : Ref sig .tc := ⟨.hbm, 262, rfl⟩
abbrev main_cst_58 : Ref sig .tc := ⟨.hbm, 263, rfl⟩
abbrev main_v162 : Ref sig .tc := ⟨.hbm, 264, rfl⟩
abbrev main_v163 : Ref sig .tc := ⟨.hbm, 265, rfl⟩
abbrev main_v164 : Ref sig .tc := ⟨.hbm, 266, rfl⟩
abbrev main_cst_59 : Ref sig .tc := ⟨.hbm, 267, rfl⟩
abbrev main_v165 : Ref sig .tc := ⟨.hbm, 268, rfl⟩
abbrev main_v166 : Ref sig .tc := ⟨.hbm, 269, rfl⟩
abbrev main_v167 : Ref sig .tc := ⟨.hbm, 270, rfl⟩
abbrev main_cst_60 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_cst_61 : Ref sig .tc := ⟨.hbm, 275, rfl⟩
abbrev main_v171 : Ref sig .tc := ⟨.hbm, 276, rfl⟩
abbrev main_v172 : Ref sig .tc := ⟨.hbm, 277, rfl⟩
abbrev main_v173 : Ref sig .tc := ⟨.hbm, 278, rfl⟩
abbrev main_cst_62 : Ref sig .tc := ⟨.hbm, 279, rfl⟩
abbrev main_v174 : Ref sig .tc := ⟨.hbm, 280, rfl⟩
abbrev main_v175 : Ref sig .tc := ⟨.hbm, 281, rfl⟩
abbrev main_cst_63 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_64 : Ref sig .tc := ⟨.hbm, 286, rfl⟩
abbrev main_v179 : Ref sig .tc := ⟨.hbm, 287, rfl⟩
abbrev main_v180 : Ref sig .tc := ⟨.hbm, 288, rfl⟩
abbrev main_v181 : Ref sig .tc := ⟨.hbm, 289, rfl⟩
abbrev main_cst_65 : Ref sig .tc := ⟨.hbm, 290, rfl⟩
abbrev main_v182 : Ref sig .tc := ⟨.hbm, 291, rfl⟩
abbrev main_v183 : Ref sig .tc := ⟨.hbm, 292, rfl⟩
abbrev main_v184 : Ref sig .tc := ⟨.hbm, 293, rfl⟩
abbrev main_cst_66 : Ref sig .tc := ⟨.hbm, 294, rfl⟩
abbrev main_v185 : Ref sig .tc := ⟨.hbm, 295, rfl⟩
abbrev main_v186 : Ref sig .tc := ⟨.hbm, 296, rfl⟩
abbrev main_cst_67 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_68 : Ref sig .tc := ⟨.hbm, 301, rfl⟩
abbrev main_v190 : Ref sig .tc := ⟨.hbm, 302, rfl⟩
abbrev main_v191 : Ref sig .tc := ⟨.hbm, 303, rfl⟩
abbrev main_v192 : Ref sig .tc := ⟨.hbm, 304, rfl⟩
abbrev main_cst_69 : Ref sig .tc := ⟨.hbm, 305, rfl⟩
abbrev main_v193 : Ref sig .tc := ⟨.hbm, 306, rfl⟩
abbrev main_v194 : Ref sig .tc := ⟨.hbm, 307, rfl⟩
abbrev main_v195 : Ref sig .tc := ⟨.hbm, 308, rfl⟩
abbrev main_cst_70 : Ref sig .tc := ⟨.hbm, 309, rfl⟩
abbrev main_v196 : Ref sig .tc := ⟨.hbm, 310, rfl⟩
abbrev main_v197 : Ref sig .tc := ⟨.hbm, 311, rfl⟩
abbrev main_v198 : Ref sig .tc := ⟨.hbm, 312, rfl⟩
abbrev main_cst_71 : Ref sig .tc := ⟨.hbm, 313, rfl⟩
abbrev main_v199 : Ref sig .tc := ⟨.hbm, 314, rfl⟩
abbrev main_v200 : Ref sig .tc := ⟨.hbm, 315, rfl⟩
abbrev main_cst_72 : Ref sig .tc := ⟨.hbm, 316, rfl⟩
abbrev main_v201 : Ref sig .tc := ⟨.hbm, 317, rfl⟩
abbrev main_v202 : Ref sig .tc := ⟨.hbm, 318, rfl⟩
abbrev main_v203 : Ref sig .tc := ⟨.hbm, 319, rfl⟩
abbrev main_cst_73 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_cst_74 : Ref sig .tc := ⟨.hbm, 324, rfl⟩
abbrev main_v207 : Ref sig .tc := ⟨.hbm, 325, rfl⟩
abbrev main_v208 : Ref sig .tc := ⟨.hbm, 326, rfl⟩
abbrev main_v209 : Ref sig .tc := ⟨.hbm, 327, rfl⟩
abbrev main_cst_75 : Ref sig .tc := ⟨.hbm, 328, rfl⟩
abbrev main_v210 : Ref sig .tc := ⟨.hbm, 329, rfl⟩
abbrev main_v211 : Ref sig .tc := ⟨.hbm, 330, rfl⟩
abbrev main_cst_76 : Ref sig .tc := ⟨.hbm, 331, rfl⟩
abbrev main_v212 : Ref sig .tc := ⟨.hbm, 332, rfl⟩
abbrev main_v213 : Ref sig .tc := ⟨.hbm, 333, rfl⟩
abbrev main_v214 : Ref sig .tc := ⟨.hbm, 334, rfl⟩
abbrev main_cst_77 : Ref sig .tc := ⟨.hbm, 335, rfl⟩
abbrev main_v215 : Ref sig .tc := ⟨.hbm, 336, rfl⟩
abbrev main_v216 : Ref sig .tc := ⟨.hbm, 337, rfl⟩
abbrev main_v217 : Ref sig .tc := ⟨.hbm, 338, rfl⟩
abbrev main_cst_78 : Ref sig .tc := ⟨.hbm, 339, rfl⟩
abbrev main_v218 : Ref sig .tc := ⟨.hbm, 340, rfl⟩
abbrev main_v219 : Ref sig .tc := ⟨.hbm, 341, rfl⟩
abbrev main_v220 : Ref sig .tc := ⟨.hbm, 342, rfl⟩
abbrev main_cst_79 : Ref sig .tc := ⟨.hbm, 343, rfl⟩
abbrev main_v221 : Ref sig .tc := ⟨.hbm, 344, rfl⟩
abbrev main_v222 : Ref sig .tc := ⟨.hbm, 345, rfl⟩
abbrev main_v223 : Ref sig .tc := ⟨.hbm, 346, rfl⟩
abbrev main_cst_80 : Ref sig .tc := ⟨.hbm, 347, rfl⟩
abbrev main_v224 : Ref sig .tc := ⟨.hbm, 348, rfl⟩
abbrev main_v225 : Ref sig .tc := ⟨.hbm, 349, rfl⟩
abbrev main_cst_81 : Ref sig .tc := ⟨.hbm, 350, rfl⟩
abbrev main_v226 : Ref sig .tc := ⟨.hbm, 351, rfl⟩
abbrev main_v227 : Ref sig .tc := ⟨.hbm, 352, rfl⟩
abbrev main_v228 : Ref sig .tc := ⟨.hbm, 353, rfl⟩
abbrev main_cst_82 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_cst_83 : Ref sig .tc := ⟨.hbm, 358, rfl⟩
abbrev main_v232 : Ref sig .tc := ⟨.hbm, 359, rfl⟩
abbrev main_v233 : Ref sig .tc := ⟨.hbm, 360, rfl⟩
abbrev main_v234 : Ref sig .tc := ⟨.hbm, 361, rfl⟩
abbrev main_cst_84 : Ref sig .tc := ⟨.hbm, 362, rfl⟩
abbrev main_v235 : Ref sig .tc := ⟨.hbm, 363, rfl⟩
abbrev main_v236 : Ref sig .tc := ⟨.hbm, 364, rfl⟩
abbrev main_cst_85 : Ref sig .tc := ⟨.hbm, 365, rfl⟩
abbrev main_v237 : Ref sig .tc := ⟨.hbm, 366, rfl⟩
abbrev main_v238 : Ref sig .tc := ⟨.hbm, 367, rfl⟩
abbrev main_v239 : Ref sig .tc := ⟨.hbm, 368, rfl⟩
abbrev main_cst_86 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_cst_87 : Ref sig .tc := ⟨.hbm, 373, rfl⟩
abbrev main_v243 : Ref sig .tc := ⟨.hbm, 374, rfl⟩
abbrev main_v244 : Ref sig .tc := ⟨.hbm, 375, rfl⟩
abbrev main_v245 : Ref sig .tc := ⟨.hbm, 376, rfl⟩
abbrev main_cst_88 : Ref sig .tc := ⟨.hbm, 377, rfl⟩
abbrev main_v246 : Ref sig .tc := ⟨.hbm, 378, rfl⟩
abbrev main_v247 : Ref sig .tc := ⟨.hbm, 379, rfl⟩
abbrev main_v248 : Ref sig .tc := ⟨.hbm, 380, rfl⟩
abbrev main_cst_89 : Ref sig .tc := ⟨.hbm, 381, rfl⟩
abbrev main_v249 : Ref sig .tc := ⟨.hbm, 382, rfl⟩
abbrev main_v250 : Ref sig .tc := ⟨.hbm, 383, rfl⟩
abbrev main_cst_90 : Ref sig .tc := ⟨.hbm, 384, rfl⟩
abbrev main_v251 : Ref sig .tc := ⟨.hbm, 385, rfl⟩
abbrev main_v252 : Ref sig .tc := ⟨.hbm, 386, rfl⟩
abbrev main_v253 : Ref sig .tc := ⟨.hbm, 387, rfl⟩
abbrev main_cst_91 : Ref sig .tc := ⟨.hbm, 388, rfl⟩
abbrev main_v254 : Ref sig .tc := ⟨.hbm, 389, rfl⟩
abbrev main_v255 : Ref sig .tc := ⟨.hbm, 390, rfl⟩
abbrev main_v256 : Ref sig .tc := ⟨.hbm, 391, rfl⟩
abbrev main_cst_92 : Ref sig .tc := ⟨.hbm, 392, rfl⟩
abbrev main_v257 : Ref sig .tc := ⟨.hbm, 393, rfl⟩
abbrev main_v258 : Ref sig .tc := ⟨.hbm, 394, rfl⟩
abbrev main_v259 : Ref sig .tc := ⟨.hbm, 395, rfl⟩
abbrev main_cst_93 : Ref sig .tc := ⟨.hbm, 396, rfl⟩
abbrev main_v260 : Ref sig .tc := ⟨.hbm, 397, rfl⟩
abbrev main_v261 : Ref sig .tc := ⟨.hbm, 398, rfl⟩
abbrev main_cst_94 : Ref sig .tc := ⟨.hbm, 399, rfl⟩
abbrev main_v262 : Ref sig .tc := ⟨.hbm, 400, rfl⟩
abbrev main_v263 : Ref sig .tc := ⟨.hbm, 401, rfl⟩
abbrev main_v264 : Ref sig .tc := ⟨.hbm, 402, rfl⟩
abbrev main_cst_95 : Ref sig .tc := ⟨.hbm, 403, rfl⟩
abbrev main_v265 : Ref sig .tc := ⟨.hbm, 404, rfl⟩
abbrev main_v266 : Ref sig .tc := ⟨.hbm, 405, rfl⟩
abbrev main_v267 : Ref sig .tc := ⟨.hbm, 406, rfl⟩
abbrev main_cst_96 : Ref sig .tc := ⟨.hbm, 407, rfl⟩
abbrev main_v268 : Ref sig .tc := ⟨.hbm, 408, rfl⟩
abbrev main_v269 : Ref sig .tc := ⟨.hbm, 409, rfl⟩
abbrev main_v270 : Ref sig .tc := ⟨.hbm, 410, rfl⟩
abbrev main_cst_97 : Ref sig .tc := ⟨.hbm, 411, rfl⟩
abbrev main_v271 : Ref sig .tc := ⟨.hbm, 412, rfl⟩
abbrev main_v272 : Ref sig .tc := ⟨.hbm, 413, rfl⟩
abbrev main_v273 : Ref sig .tc := ⟨.hbm, 414, rfl⟩
abbrev main_cst_98 : Ref sig .tc := ⟨.hbm, 415, rfl⟩
abbrev main_v274 : Ref sig .tc := ⟨.hbm, 416, rfl⟩
abbrev main_v275 : Ref sig .tc := ⟨.hbm, 417, rfl⟩
abbrev main_cst_99 : Ref sig .tc := ⟨.hbm, 418, rfl⟩
abbrev main_v276 : Ref sig .tc := ⟨.hbm, 419, rfl⟩
abbrev main_v277 : Ref sig .tc := ⟨.hbm, 420, rfl⟩
abbrev main_v278 : Ref sig .tc := ⟨.hbm, 421, rfl⟩
abbrev main_cst_100 : Ref sig .tc := ⟨.hbm, 422, rfl⟩
abbrev main_v279 : Ref sig .tc := ⟨.hbm, 423, rfl⟩
abbrev main_v280 : Ref sig .tc := ⟨.hbm, 424, rfl⟩
abbrev main_v281 : Ref sig .tc := ⟨.hbm, 425, rfl⟩
abbrev main_cst_101 : Ref sig .tc := ⟨.hbm, 426, rfl⟩
abbrev main_v282 : Ref sig .tc := ⟨.hbm, 427, rfl⟩
abbrev main_v283 : Ref sig .tc := ⟨.hbm, 428, rfl⟩
abbrev main_v284 : Ref sig .tc := ⟨.hbm, 429, rfl⟩
abbrev main_cst_102 : Ref sig .tc := ⟨.hbm, 430, rfl⟩
abbrev main_v285 : Ref sig .tc := ⟨.hbm, 431, rfl⟩
abbrev main_v286 : Ref sig .tc := ⟨.hbm, 432, rfl⟩
abbrev main_cst_103 : Ref sig .tc := ⟨.hbm, 433, rfl⟩
abbrev main_v287 : Ref sig .tc := ⟨.hbm, 434, rfl⟩
abbrev main_v288 : Ref sig .tc := ⟨.hbm, 435, rfl⟩
abbrev main_v289 : Ref sig .tc := ⟨.hbm, 436, rfl⟩
abbrev main_cst_104 : Ref sig .tc := ⟨.hbm, 437, rfl⟩
abbrev main_v290 : Ref sig .tc := ⟨.hbm, 438, rfl⟩
abbrev main_v291 : Ref sig .tc := ⟨.hbm, 439, rfl⟩
abbrev main_v292 : Ref sig .tc := ⟨.hbm, 440, rfl⟩
abbrev main_cst_105 : Ref sig .tc := ⟨.hbm, 441, rfl⟩
abbrev main_v293 : Ref sig .tc := ⟨.hbm, 442, rfl⟩
abbrev main_v294 : Ref sig .tc := ⟨.hbm, 443, rfl⟩
abbrev main_v295 : Ref sig .tc := ⟨.hbm, 444, rfl⟩
abbrev main_cst_106 : Ref sig .tc := ⟨.hbm, 445, rfl⟩
abbrev main_v296 : Ref sig .tc := ⟨.hbm, 446, rfl⟩
abbrev main_v297 : Ref sig .tc := ⟨.hbm, 447, rfl⟩

abbrev nD : Nat := 1
abbrev τ : Topo := Topo.v7x

variable {F : FTy → Type} [FloatOps F]
-- ==== Kernel9.lean ====
abbrev S336x1024 : Shape := ⟨2, ![336, 1024]⟩
abbrev S3x336x1024 : Shape := ⟨3, ![3, 336, 1024]⟩
abbrev S322x1024 : Shape := ⟨2, ![322, 1024]⟩
abbrev S1x336x1024 : Shape := ⟨3, ![1, 336, 1024]⟩

abbrev nBuf : Space → Nat
  | .hbm => 9
  | .vmem => 9
  | .smem => 0
  | _ => 0

abbrev bufTy : (tb : Table) → Fin (tcTables nBuf tb) → BufTy
  | .hbm, ⟨0, _⟩ => ⟨S336x1024, .f32⟩
  | .hbm, ⟨1, _⟩ => ⟨S3x336x1024, .bf16⟩
  | .hbm, ⟨2, _⟩ => ⟨S322x1024, .f32⟩
  | .hbm, ⟨3, _⟩ => ⟨S322x1024, .f32⟩
  | .hbm, ⟨4, _⟩ => ⟨S322x1024, .f32⟩
  | .hbm, ⟨5, _⟩ => ⟨S322x1024, .f32⟩
  | .hbm, ⟨6, _⟩ => ⟨S322x1024, .f32⟩
  | .hbm, ⟨7, _⟩ => ⟨S322x1024, .f32⟩
  | .hbm, ⟨8, _⟩ => ⟨S322x1024, .f32⟩
  | .local _ .vmem, ⟨0, _⟩ => ⟨S336x1024, .f32⟩
  | .local _ .vmem, ⟨1, _⟩ => ⟨S3x336x1024, .bf16⟩
  | .local _ .vmem, ⟨2, _⟩ => ⟨S322x1024, .f32⟩
  | .local _ .vmem, ⟨3, _⟩ => ⟨S322x1024, .f32⟩
  | .local _ .vmem, ⟨4, _⟩ => ⟨S322x1024, .f32⟩
  | .local _ .vmem, ⟨5, _⟩ => ⟨S322x1024, .f32⟩
  | .local _ .vmem, ⟨6, _⟩ => ⟨S322x1024, .f32⟩
  | .local _ .vmem, ⟨7, _⟩ => ⟨S322x1024, .f32⟩
  | .local _ .vmem, ⟨8, _⟩ => ⟨S322x1024, .f32⟩
  | _, _ => ⟨S336x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S336x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x336x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S322x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S322x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S322x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S322x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S322x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S322x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S322x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S336x1024 : Shape := ⟨2, ![336, 1024]⟩
abbrev S3x336x1024 : Shape := ⟨3, ![3, 336, 1024]⟩
abbrev S322x1024 : Shape := ⟨2, ![322, 1024]⟩
abbrev S3x322x1024 : Shape := ⟨3, ![3, 322, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S336x1024, .f32⟩
  | .hbm, ⟨1, _⟩ => ⟨S3x336x1024, .bf16⟩
  | .hbm, ⟨2, _⟩ => ⟨S322x1024, .f32⟩
  | .hbm, ⟨3, _⟩ => ⟨S322x1024, .f32⟩
  | .hbm, ⟨4, _⟩ => ⟨S322x1024, .f32⟩
  | .hbm, ⟨5, _⟩ => ⟨S322x1024, .f32⟩
  | .hbm, ⟨6, _⟩ => ⟨S3x322x1024, .bf16⟩
  | .hbm, ⟨7, _⟩ => ⟨S3x322x1024, .f32⟩
  | .hbm, ⟨8, _⟩ => ⟨S_, .f32⟩
  | .hbm, ⟨9, _⟩ => ⟨S322x1024, .f32⟩
  | .hbm, ⟨10, _⟩ => ⟨S322x1024, .f32⟩
  | .hbm, ⟨11, _⟩ => ⟨S_, .f32⟩
  | .hbm, ⟨12, _⟩ => ⟨S322x1024, .f32⟩
  | .hbm, ⟨13, _⟩ => ⟨S322x1024, .f32⟩
  | .hbm, ⟨14, _⟩ => ⟨S_, .f32⟩
  | .hbm, ⟨15, _⟩ => ⟨S322x1024, .f32⟩
  | .hbm, ⟨16, _⟩ => ⟨S322x1024, .f32⟩
  | .hbm, ⟨17, _⟩ => ⟨S322x1024, .f32⟩
  | .hbm, ⟨18, _⟩ => ⟨S_, .f32⟩
  | .hbm, ⟨19, _⟩ => ⟨S322x1024, .f32⟩
  | .hbm, ⟨20, _⟩ => ⟨S322x1024, .f32⟩
  | .hbm, ⟨21, _⟩ => ⟨S322x1024, .f32⟩
  | .hbm, ⟨22, _⟩ => ⟨S_, .f32⟩
  | .hbm, ⟨23, _⟩ => ⟨S322x1024, .f32⟩
  | .hbm, ⟨24, _⟩ => ⟨S322x1024, .f32⟩
  | .hbm, ⟨25, _⟩ => ⟨S322x1024, .f32⟩
  | .hbm, ⟨26, _⟩ => ⟨S_, .f32⟩
  | .hbm, ⟨27, _⟩ => ⟨S322x1024, .f32⟩
  | .hbm, ⟨28, _⟩ => ⟨S322x1024, .f32⟩
  | .hbm, ⟨29, _⟩ => ⟨S_, .f32⟩
  | .hbm, ⟨30, _⟩ => ⟨S322x1024, .f32⟩
  | .hbm, ⟨31, _⟩ => ⟨S322x1024, .f32⟩
  | .hbm, ⟨32, _⟩ => ⟨S322x1024, .f32⟩
  | .hbm, ⟨33, _⟩ => ⟨S_, .f32⟩
  | .hbm, ⟨34, _⟩ => ⟨S322x1024, .f32⟩
  | .hbm, ⟨35, _⟩ => ⟨S322x1024, .f32⟩
  | .hbm, ⟨36, _⟩ => ⟨S322x1024, .f32⟩
  | .hbm, ⟨37, _⟩ => ⟨S_, .f32⟩
  | .hbm, ⟨38, _⟩ => ⟨S322x1024, .f32⟩
  | .hbm, ⟨39, _⟩ => ⟨S322x1024, .f32⟩
  | .hbm, ⟨40, _⟩ => ⟨S322x1024, .f32⟩
  | .hbm, ⟨41, _⟩ => ⟨S_, .f32⟩
  | .hbm, ⟨42, _⟩ => ⟨S322x1024, .f32⟩
  | .hbm, ⟨43, _⟩ => ⟨S322x1024, .f32⟩
  | _, _ => ⟨S336x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Body.lean ====
/-
  What the kernel's run leaves at each grid point, in its own operations: the six blocks it writes are functions of the
  point's input blocks; each of the three running sums is what the point before left (zero at the first) with the point's
  share added.
-/
module

public import proofs.«01_k».proof.Proof.Gen.KernelIdeal.Value
public import Idealize.ShloMosaic.Lib.Pipeline.ValueKit.Acc

@[expose] public section

noncomputable section

namespace Body

open Cert.KernelIdeal Cert.KernelIdeal.Gen Idealize.ShloMosaic Idealize.ShloMosaic.TcCoe Idealize.SL.Sem

variable {F : FTy → Type} [FloatOps F]

/-! ## The values of one block of tokens -/

section
variable (b0 b1 : Vec F S256x1024 .f32) (b2 b3 : Vec F S1x1024 .f32) (b4 b5 b6 : Vec F S2816x1024 .bf16)

def sig : FVec F S256x2816 .f32 := k0_pay14 b0 b2 b4
def actB : FVec F S256x2816 .bf16 := k0_pay17 (k0_pay12 b0 b2 b4) (k0_pay13 b0 b2 b5) (sig b0 b2 b4)
def rs2 : FVec F S256x1 .f32 := k0_pay19 b0 (k0_pay12 b0 b2 b4) (k0_pay13 b0 b2 b5) (sig b0 b2 b4) b6
def nrm2 : FVec F S256x1024 .f32 := k0_pay20 b0 (k0_pay12 b0 b2 b4) (k0_pay13 b0 b2 b5) (sig b0 b2 b4) b6
def errB : FVec F S256x1024 .f32 := k0_pay21 b0 (k0_pay8 b3) (k0_pay12 b0 b2 b4) (k0_pay13 b0 b2 b5) (sig b0 b2 b4) b6 b1
def lossB : FVec F S8x128 .f32 := k0_pay23 b0 (k0_pay8 b3) (k0_pay12 b0 b2 b4) (k0_pay13 b0 b2 b5) (sig b0 b2 b4) b6 b1
def dx2B : FVec F S256x1024 .f32 :=
  k0_pay27 (k0_pay8 b3) (rs2 b0 b2 b4 b5 b6) (nrm2 b0 b2 b4 b5 b6) (errB b0 b1 b2 b3 b4 b5 b6)
def dx2H : FVec F S256x1024 .bf16 :=
  k0_pay28 (k0_pay8 b3) (rs2 b0 b2 b4 b5 b6) (nrm2 b0 b2 b4 b5 b6) (errB b0 b1 b2 b3 b4 b5 b6)
def dgateB : FVec F S256x2816 .bf16 :=
  k0_pay30 (k0_pay8 b3) (k0_pay13 b0 b2 b5) (k0_pay16 (k0_pay12 b0 b2 b4) (sig b0 b2 b4)) (rs2 b0 b2 b4 b5 b6)
    (nrm2 b0 b2 b4 b5 b6) (errB b0 b1 b2 b3 b4 b5 b6) b6
def dupB : FVec F S256x2816 .bf16 :=
  k0_pay31 (k0_pay8 b3) (k0_pay15 (k0_pay12 b0 b2 b4) (sig b0 b2 b4)) (rs2 b0 b2 b4 b5 b6)
    (nrm2 b0 b2 b4 b5 b6) (errB b0 b1 b2 b3 b4 b5 b6) b6
def dx1B : FVec F S256x1024 .f32 :=
  k0_pay3 (k0_pay7 b2) (k0_pay9 b0) (k0_pay10 b0) (dx2B b0 b1 b2 b3 b4 b5 b6) (dgateB b0 b1 b2 b3 b4 b5 b6)
    (dupB b0 b1 b2 b3 b4 b5 b6) b4 b5
/-- The loss's running sum after the block. -/
def stepLoss (s : Vec F S8x128 .f32) : FVec F S8x128 .f32 := k0_pay24 (k0_pay22 s) (lossB b0 b1 b2 b3 b4 b5 b6)
/-- The final gain's gradient's running sum after the block. -/
def stepGf (s : Vec F S1x1024 .f32) : FVec F S1x1024 .f32 :=
  k0_pay26 (nrm2 b0 b2 b4 b5 b6) (errB b0 b1 b2 b3 b4 b5 b6) s
/-- The first gain's gradient's running sum after the block. -/
def stepG2 (s : Vec F S1x1024 .f32) : FVec F S1x1024 .f32 :=
  k0_pay2 (k0_pay10 b0) (dgateB b0 b1 b2 b3 b4 b5 b6) (dupB b0 b1 b2 b3 b4 b5 b6) b4 b5 s
end

/-! ## What a point leaves -/

variable (m : (ℓ : Loc nD τ Cert.KernelIdeal.sig) → Buf (Elt F) ℓ) (c : Dev nD) (t : Fin cfg0.N)

/-- The gradient of the block's input. -/
theorem out7 : (outsAt0 m c t.val t.isLt).1 = dx1B (iblk m c 0 t) (iblk m c 1 t) (iblk m c 2 t) (iblk m c 3 t) (iblk m c 4 t) (iblk m c 5 t) (iblk m c 6 t) := by
  by_cases h0 : t.val % 32 = 0
  · rw [outsAt0_A m c t h0]; frame_out; rfl
  · rw [outsAt0_B m c t h0]; frame_out; rfl

/-- The first norm's output. -/
theorem out8 : (outsAt0 m c t.val t.isLt).2.1 = k0_pay11 (iblk m c 0 t) (iblk m c 2 t) := by
  by_cases h0 : t.val % 32 = 0
  · rw [outsAt0_A m c t h0]; frame_out
  · rw [outsAt0_B m c t h0]; frame_out

/-- The gate's gradient. -/
theorem out9 : (outsAt0 m c t.val t.isLt).2.2.1 = dgateB (iblk m c 0 t) (iblk m c 1 t) (iblk m c 2 t) (iblk m c 3 t) (iblk m c 4 t) (iblk m c 5 t) (iblk m c 6 t) := by
  by_cases h0 : t.val % 32 = 0
  · rw [outsAt0_A m c t h0]; frame_out; rfl
  · rw [outsAt0_B m c t h0]; frame_out; rfl

/-- The gradient of the up product. -/
theorem out10 : (outsAt0 m c t.val t.isLt).2.2.2.1 = dupB (iblk m c 0 t) (iblk m c 1 t) (iblk m c 2 t) (iblk m c 3 t) (iblk m c 4 t) (iblk m c 5 t) (iblk m c 6 t) := by
  by_cases h0 : t.val % 32 = 0
  · rw [outsAt0_A m c t h0]; frame_out; rfl
  · rw [outsAt0_B m c t h0]; frame_out; rfl

/-- The gated product. -/
theorem out11 : (outsAt0 m c t.val t.isLt).2.2.2.2.1 = actB (iblk m c 0 t) (iblk m c 2 t) (iblk m c 4 t) (iblk m c 5 t) := by
  by_cases h0 : t.val % 32 = 0
  · rw [outsAt0_A m c t h0]; frame_out; rfl
  · rw [outsAt0_B m c t h0]; frame_out; rfl

/-- The gradient of the second residual. -/
theorem out12 : (outsAt0 m c t.val t.isLt).2.2.2.2.2.1 = dx2H (iblk m c 0 t) (iblk m c 1 t) (iblk m c 2 t) (iblk m c 3 t) (iblk m c 4 t) (iblk m c 5 t) (iblk m c 6 t) := by
  by_cases h0 : t.val % 32 = 0
  · rw [outsAt0_A m c t h0]; frame_out; rfl
  · rw [outsAt0_B m c t h0]; frame_out; rfl

/-- The loss's running sum at the first point. -/
theorem out13_A (h0 : t.val % 32 = 0) : (outsAt0 m c t.val t.isLt).2.2.2.2.2.2.1 = stepLoss (iblk m c 0 t) (iblk m c 1 t) (iblk m c 2 t) (iblk m c 3 t) (iblk m c 4 t) (iblk m c 5 t) (iblk m c 6 t) k0_pay4 := by
  rw [outsAt0_A m c t h0]; frame_out; rfl

/-- The loss's running sum at a later point. -/
theorem out13_B (h0 : ¬t.val % 32 = 0) : (outsAt0 m c t.val t.isLt).2.2.2.2.2.2.1
    = stepLoss (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2.1 := by
  rw [outsAt0_B m c t h0]; frame_out; rfl

/-- The final gain's gradient's running sum at the first point. -/
theorem out14_A (h0 : t.val % 32 = 0) : (outsAt0 m c t.val t.isLt).2.2.2.2.2.2.2.1 = stepGf (iblk m c 0 t) (iblk m c 1 t) (iblk m c 2 t) (iblk m c 3 t) (iblk m c 4 t) (iblk m c 5 t) (iblk m c 6 t) k0_pay5 := by
  rw [outsAt0_A m c t h0]; frame_out; rfl

/-- The final gain's gradient's running sum at a later point. -/
theorem out14_B (h0 : ¬t.val % 32 = 0) : (outsAt0 m c t.val t.isLt).2.2.2.2.2.2.2.1
    = stepGf (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2.2.1 := by
  rw [outsAt0_B m c t h0]; frame_out; rfl

/-- The first gain's gradient's running sum at the first point. -/
theorem out15_A (h0 : t.val % 32 = 0) : (outsAt0 m c t.val t.isLt).2.2.2.2.2.2.2.2 = stepG2 (iblk m c 0 t) (iblk m c 1 t) (iblk m c 2 t) (iblk m c 3 t) (iblk m c 4 t) (iblk m c 5 t) (iblk m c 6 t) k0_pay6 := by
  rw [outsAt0_A m c t h0]; frame_out; rfl

/-- The first gain's gradient's running sum at a later point. -/
theorem out15_B (h0 : ¬t.val % 32 = 0) : (outsAt0 m c t.val t.isLt).2.2.2.2.2.2.2.2
    = stepG2 (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2.2.2.2.2.2 := by
  rw [outsAt0_B m c t h0]; frame_out; rfl

end Body
-- ==== Proof.Reals.lean ====
/-
  The operations of the two programs on finite extended reals: a sum, a quotient, a reciprocal root, a hyperbolic
  tangent and an exponential of real numbers is the real sum, quotient, root, tangent and exponential; and the real
  numbers the programs' literals stand for.
-/
module

public import Idealize.ShloMosaic.PureOps.Ideal.Laws

@[expose] public section

open Idealize.ShloMosaic

namespace Reals

/-- A finite sum of real numbers, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The quotient by a nonzero real number. -/
theorem div_coe (x : ℝ) {y : ℝ} (h : y ≠ 0) : Ideal.div (x : EReal) (y : EReal) = ((x / y : ℝ) : EReal) := by
  rw [Ideal.div_coe h, ← EReal.coe_mul, mul_one_div]

/-- The quotient by 1024, the width of a row. -/
theorem div_1024 (x : ℝ) : Ideal.div (x : EReal) ((1024 : ℝ) : EReal) = ((x / 1024 : ℝ) : EReal) := div_coe x (by norm_num)

/-- The reciprocal square root of a positive real number. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- The number added to a mean square before its root is taken: the binary32 number nearest to one millionth. -/
noncomputable def eps : ℝ := 8796093 / 8796093022208

theorem eps_pos : 0 < eps := by unfold eps; norm_num

theorem lit_eps : Ideal.ofBits .f32 0x358637BD#32 = ((eps : ℝ) : EReal) := by
  simp [Ideal.ofBits, Ideal.ieee, -EReal.coe_mul, eps]; norm_num

theorem lit_1024 : Ideal.ofBits .f32 0x44800000#32 = ((1024 : ℝ) : EReal) := by
  simp [Ideal.ofBits, Ideal.ieee, -EReal.coe_mul]; norm_num

theorem lit_inv1024 : Ideal.ofBits .f32 0x3A800000#32 = ((1 / 1024 : ℝ) : EReal) := by
  simp [Ideal.ofBits, Ideal.ieee, -EReal.coe_mul]; norm_num

theorem lit_half : Ideal.ofBits .f32 0x3F000000#32 = ((1 / 2 : ℝ) : EReal) := by
  simp [Ideal.ofBits, Ideal.ieee, -EReal.coe_mul]; try norm_num

theorem lit_neg_half : Ideal.ofBits .f32 0xBF000000#32 = ((-(1 / 2) : ℝ) : EReal) := by
  simp [Ideal.ofBits, Ideal.ieee, -EReal.coe_mul]; try norm_num

theorem lit_one : Ideal.ofBits .f32 0x3F800000#32 = ((1 : ℝ) : EReal) := by
  simp [Ideal.ofBits, Ideal.ieee, -EReal.coe_mul]; try norm_num

theorem lit_two : Ideal.ofBits .f32 0x40000000#32 = ((2 : ℝ) : EReal) := by
  simp [Ideal.ofBits, Ideal.ieee, -EReal.coe_mul]; try norm_num

theorem lit_zero : Ideal.ofBits .f32 0x00000000#32 = ((0 : ℝ) : EReal) := by
  rw [Ideal.ofBits_zero_f32]; rfl

/-- An extended real whose absolute value is below the largest one is a real number. -/
theorem exists_real {x : EReal} (h : max x (-x) < ⊤) : ∃ r : ℝ, x = (r : EReal) := by
  induction x using EReal.rec with
  | bot => simp at h
  | top => simp at h
  | coe r => exact ⟨r, rfl⟩

end Reals
-- ==== Proof.Spec.lean ====
/-
  What the feed-forward half of the training step computes, over the real numbers, for ONE token (a row of 1024 numbers):
  its forward pass, its loss and every gradient the kernel returns; and the identities by which the formulas of
  automatic differentiation are these.
-/
module

public import proofs.«01_k».proof.Proof.Reals

@[expose] public section

noncomputable section

namespace Spec

open Reals

/-- The parameters of the feed-forward half: the two norms' gains and the three matrices. -/
structure Params where
  g2 : Fin 1024 → ℝ
  gf : Fin 1024 → ℝ
  wg : Fin 1024 → Fin 2816 → ℝ
  wu : Fin 1024 → Fin 2816 → ℝ
  wd : Fin 2816 → Fin 1024 → ℝ

/-- The mean square of a row, with `eps` added. -/
def msq (x : Fin 1024 → ℝ) : ℝ := (∑ j, x j * x j) / 1024 + eps
/-- The reciprocal of the root of the mean square. -/
def rs (x : Fin 1024 → ℝ) : ℝ := (Real.sqrt (msq x))⁻¹
/-- The row scaled to mean square one. -/
def nrm (x : Fin 1024 → ℝ) (j : Fin 1024) : ℝ := x j * rs x
/-- The logistic function. -/
def sg (z : ℝ) : ℝ := 1 / (1 + Real.exp (-z))
/-- The gradient of the scaled row with respect to the row, applied to `d`. -/
def nbwd (d x : Fin 1024 → ℝ) (j : Fin 1024) : ℝ := rs x * (d j - nrm x j * ((∑ k, d k * nrm x k) / 1024))

variable (W : Params) (x t : Fin 1024 → ℝ)

def h2 (j : Fin 1024) : ℝ := nrm x j * W.g2 j
def gate (f : Fin 2816) : ℝ := ∑ j, h2 W x j * W.wg j f
def up (f : Fin 2816) : ℝ := ∑ j, h2 W x j * W.wu j f
/-- The gate's `silu`. -/
def sil (f : Fin 2816) : ℝ := gate W x f * sg (gate W x f)
/-- The derivative of `silu` at the gate. -/
def dsil (f : Fin 2816) : ℝ := sg (gate W x f) * (1 + gate W x f * (1 - sg (gate W x f)))
def act (f : Fin 2816) : ℝ := sil W x f * up W x f
def x2 (j : Fin 1024) : ℝ := x j + ∑ f, act W x f * W.wd f j
/-- The final norm's output less the target. -/
def err (j : Fin 1024) : ℝ := nrm (x2 W x) j * W.gf j - t j
/-- A token's share of twice the loss: the mean square of its error. -/
def lossRow : ℝ := (∑ j, err W x t j * err W x t j) / 1024
/-- The loss's gradient with respect to the final norm's output. -/
def dy (j : Fin 1024) : ℝ := err W x t j * (1 / 1024)
/-- A token's share of the final gain's gradient. -/
def dgfRow (j : Fin 1024) : ℝ := dy W x t j * nrm (x2 W x) j
def dx2 (j : Fin 1024) : ℝ := nbwd (fun k => dy W x t k * W.gf k) (x2 W x) j
def dact (f : Fin 2816) : ℝ := ∑ j, dx2 W x t j * W.wd f j
def dgate (f : Fin 2816) : ℝ := dact W x t f * up W x f * dsil W x f
def dup (f : Fin 2816) : ℝ := dact W x t f * sil W x f
def dh2 (j : Fin 1024) : ℝ := ∑ f, dgate W x t f * W.wg j f + ∑ f, dup W x t f * W.wu j f
/-- A token's share of the first gain's gradient. -/
def dg2Row (j : Fin 1024) : ℝ := dh2 W x t j * nrm x j
def dx1 (j : Fin 1024) : ℝ := dx2 W x t j + nbwd (fun k => dh2 W x t k * W.g2 k) x j

/-! ## Identities -/

theorem msq_pos (x : Fin 1024 → ℝ) : 0 < msq x :=
  add_pos_of_nonneg_of_pos (div_nonneg (Finset.sum_nonneg fun j _ => mul_self_nonneg (x j)) (by norm_num)) eps_pos

theorem rs_sq (x : Fin 1024 → ℝ) : rs x * rs x = 1 / msq x := by
  unfold rs
  rw [← mul_inv, Real.mul_self_sqrt (msq_pos x).le, one_div]

theorem one_add_exp_pos (z : ℝ) : 0 < 1 + Real.exp (-z) := add_pos one_pos (Real.exp_pos _)

/-- The kernel's logistic function, by a hyperbolic tangent. -/
theorem sg_eq_tanh (z : ℝ) : 1 / 2 + 1 / 2 * Real.tanh (1 / 2 * z) = sg z := by
  have hE : 0 < Real.exp (1 / 2 * z) := Real.exp_pos _
  have e : Real.exp (-z) = (Real.exp (1 / 2 * z))⁻¹ * (Real.exp (1 / 2 * z))⁻¹ := by
    rw [← Real.exp_neg, ← Real.exp_add]; congr 1; ring
  unfold sg
  rw [Real.tanh_eq_sinh_div_cosh, Real.sinh_eq, Real.cosh_eq, e, Real.exp_neg]
  generalize Real.exp (1 / 2 * z) = E at hE
  have h1 : E + E⁻¹ ≠ 0 := (add_pos hE (inv_pos.mpr hE)).ne'
  have h2 : 1 + E⁻¹ * E⁻¹ ≠ 0 := (add_pos one_pos (mul_pos (inv_pos.mpr hE) (inv_pos.mpr hE))).ne'
  have h3 : E ≠ 0 := hE.ne'
  field_simp
  ring

/-- The gradient of the norm as automatic differentiation writes it: through the reciprocal root's derivative
    `-1/2 · r / u`, the square's gradient counted twice. -/
theorem nbwd_eq_vjp (d x : Fin 1024 → ℝ) (j : Fin 1024) :
    d j * rs x + x j * ((∑ k, x k * d k) * (-(1 / 2) * (rs x / msq x)) / 1024)
      + ((∑ k, x k * d k) * (-(1 / 2) * (rs x / msq x)) / 1024) * x j = nbwd d x j := by
  have h : rs x / msq x = rs x * (rs x * rs x) := by rw [rs_sq, mul_one_div]
  have hs : ∑ k, d k * nrm x k = (∑ k, x k * d k) * rs x := by
    rw [Finset.sum_mul]; exact Finset.sum_congr rfl fun k _ => by unfold nrm; ring
  unfold nbwd
  rw [h, hs]
  unfold nrm
  ring

/-- The gradient of `silu` as automatic differentiation writes it. -/
theorem dgate_eq_vjp (f : Fin 2816) (c : ℝ) :
    c * sg (gate W x f) + gate W x f * c * (sg (gate W x f) * (1 - sg (gate W x f))) = c * dsil W x f := by
  unfold dsil; ring

end Spec
-- ==== Proof.Reference.lean ====
/-
  What the reference computes on finite arguments: each of its stages, read at an index, is the real number of
  `Proof/Spec.lean` for the token of that index.
-/
module

public import proofs.«01_k».proof.Proof.Spec
public import proofs.«01_k».proof.Proof.Gen.ReferenceIdeal.Read
public import Idealize.ShloMosaic.Lib.Pointwise

@[expose] public section

open Idealize.ShloMosaic Cert.ReferenceIdeal Cert.ReferenceIdeal.Read Reals Spec

namespace Reference

/-- The seven arguments are the real numbers of `W` (the parameters), `X` (the tokens) and `T` (their targets). -/
structure Holds (x0 x1 : FVec Ideal S8192x1024 .f32) (x2 : FVec Ideal S1024 .f32) (x3 x4 : FVec Ideal S1024x2816 .f32)
    (x5 : FVec Ideal S2816x1024 .f32) (x6 : FVec Ideal S1024 .f32) (W : Params) (X T : Fin 8192 → Fin 1024 → ℝ) : Prop where
  x : ∀ i j, x0 (ix2 i j) = ((X i j : ℝ) : EReal)
  t : ∀ i j, x1 (ix2 i j) = ((T i j : ℝ) : EReal)
  g2 : ∀ j, x2 (ix1 j) = ((W.g2 j : ℝ) : EReal)
  wg : ∀ i j, x3 (ix2 i j) = ((W.wg i j : ℝ) : EReal)
  wu : ∀ i j, x4 (ix2 i j) = ((W.wu i j : ℝ) : EReal)
  wd : ∀ i j, x5 (ix2 i j) = ((W.wd i j : ℝ) : EReal)
  gf : ∀ j, x6 (ix1 j) = ((W.gf j : ℝ) : EReal)

variable {x0 x1 : FVec Ideal S8192x1024 .f32} {x2 : FVec Ideal S1024 .f32} {x3 x4 : FVec Ideal S1024x2816 .f32}
  {x5 : FVec Ideal S2816x1024 .f32} {x6 : FVec Ideal S1024 .f32} {W : Params} {X T : Fin 8192 → Fin 1024 → ℝ}
  (H : Holds x0 x1 x2 x3 x4 x5 x6 W X T)
include H

/-! ## The first norm and the two products -/

theorem v6 (i : Fin 8192) (k : Fin 1) : val_main_v6 (F := Ideal) x0 (ix2 i k) = ((msq (X i) : ℝ) : EReal) := by
  pointwise [val_main_v6, val_main_v5, val_main_v4, val_main_v3, val_main_v2, val_main_v1, val_main_v0, val_main_cst,
    val_main_cst_0, val_main_cst_1]
  simp only [H.x, lit_1024, lit_eps, ← EReal.coe_mul, coe_sum, div_1024, ← EReal.coe_add]
  rfl

theorem v7 (i : Fin 8192) (k : Fin 1) : val_main_v7 (F := Ideal) x0 (ix2 i k) = ((rs (X i) : ℝ) : EReal) := by
  pointwise [val_main_v7]
  rw [v6 H, rsqrt_pos (msq_pos _)]
  rfl

theorem v10 (i : Fin 8192) (k : Fin 1) :
    val_main_v10 (F := Ideal) x0 (ix2 i k) = ((-(1 / 2) * (rs (X i) / msq (X i)) : ℝ) : EReal) := by
  pointwise [val_main_v10, val_main_v9, val_main_v8, val_main_cst_2]
  rw [v6 H, v7 H, div_coe _ (msq_pos _).ne', lit_neg_half, ← EReal.coe_mul]

theorem v12 (i : Fin 8192) (j : Fin 1024) : val_main_v12 (F := Ideal) x0 (ix2 i j) = ((nrm (X i) j : ℝ) : EReal) := by
  pointwise [val_main_v12, val_main_v11]
  rw [v7 H, H.x, ← EReal.coe_mul]
  rfl

theorem v15 (i : Fin 8192) (j : Fin 1024) : val_main_v15 (F := Ideal) x0 x2 (ix2 i j) = ((h2 W (X i) j : ℝ) : EReal) := by
  pointwise [val_main_v15, val_main_v14, val_main_v13]
  rw [v12 H, H.g2, ← EReal.coe_mul]
  rfl

theorem v16 (i : Fin 8192) (f : Fin 2816) :
    val_main_v16 (F := Ideal) x0 x2 x3 (ix2 i f) = ((gate W (X i) f : ℝ) : EReal) := by
  pointwise [val_main_v16]
  simp only [v15 H, H.wg, ← EReal.coe_mul, coe_sum]
  rfl

theorem v17 (i : Fin 8192) (f : Fin 2816) :
    val_main_v17 (F := Ideal) x0 x2 x4 (ix2 i f) = ((up W (X i) f : ℝ) : EReal) := by
  pointwise [val_main_v17]
  simp only [v15 H, H.wu, ← EReal.coe_mul, coe_sum]
  rfl

/-! ## The gate -/

theorem v18_2 (i : Fin 8192) (f : Fin 2816) :
    val_main_v18_2 (F := Ideal) x0 x2 x3 (ix2 i f) = ((sg (gate W (X i) f) : ℝ) : EReal) := by
  pointwise [val_main_v18_2, val_main_call0_v4, val_main_call0_v3, val_main_call0_v2, val_main_call0_v1, val_main_call0_v0,
    val_main_call0_cst, val_main_call0_cst_0]
  rw [v16 H, ← EReal.coe_neg, Ideal.exp_coe, ← EReal.coe_one, ← EReal.coe_add, div_coe _ (one_add_exp_pos _).ne']
  rfl

theorem v18_1 (i : Fin 8192) (f : Fin 2816) : val_main_v18_1 (F := Ideal) x0 x2 x3 (ix2 i f)
    = ((sg (gate W (X i) f) * (1 - sg (gate W (X i) f)) : ℝ) : EReal) := by
  pointwise [val_main_v18_1, val_main_call0_v7, val_main_call0_v6, val_main_call0_cst_1]
  rw [v18_2 H, ← EReal.coe_one, ← EReal.coe_sub, ← EReal.coe_mul]

theorem v18_0 (i : Fin 8192) (f : Fin 2816) :
    val_main_v18_0 (F := Ideal) x0 x2 x3 (ix2 i f) = ((sil W (X i) f : ℝ) : EReal) := by
  pointwise [val_main_v18_0]
  rw [v18_2 H, v16 H, ← EReal.coe_mul]
  rfl

theorem v19 (i : Fin 8192) (f : Fin 2816) :
    val_main_v19 (F := Ideal) x0 x2 x3 x4 (ix2 i f) = ((act W (X i) f : ℝ) : EReal) := by
  pointwise [val_main_v19]
  rw [v18_0 H, v17 H, ← EReal.coe_mul]
  rfl

/-! ## The second product, the final norm and the loss -/

theorem v21 (i : Fin 8192) (j : Fin 1024) :
    val_main_v21 (F := Ideal) x0 x2 x3 x4 x5 (ix2 i j) = ((Spec.x2 W (X i) j : ℝ) : EReal) := by
  pointwise [val_main_v21, val_main_v20]
  simp only [v19 H, H.x, H.wd, ← EReal.coe_mul, coe_sum, ← EReal.coe_add]
  rfl

theorem v28 (i : Fin 8192) (k : Fin 1) :
    val_main_v28 (F := Ideal) x0 x2 x3 x4 x5 (ix2 i k) = ((msq (Spec.x2 W (X i)) : ℝ) : EReal) := by
  pointwise [val_main_v28, val_main_v27, val_main_v26, val_main_v25, val_main_v24, val_main_v23, val_main_v22, val_main_cst_3,
    val_main_cst_4, val_main_cst_5]
  simp only [v21 H, lit_1024, lit_eps, ← EReal.coe_mul, coe_sum, div_1024, ← EReal.coe_add]
  rfl

theorem v29 (i : Fin 8192) (k : Fin 1) :
    val_main_v29 (F := Ideal) x0 x2 x3 x4 x5 (ix2 i k) = ((rs (Spec.x2 W (X i)) : ℝ) : EReal) := by
  pointwise [val_main_v29]
  rw [v28 H, rsqrt_pos (msq_pos _)]
  rfl

theorem v32 (i : Fin 8192) (k : Fin 1) : val_main_v32 (F := Ideal) x0 x2 x3 x4 x5 (ix2 i k)
    = ((-(1 / 2) * (rs (Spec.x2 W (X i)) / msq (Spec.x2 W (X i))) : ℝ) : EReal) := by
  pointwise [val_main_v32, val_main_v31, val_main_v30, val_main_cst_6]
  rw [v28 H, v29 H, div_coe _ (msq_pos _).ne', lit_neg_half, ← EReal.coe_mul]

theorem v34 (i : Fin 8192) (j : Fin 1024) :
    val_main_v34 (F := Ideal) x0 x2 x3 x4 x5 (ix2 i j) = ((nrm (Spec.x2 W (X i)) j : ℝ) : EReal) := by
  pointwise [val_main_v34, val_main_v33]
  rw [v29 H, v21 H, ← EReal.coe_mul]
  rfl

theorem v38 (i : Fin 8192) (j : Fin 1024) :
    val_main_v38 (F := Ideal) x0 x1 x2 x3 x4 x5 x6 (ix2 i j) = ((err W (X i) (T i) j : ℝ) : EReal) := by
  pointwise [val_main_v38, val_main_v37, val_main_v36, val_main_v35]
  rw [v34 H, H.gf, H.t, ← EReal.coe_mul, ← EReal.coe_sub]
  rfl

theorem v46 (i : S_.Idx) : val_main_v46 (F := Ideal) x0 x1 x2 x3 x4 x5 x6 i
    = ((1 / 2 * ∑ k, lossRow W (X k) (T k) : ℝ) : EReal) := by
  pointwise [val_main_v46, val_main_v45, val_main_v44, val_main_v43, val_main_v42, val_main_v39, val_main_cst_8,
    val_main_cst_9, val_main_cst_10, val_main_cst_11]
  simp only [v38 H, lit_1024, lit_half, ← EReal.coe_mul, coe_sum, div_1024]
  rfl

theorem v52 (i : Fin 8192) (j : Fin 1024) :
    val_main_v52 (F := Ideal) x0 x1 x2 x3 x4 x5 x6 (ix2 i j) = ((dy W (X i) (T i) j : ℝ) : EReal) := by
  pointwise [val_main_v52, val_main_v51, val_main_v50, val_main_v49, val_main_v48, val_main_v47, val_main_v41, val_main_v40,
    val_main_cst_7, val_main_cst_12, val_main_cst_13, val_main_cst_14]
  rw [v38 H, lit_1024, lit_half, lit_two, div_1024, ← EReal.coe_mul, ← EReal.coe_mul]
  unfold dy
  congr 1
  ring

theorem v58 (j : Fin 1024) : val_main_v58 (F := Ideal) x0 x1 x2 x3 x4 x5 x6 (ix1 j)
    = ((∑ i, dgfRow W (X i) (T i) j : ℝ) : EReal) := by
  pointwise [val_main_v58, val_main_v55, val_main_v54, val_main_v53, val_main_cst_15, val_main_cst_16]
  simp only [v34 H, v52 H, ← EReal.coe_mul, coe_sum, Finset.univ_unique, Finset.sum_singleton]
  exact congrArg Real.toEReal (Finset.sum_congr rfl fun i _ => mul_comm _ _)

/-! ## The gradients -/

theorem v57 (i : Fin 8192) (j : Fin 1024) :
    val_main_v57 (F := Ideal) x0 x1 x2 x3 x4 x5 x6 (ix2 i j) = ((dy W (X i) (T i) j * W.gf j : ℝ) : EReal) := by
  pointwise [val_main_v57, val_main_v56, val_main_v35]
  rw [v52 H, H.gf, ← EReal.coe_mul]

theorem v72 (i : Fin 8192) (j : Fin 1024) :
    val_main_v72 (F := Ideal) x0 x1 x2 x3 x4 x5 x6 (ix2 i j) = ((dx2 W (X i) (T i) j : ℝ) : EReal) := by
  pointwise [val_main_v72, val_main_v71, val_main_v70, val_main_v69, val_main_v68, val_main_v67, val_main_v66, val_main_v65,
    val_main_v64, val_main_v63, val_main_v62, val_main_v61, val_main_v60, val_main_v59, val_main_cst_17, val_main_cst_18,
    val_main_cst_19]
  simp only [v57 H, v29 H, v21 H, v32 H, lit_1024, ← EReal.coe_mul, coe_sum, div_1024, ← EReal.coe_add,
    Finset.univ_unique, Finset.sum_singleton]
  exact congrArg _ (nbwd_eq_vjp (fun k => dy W (X i) (T i) k * W.gf k) (Spec.x2 W (X i)) j)

theorem v73 (i : Fin 8192) (f : Fin 2816) :
    val_main_v73 (F := Ideal) x0 x1 x2 x3 x4 x5 x6 (ix2 i f) = ((dact W (X i) (T i) f : ℝ) : EReal) := by
  pointwise [val_main_v73]
  simp only [v72 H, H.wd, ← EReal.coe_mul, coe_sum]
  rfl

theorem v74 (i : Fin 8192) (f : Fin 2816) :
    val_main_v74 (F := Ideal) x0 x1 x2 x3 x4 x5 x6 (ix2 i f) = ((dup W (X i) (T i) f : ℝ) : EReal) := by
  pointwise [val_main_v74]
  rw [v18_0 H, v73 H, ← EReal.coe_mul, mul_comm]
  rfl

theorem v76 (i : Fin 8192) (f : Fin 2816) :
    val_main_v76 (F := Ideal) x0 x1 x2 x3 x4 x5 x6 (ix2 i f) = ((dgate W (X i) (T i) f : ℝ) : EReal) := by
  pointwise [val_main_v76, val_main_call1_v2, val_main_call1_v1, val_main_call1_v0, val_main_v75]
  simp only [v73 H, v17 H, v18_2 H, v18_1 H, v16 H, ← EReal.coe_mul, ← EReal.coe_add]
  exact congrArg _ (dgate_eq_vjp _ _ _ _)

theorem v79 (i : Fin 8192) (j : Fin 1024) :
    val_main_v79 (F := Ideal) x0 x1 x2 x3 x4 x5 x6 (ix2 i j) = ((dh2 W (X i) (T i) j : ℝ) : EReal) := by
  pointwise [val_main_v79, val_main_v78, val_main_v77]
  simp only [v74 H, v76 H, H.wg, H.wu, ← EReal.coe_mul, coe_sum, ← EReal.coe_add]
  exact congrArg _ (add_comm _ _)

theorem v85 (j : Fin 1024) : val_main_v85 (F := Ideal) x0 x1 x2 x3 x4 x5 x6 (ix1 j)
    = ((∑ i, dg2Row W (X i) (T i) j : ℝ) : EReal) := by
  pointwise [val_main_v85, val_main_v82, val_main_v81, val_main_v80, val_main_cst_20, val_main_cst_21]
  simp only [v12 H, v79 H, ← EReal.coe_mul, coe_sum, Finset.univ_unique, Finset.sum_singleton]
  exact congrArg Real.toEReal (Finset.sum_congr rfl fun i _ => mul_comm _ _)

theorem v84 (i : Fin 8192) (j : Fin 1024) :
    val_main_v84 (F := Ideal) x0 x1 x2 x3 x4 x5 x6 (ix2 i j) = ((dh2 W (X i) (T i) j * W.g2 j : ℝ) : EReal) := by
  pointwise [val_main_v84, val_main_v83, val_main_v13]
  rw [v79 H, H.g2, ← EReal.coe_mul]

theorem v100 (i : Fin 8192) (j : Fin 1024) :
    val_main_v100 (F := Ideal) x0 x1 x2 x3 x4 x5 x6 (ix2 i j) = ((dx1 W (X i) (T i) j : ℝ) : EReal) := by
  pointwise [val_main_v100, val_main_v99, val_main_v98, val_main_v97, val_main_v96, val_main_v95, val_main_v94, val_main_v93,
    val_main_v92, val_main_v91, val_main_v90, val_main_v89, val_main_v88, val_main_v87, val_main_v86, val_main_cst_22,
    val_main_cst_23, val_main_cst_24]
  simp only [v72 H, v84 H, v7 H, H.x, v10 H, lit_1024, ← EReal.coe_mul, coe_sum, div_1024, ← EReal.coe_add,
    Finset.univ_unique, Finset.sum_singleton]
  exact congrArg _ (congrArg (dx2 W (X i) (T i) j + ·) (nbwd_eq_vjp (fun k => dh2 W (X i) (T i) k * W.g2 k) (X i) j))

/-! ## The results that are casts and broadcasts of these -/

theorem v101 (i : Fin 8192) (j : Fin 1024) :
    val_main_v101 (F := Ideal) x0 x2 (ix2 i j) = ((h2 W (X i) j : ℝ) : EReal) := v15 H i j

theorem v102 (i : Fin 8192) (f : Fin 2816) :
    val_main_v102 (F := Ideal) x0 x1 x2 x3 x4 x5 x6 (ix2 i f) = ((dgate W (X i) (T i) f : ℝ) : EReal) := v76 H i f

theorem v103 (i : Fin 8192) (f : Fin 2816) :
    val_main_v103 (F := Ideal) x0 x1 x2 x3 x4 x5 x6 (ix2 i f) = ((dup W (X i) (T i) f : ℝ) : EReal) := v74 H i f

theorem v104 (i : Fin 8192) (f : Fin 2816) :
    val_main_v104 (F := Ideal) x0 x2 x3 x4 (ix2 i f) = ((act W (X i) f : ℝ) : EReal) := v19 H i f

theorem v105 (i : Fin 8192) (j : Fin 1024) :
    val_main_v105 (F := Ideal) x0 x1 x2 x3 x4 x5 x6 (ix2 i j) = ((dx2 W (X i) (T i) j : ℝ) : EReal) := v72 H i j

theorem v106 (a : Fin 8) (b : Fin 128) : val_main_v106 (F := Ideal) x0 x1 x2 x3 x4 x5 x6 (ix2 a b)
    = ((1 / 2 * ∑ k, lossRow W (X k) (T k) : ℝ) : EReal) := by
  pointwise [val_main_v106]
  exact v46 H _

theorem v107 (a : Fin 1) (j : Fin 1024) : val_main_v107 (F := Ideal) x0 x1 x2 x3 x4 x5 x6 (ix2 a j)
    = ((∑ i, dgfRow W (X i) (T i) j : ℝ) : EReal) := by
  pointwise [val_main_v107]
  exact v58 H j

theorem v108 (a : Fin 1) (j : Fin 1024) : val_main_v108 (F := Ideal) x0 x1 x2 x3 x4 x5 x6 (ix2 a j)
    = ((∑ i, dg2Row W (X i) (T i) j : ℝ) : EReal) := by
  pointwise [val_main_v108]
  exact v85 H j

end Reference
-- ==== Proof.Payload.lean ====
/-
  What the kernel's body computes on a block of 256 tokens, over the extended reals: each value it names, read at an
  index, is the real number of `Proof/Spec.lean` for the token of that row.
-/
module

public import proofs.«01_k».proof.Proof.Spec
public import proofs.«01_k».proof.Proof.Gen.KernelIdeal.Skeleton
public import Idealize.ShloMosaic.Lib.Pointwise

@[expose] public section

open Idealize.ShloMosaic Cert.KernelIdeal Cert.KernelIdeal.Gen Reals Spec

namespace Payload

/-- `v` holds the real numbers `f`. -/
abbrev Is {a b : ℕ} {φ : FTy} (v : FVec Ideal ⟨2, ![a, b]⟩ φ) (f : Fin a → Fin b → ℝ) : Prop :=
  ∀ i j, v (ix2 i j) = ((f i j : ℝ) : EReal)

variable {v3 v61 v17 v58 v62 v98 : FVec Ideal S256x1024 .f32} {v4 v7 v80 v118 : FVec Ideal S1x1024 .f32}
  {v22 v25 v45 : FVec Ideal S2816x1024 .bf16} {v24 v27 v34 v35 v41 : FVec Ideal S256x2816 .f32} {v56 v15 : FVec Ideal S256x1 .f32}
  {v106 v108 : FVec Ideal S256x2816 .bf16} {v64 v75 : FVec Ideal S8x128 .f32}
  {W : Params} {x t : Fin 256 → Fin 1024 → ℝ}

/-! ## The first norm and the two products -/

theorem pay7 (h4 : Is v4 fun _ j => W.g2 j) : Is (k0_pay7 v4) fun _ j => W.g2 j := fun i j => by
  pointwise [k0_pay7]; exact h4 _ _

theorem pay8 (h4 : Is v4 fun _ j => W.gf j) : Is (k0_pay8 v4) fun _ j => W.gf j := fun i j => by
  pointwise [k0_pay8]; exact h4 _ _

theorem pay9 (h3 : Is v3 x) : Is (k0_pay9 v3) fun r _ => rs (x r) := fun i j => by
  pointwise [k0_pay9]
  simp only [h3 _ _, lit_1024, lit_eps, ← EReal.coe_mul, coe_sum, div_1024, ← EReal.coe_add]
  exact rsqrt_pos (msq_pos _)

theorem pay10 (h3 : Is v3 x) : Is (k0_pay10 v3) fun r j => nrm (x r) j := fun i j => by
  pointwise [k0_pay10]
  rw [pay9 h3, h3, ← EReal.coe_mul]
  rfl

theorem pay11 (h3 : Is v3 x) (h4 : Is v4 fun _ j => W.g2 j) : Is (k0_pay11 v3 v4) fun r j => h2 W (x r) j := fun i j => by
  pointwise [k0_pay11]
  rw [pay10 h3, pay7 h4, ← EReal.coe_mul]
  rfl

theorem pay12 (h3 : Is v3 x) (h4 : Is v4 fun _ j => W.g2 j) (h22 : Is v22 fun f j => W.wg j f) :
    Is (k0_pay12 v3 v4 v22) fun r f => gate W (x r) f := fun i j => by
  pointwise [k0_pay12]
  simp only [pay11 h3 h4 _ _, h22 _ _, ← EReal.coe_mul, coe_sum]
  rfl

theorem pay13 (h3 : Is v3 x) (h4 : Is v4 fun _ j => W.g2 j) (h25 : Is v25 fun f j => W.wu j f) :
    Is (k0_pay13 v3 v4 v25) fun r f => up W (x r) f := fun i j => by
  pointwise [k0_pay13]
  simp only [pay11 h3 h4 _ _, h25 _ _, ← EReal.coe_mul, coe_sum]
  rfl

/-! ## The gate -/

theorem pay14 (h3 : Is v3 x) (h4 : Is v4 fun _ j => W.g2 j) (h22 : Is v22 fun f j => W.wg j f) :
    Is (k0_pay14 v3 v4 v22) fun r f => sg (gate W (x r) f) := fun i j => by
  pointwise [k0_pay14]
  rw [pay12 h3 h4 h22, lit_half, ← EReal.coe_mul, Ideal.tanh_coe, ← EReal.coe_mul, ← EReal.coe_add, sg_eq_tanh]

theorem pay15 (h24 : Is v24 fun r f => gate W (x r) f) (h34 : Is v34 fun r f => sg (gate W (x r) f)) :
    Is (k0_pay15 v24 v34) fun r f => sil W (x r) f := fun i j => by
  pointwise [k0_pay15]
  rw [h24, h34, ← EReal.coe_mul]
  rfl

theorem pay16 (h24 : Is v24 fun r f => gate W (x r) f) (h34 : Is v34 fun r f => sg (gate W (x r) f)) :
    Is (k0_pay16 v24 v34) fun r f => dsil W (x r) f := fun i j => by
  pointwise [k0_pay16]
  rw [h24, h34, ← EReal.coe_one, ← EReal.coe_sub, ← EReal.coe_mul, ← EReal.coe_add, ← EReal.coe_mul]
  rfl

theorem pay17 (h24 : Is v24 fun r f => gate W (x r) f) (h27 : Is v27 fun r f => up W (x r) f)
    (h34 : Is v34 fun r f => sg (gate W (x r) f)) : Is (k0_pay17 v24 v27 v34) fun r f => act W (x r) f := fun i j => by
  pointwise [k0_pay17]
  rw [pay15 h24 h34, h27, ← EReal.coe_mul]
  rfl

/-! ## The second product, the final norm and the loss -/

section
variable (h3 : Is v3 x) (h24 : Is v24 fun r f => gate W (x r) f) (h27 : Is v27 fun r f => up W (x r) f)
  (h34 : Is v34 fun r f => sg (gate W (x r) f)) (h45 : Is v45 fun f j => W.wd f j)
include h3 h24 h27 h34 h45

theorem pay18 : Is (k0_pay18 v3 v24 v27 v34 v45) fun r j => x2 W (x r) j := fun i j => by
  pointwise [k0_pay18]
  simp only [pay17 h24 h27 h34 _ _, h3 _ _, h45 _ _, ← EReal.coe_mul, coe_sum, ← EReal.coe_add]
  rfl

theorem pay19 : Is (k0_pay19 v3 v24 v27 v34 v45) fun r _ => rs (x2 W (x r)) := fun i j => by
  pointwise [k0_pay19]
  simp only [pay18 h3 h24 h27 h34 h45 _ _, lit_1024, lit_eps, ← EReal.coe_mul, coe_sum, div_1024, ← EReal.coe_add]
  exact rsqrt_pos (msq_pos _)

theorem pay20 : Is (k0_pay20 v3 v24 v27 v34 v45) fun r j => nrm (x2 W (x r)) j := fun i j => by
  pointwise [k0_pay20]
  rw [pay18 h3 h24 h27 h34 h45, pay19 h3 h24 h27 h34 h45, ← EReal.coe_mul]
  rfl

variable (h7 : Is v7 fun _ j => W.gf j) (h61 : Is v61 t)
include h7 h61

theorem pay21 : Is (k0_pay21 v3 v7 v24 v27 v34 v45 v61) fun r j => err W (x r) (t r) j := fun i j => by
  pointwise [k0_pay21]
  rw [pay20 h3 h24 h27 h34 h45, h7, h61, ← EReal.coe_mul, ← EReal.coe_sub]
  rfl

theorem pay23 : Is (k0_pay23 v3 v7 v24 v27 v34 v45 v61) fun _ _ => 1 / 2 * ∑ r, lossRow W (x r) (t r) := fun i j => by
  pointwise [k0_pay23]
  simp only [pay21 h3 h24 h27 h34 h45 h7 h61 _ _, lit_1024, lit_half, ← EReal.coe_mul, coe_sum, div_1024, Finset.univ_unique,
    Finset.sum_singleton]
  rfl
end

/-! ## The gradients down to the gate and the product beside it -/

section
variable (h62 : Is v62 fun r j => err W (x r) (t r) j) (h58 : Is v58 fun r j => nrm (x2 W (x r)) j)
include h62

theorem pay25 : Is (k0_pay25 v62) fun r j => dy W (x r) (t r) j := fun i j => by
  pointwise [k0_pay25]
  rw [h62, lit_inv1024, ← EReal.coe_mul]
  rfl

include h58

theorem pay26 (g : Fin 1024 → ℝ) (h80 : Is v80 fun _ j => g j) :
    Is (k0_pay26 v58 v62 v80) fun _ j => g j + ∑ r, dgfRow W (x r) (t r) j := fun i j => by
  pointwise [k0_pay26]
  simp only [pay25 h62 _ _, h58 _ _, h80 _ _, ← EReal.coe_mul, coe_sum, ← EReal.coe_add]
  rfl

variable (h7 : Is v7 fun _ j => W.gf j) (h56 : Is v56 fun r _ => rs (x2 W (x r)))
include h7 h56

theorem pay27 : Is (k0_pay27 v7 v56 v58 v62) fun r j => dx2 W (x r) (t r) j := fun i j => by
  pointwise [k0_pay27]
  simp only [pay25 h62 _ _, h58 _ _, h7 _ _, h56 _ _, lit_1024, ← EReal.coe_mul, coe_sum, div_1024, ← EReal.coe_sub]
  rfl

theorem pay28 : Is (k0_pay28 v7 v56 v58 v62) fun r j => dx2 W (x r) (t r) j := pay27 h62 h58 h7 h56

variable (h45 : Is v45 fun f j => W.wd f j)
include h45

theorem pay29 : Is (k0_pay29 v7 v56 v58 v62 v45) fun r f => dact W (x r) (t r) f := fun i j => by
  pointwise [k0_pay29]
  simp only [pay28 h62 h58 h7 h56 _ _, h45 _ _, ← EReal.coe_mul, coe_sum]
  rfl

theorem pay30 (h27 : Is v27 fun r f => up W (x r) f) (h41 : Is v41 fun r f => dsil W (x r) f) :
    Is (k0_pay30 v7 v27 v41 v56 v58 v62 v45) fun r f => dgate W (x r) (t r) f := fun i j => by
  pointwise [k0_pay30]
  rw [pay29 h62 h58 h7 h56 h45, h27, h41, ← EReal.coe_mul, ← EReal.coe_mul]
  rfl

theorem pay31 (h35 : Is v35 fun r f => sil W (x r) f) :
    Is (k0_pay31 v7 v35 v56 v58 v62 v45) fun r f => dup W (x r) (t r) f := fun i j => by
  pointwise [k0_pay31]
  rw [pay29 h62 h58 h7 h56 h45, h35, ← EReal.coe_mul]
  rfl
end

/-! ## The gradients of the first norm -/

section
variable (h106 : Is v106 fun r f => dgate W (x r) (t r) f) (h108 : Is v108 fun r f => dup W (x r) (t r) f)
  (h22 : Is v22 fun f j => W.wg j f) (h25 : Is v25 fun f j => W.wu j f) (h17 : Is v17 fun r j => nrm (x r) j)
include h106 h108 h22 h25

theorem pay1 : Is (k0_pay1 v106 v108 v22 v25) fun r j => dh2 W (x r) (t r) j := fun i j => by
  pointwise [k0_pay1]
  simp only [h106 _ _, h108 _ _, h22 _ _, h25 _ _, ← EReal.coe_mul, coe_sum, ← EReal.coe_add]
  rfl

include h17

theorem pay2 (g : Fin 1024 → ℝ) (h118 : Is v118 fun _ j => g j) :
    Is (k0_pay2 v17 v106 v108 v22 v25 v118) fun _ j => g j + ∑ r, dg2Row W (x r) (t r) j := fun i j => by
  pointwise [k0_pay2]
  simp only [pay1 h106 h108 h22 h25 _ _, h17 _ _, h118 _ _, ← EReal.coe_mul, coe_sum, ← EReal.coe_add]
  rfl

theorem pay3 (h4 : Is v4 fun _ j => W.g2 j) (h15 : Is v15 fun r _ => rs (x r)) (h98 : Is v98 fun r j => dx2 W (x r) (t r) j) :
    Is (k0_pay3 v4 v15 v17 v98 v106 v108 v22 v25) fun r j => dx1 W (x r) (t r) j := fun i j => by
  pointwise [k0_pay3]
  simp only [pay1 h106 h108 h22 h25 _ _, h17 _ _, h4 _ _, h15 _ _, h98 _ _, lit_1024, ← EReal.coe_mul, coe_sum, div_1024,
    ← EReal.coe_sub, ← EReal.coe_add]
  rfl
end

/-! ## The running sums' first contents and the loss's step -/

theorem pay4 : Is (k0_pay4 (F := Ideal)) fun _ _ => 0 := fun i j => by pointwise [k0_pay4]; rfl
theorem pay5 : Is (k0_pay5 (F := Ideal)) fun _ _ => 0 := fun i j => by pointwise [k0_pay5]; rfl
theorem pay6 : Is (k0_pay6 (F := Ideal)) fun _ _ => 0 := fun i j => by pointwise [k0_pay6]; rfl

theorem pay24 {a b : ℝ} (h64 : Is v64 fun _ _ => a) (h75 : Is v75 fun _ _ => b) :
    Is (k0_pay24 (k0_pay22 v64) v75) fun _ _ => a + b := fun i j => by
  pointwise [k0_pay24, k0_pay22]
  rw [h64, h75, ← EReal.coe_add]

end Payload
-- ==== Proof.Inputs.lean ====
/-
  The blocks the kernel's points read: the rows of the tokens and of their targets, the two gains and the three matrices
  (two of them laid on their sides by the host), as the real numbers of the arguments.
-/
module

public import proofs.«01_k».proof.Proof.Gen.KernelIdeal.Value
public import proofs.«01_k».proof.Proof.Reference
public import proofs.«01_k».proof.Proof.Payload
public import Idealize.ShloMosaic.Lib.Pipeline.ValueKit

@[expose] public section

set_option maxRecDepth 16384

noncomputable section

namespace Inputs

open Cert.KernelIdeal Cert.KernelIdeal.Gen Idealize.ShloMosaic Idealize.ShloMosaic.TcCoe Idealize.SL.Sem Spec Payload

/-- The token in row `r` of the block of point `p`. -/
def row (p : Fin cfg0.N) (r : Fin 256) : Fin 8192 := ⟨p.val * 256 + r.val, by have := p.isLt; have : cfg0.N = 32 := N_0; omega⟩

/-- The windows' block indices: the tokens' follow the point, the parameters' stand still. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0] :=
  (by decide +kernel : ∀ t : Fin grid0.N, _)

variable (m : (ℓ : Loc nD τ Cert.KernelIdeal.sig) → Buf (Elt Ideal) ℓ) (c : Dev nD)

/-- The kernel's arguments on device `c` are the real numbers of `W`, `X` and `T`. -/
abbrev Args (W : Params) (X T : Fin 8192 → Fin 1024 → ℝ) : Prop :=
  Reference.Holds (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) W X T

variable {m c} {W : Params} {X T : Fin 8192 → Fin 1024 → ℝ} (H : Args m c W X T) (t : Fin cfg0.N)
include H

theorem in0 : Is (φ := .f32) (iblk m c 0 t) fun r j => X (row t r) j := fun r j => by
  rw [← H.x]
  blk_ext [iblk, V, idx t, row]

theorem in1 : Is (φ := .f32) (iblk m c 1 t) fun r j => T (row t r) j := fun r j => by
  rw [← H.t]
  blk_ext [iblk, V, idx t, row]

theorem in2 : Is (φ := .f32) (iblk m c 2 t) fun _ j => W.g2 j := fun r j => by
  rw [← H.g2]
  blk_ext! [iblk, V, idx t]

theorem in3 : Is (φ := .f32) (iblk m c 3 t) fun _ j => W.gf j := fun r j => by
  rw [← H.gf]
  blk_ext! [iblk, V, idx t]

theorem in4 : Is (φ := .bf16) (iblk m c 4 t) fun f j => W.wg j f := fun r j => by
  rw [← H.wg]
  blk_ext! [iblk, V, idx t]

theorem in5 : Is (φ := .bf16) (iblk m c 5 t) fun f j => W.wu j f := fun r j => by
  rw [← H.wu]
  blk_ext! [iblk, V, idx t]

theorem in6 : Is (φ := .bf16) (iblk m c 6 t) fun f j => W.wd f j := fun r j => by
  rw [← H.wd]
  blk_ext! [iblk, V, idx t]

end Inputs
-- ==== Proof.Point.lean ====
/-
  What one grid point of the kernel leaves, as real numbers: the six blocks of its 256 tokens, and the three running sums
  with the block's tokens added.
-/
module

public import proofs.«01_k».proof.Proof.Body
public import proofs.«01_k».proof.Proof.Inputs

@[expose] public section

noncomputable section

namespace Point

open Cert.KernelIdeal Cert.KernelIdeal.Gen Idealize.ShloMosaic Idealize.ShloMosaic.TcCoe Idealize.SL.Sem Spec Payload Body Inputs

/-! ## On blocks of real numbers -/

section
variable {b0 b1 : FVec Ideal S256x1024 .f32} {b2 b3 : FVec Ideal S1x1024 .f32} {b4 b5 b6 : FVec Ideal S2816x1024 .bf16}
  {W : Params} {x t : Fin 256 → Fin 1024 → ℝ}
  (h0 : Is b0 x) (h1 : Is b1 t) (h2 : Is b2 fun _ j => W.g2 j) (h3 : Is b3 fun _ j => W.gf j)
  (h4 : Is b4 fun f j => W.wg j f) (h5 : Is b5 fun f j => W.wu j f) (h6 : Is b6 fun f j => W.wd f j)
include h0 h2 h4 h5

theorem actB_is : Is (actB b0 b2 b4 b5) fun r f => act W (x r) f :=
  pay17 (pay12 h0 h2 h4) (pay13 h0 h2 h5) (pay14 h0 h2 h4)

include h6

theorem rs2_is : Is (rs2 b0 b2 b4 b5 b6) fun r _ => rs (x2 W (x r)) :=
  pay19 h0 (pay12 h0 h2 h4) (pay13 h0 h2 h5) (pay14 h0 h2 h4) h6

theorem nrm2_is : Is (nrm2 b0 b2 b4 b5 b6) fun r j => nrm (x2 W (x r)) j :=
  pay20 h0 (pay12 h0 h2 h4) (pay13 h0 h2 h5) (pay14 h0 h2 h4) h6

include h1 h3

theorem errB_is : Is (errB b0 b1 b2 b3 b4 b5 b6) fun r j => err W (x r) (t r) j :=
  pay21 h0 (pay12 h0 h2 h4) (pay13 h0 h2 h5) (pay14 h0 h2 h4) h6 (pay8 h3) h1

theorem lossB_is : Is (lossB b0 b1 b2 b3 b4 b5 b6) fun _ _ => 1 / 2 * ∑ r, lossRow W (x r) (t r) :=
  pay23 h0 (pay12 h0 h2 h4) (pay13 h0 h2 h5) (pay14 h0 h2 h4) h6 (pay8 h3) h1

theorem dx2B_is : Is (dx2B b0 b1 b2 b3 b4 b5 b6) fun r j => dx2 W (x r) (t r) j :=
  pay27 (errB_is h0 h1 h2 h3 h4 h5 h6) (nrm2_is h0 h2 h4 h5 h6) (pay8 h3) (rs2_is h0 h2 h4 h5 h6)

theorem dx2H_is : Is (dx2H b0 b1 b2 b3 b4 b5 b6) fun r j => dx2 W (x r) (t r) j :=
  pay28 (errB_is h0 h1 h2 h3 h4 h5 h6) (nrm2_is h0 h2 h4 h5 h6) (pay8 h3) (rs2_is h0 h2 h4 h5 h6)

theorem dgateB_is : Is (dgateB b0 b1 b2 b3 b4 b5 b6) fun r f => dgate W (x r) (t r) f :=
  pay30 (errB_is h0 h1 h2 h3 h4 h5 h6) (nrm2_is h0 h2 h4 h5 h6) (pay8 h3) (rs2_is h0 h2 h4 h5 h6) h6 (pay13 h0 h2 h5)
    (pay16 (pay12 h0 h2 h4) (pay14 h0 h2 h4))

theorem dupB_is : Is (dupB b0 b1 b2 b3 b4 b5 b6) fun r f => dup W (x r) (t r) f :=
  pay31 (errB_is h0 h1 h2 h3 h4 h5 h6) (nrm2_is h0 h2 h4 h5 h6) (pay8 h3) (rs2_is h0 h2 h4 h5 h6) h6
    (pay15 (pay12 h0 h2 h4) (pay14 h0 h2 h4))

theorem dx1B_is : Is (dx1B b0 b1 b2 b3 b4 b5 b6) fun r j => dx1 W (x r) (t r) j :=
  pay3 (dgateB_is h0 h1 h2 h3 h4 h5 h6) (dupB_is h0 h1 h2 h3 h4 h5 h6) h4 h5 (pay10 h0) (pay7 h2) (pay9 h0)
    (dx2B_is h0 h1 h2 h3 h4 h5 h6)

theorem stepLoss_is {s : FVec Ideal S8x128 .f32} {a : ℝ} (hs : Is s fun _ _ => a) :
    Is (stepLoss b0 b1 b2 b3 b4 b5 b6 s) fun _ _ => a + 1 / 2 * ∑ r, lossRow W (x r) (t r) :=
  pay24 hs (lossB_is h0 h1 h2 h3 h4 h5 h6)

theorem stepGf_is {s : FVec Ideal S1x1024 .f32} {g : Fin 1024 → ℝ} (hs : Is s fun _ j => g j) :
    Is (stepGf b0 b1 b2 b3 b4 b5 b6 s) fun _ j => g j + ∑ r, dgfRow W (x r) (t r) j :=
  pay26 (errB_is h0 h1 h2 h3 h4 h5 h6) (nrm2_is h0 h2 h4 h5 h6) g hs

theorem stepG2_is {s : FVec Ideal S1x1024 .f32} {g : Fin 1024 → ℝ} (hs : Is s fun _ j => g j) :
    Is (stepG2 b0 b1 b2 b3 b4 b5 b6 s) fun _ j => g j + ∑ r, dg2Row W (x r) (t r) j :=
  pay2 (dgateB_is h0 h1 h2 h3 h4 h5 h6) (dupB_is h0 h1 h2 h3 h4 h5 h6) h4 h5 (pay10 h0) g hs
end

/-! ## Sums over the points and over the tokens -/

/-- The sum over the points up to number `n`. -/
def upto (n : ℕ) (term : Fin cfg0.N → ℝ) : ℝ := ∑ p ∈ Finset.univ.filter (fun p : Fin cfg0.N => p.val ≤ n), term p

theorem upto_first (t : Fin cfg0.N) (h : t.val % 32 = 0) (term : Fin cfg0.N → ℝ) : 0 + term t = upto t.val term := by
  have h32 : cfg0.N = 32 := N_0
  have e : Finset.univ.filter (fun p : Fin cfg0.N => p.val ≤ t.val) = {t} := by
    ext p
    simp only [Finset.mem_filter, Finset.mem_univ, true_and, Finset.mem_singleton, Fin.ext_iff]
    have := t.isLt
    omega
  unfold upto
  rw [e, Finset.sum_singleton, zero_add]

theorem upto_next (t : Fin cfg0.N) (h : ¬t.val % 32 = 0) (term : Fin cfg0.N → ℝ) :
    upto (t.val - 1) term + term t = upto t.val term := by
  have e : Finset.univ.filter (fun p : Fin cfg0.N => p.val ≤ t.val)
      = insert t (Finset.univ.filter (fun p : Fin cfg0.N => p.val ≤ t.val - 1)) := by
    ext p
    simp only [Finset.mem_filter, Finset.mem_univ, true_and, Finset.mem_insert, Fin.ext_iff]
    omega
  have hn : t ∉ Finset.univ.filter (fun p : Fin cfg0.N => p.val ≤ t.val - 1) := by
    simp only [Finset.mem_filter, Finset.mem_univ, true_and]
    omega
  unfold upto
  rw [e, Finset.sum_insert hn, add_comm]

theorem upto_last (t : Fin cfg0.N) (h : t.val % 32 = 31) (term : Fin cfg0.N → ℝ) : upto t.val term = ∑ p, term p := by
  have h32 : cfg0.N = 32 := N_0
  have e : Finset.univ.filter (fun p : Fin cfg0.N => p.val ≤ t.val) = Finset.univ := by
    ext p
    simp only [Finset.mem_filter, Finset.mem_univ, true_and, iff_true]
    have := p.isLt
    omega
  unfold upto
  rw [e]

/-- The points' rows are the tokens, each once. -/
theorem sum_rows (f : Fin 8192 → ℝ) : ∑ p : Fin cfg0.N, ∑ r : Fin 256, f (row p r) = ∑ i, f i :=
  Fin.sum_mul_add_fin 32 256 f

/-! ## At a grid point -/

variable {m : (ℓ : Loc nD τ Cert.KernelIdeal.sig) → Buf (Elt Ideal) ℓ} {c : Dev nD} {W : Params}
  {X T : Fin 8192 → Fin 1024 → ℝ} (H : Args m c W X T) (t : Fin cfg0.N)
include H

theorem w7 : Is (φ := .f32) (outsAt0 m c t.val t.isLt).1 fun r j => dx1 W (X (row t r)) (T (row t r)) j := by
  rw [out7]; exact dx1B_is (in0 H t) (in1 H t) (in2 H t) (in3 H t) (in4 H t) (in5 H t) (in6 H t)

theorem w8 : Is (φ := .bf16) (outsAt0 m c t.val t.isLt).2.1 fun r j => h2 W (X (row t r)) j := by
  rw [out8]; exact pay11 (in0 H t) (in2 H t)

theorem w9 : Is (φ := .bf16) (outsAt0 m c t.val t.isLt).2.2.1 fun r f => dgate W (X (row t r)) (T (row t r)) f := by
  rw [out9]; exact dgateB_is (in0 H t) (in1 H t) (in2 H t) (in3 H t) (in4 H t) (in5 H t) (in6 H t)

theorem w10 : Is (φ := .bf16) (outsAt0 m c t.val t.isLt).2.2.2.1 fun r f => dup W (X (row t r)) (T (row t r)) f := by
  rw [out10]; exact dupB_is (in0 H t) (in1 H t) (in2 H t) (in3 H t) (in4 H t) (in5 H t) (in6 H t)

theorem w11 : Is (φ := .bf16) (outsAt0 m c t.val t.isLt).2.2.2.2.1 fun r f => act W (X (row t r)) f := by
  rw [out11]; exact actB_is (in0 H t) (in2 H t) (in4 H t) (in5 H t)

theorem w12 : Is (φ := .bf16) (outsAt0 m c t.val t.isLt).2.2.2.2.2.1 fun r j => dx2 W (X (row t r)) (T (row t r)) j := by
  rw [out12]; exact dx2H_is (in0 H t) (in1 H t) (in2 H t) (in3 H t) (in4 H t) (in5 H t) (in6 H t)

omit t in
/-- The loss's running sum after point `n`. -/
theorem w13 (n : ℕ) : ∀ hn : n < cfg0.N, Is (φ := .f32) (outsAt0 m c n hn).2.2.2.2.2.2.1
    fun _ _ => upto n fun p => 1 / 2 * ∑ r, lossRow W (X (row p r)) (T (row p r)) := by
  induction n using Nat.strong_induction_on with
  | _ n ih =>
  intro hn i j
  by_cases h0 : n % 32 = 0
  · refine (congrFun (out13_A m c ⟨n, hn⟩ h0) (ix2 i j)).trans ?_
    exact (stepLoss_is (in0 H _) (in1 H _) (in2 H _) (in3 H _) (in4 H _) (in5 H _) (in6 H _) pay4 i j).trans
      (congrArg Real.toEReal (upto_first ⟨n, hn⟩ h0 fun p => 1 / 2 * ∑ r, lossRow W (X (row p r)) (T (row p r))))
  · refine (congrFun (out13_B m c ⟨n, hn⟩ h0) (ix2 i j)).trans ?_
    exact (stepLoss_is (in0 H _) (in1 H _) (in2 H _) (in3 H _) (in4 H _) (in5 H _) (in6 H _)
      (ih (n - 1) (by omega) (Nat.lt_of_le_of_lt (Nat.sub_le _ _) hn)) i j).trans
      (congrArg Real.toEReal (upto_next ⟨n, hn⟩ h0 _))

omit t in
/-- The final gain's gradient's running sum after point `n`. -/
theorem w14 (n : ℕ) : ∀ hn : n < cfg0.N, Is (φ := .f32) (outsAt0 m c n hn).2.2.2.2.2.2.2.1
    fun _ j => upto n fun p => ∑ r, dgfRow W (X (row p r)) (T (row p r)) j := by
  induction n using Nat.strong_induction_on with
  | _ n ih =>
  intro hn i j
  by_cases h0 : n % 32 = 0
  · refine (congrFun (out14_A m c ⟨n, hn⟩ h0) (ix2 i j)).trans ?_
    exact (stepGf_is (in0 H _) (in1 H _) (in2 H _) (in3 H _) (in4 H _) (in5 H _) (in6 H _) pay5 i j).trans
      (congrArg Real.toEReal (upto_first ⟨n, hn⟩ h0 fun p => ∑ r, dgfRow W (X (row p r)) (T (row p r)) j))
  · refine (congrFun (out14_B m c ⟨n, hn⟩ h0) (ix2 i j)).trans ?_
    exact (stepGf_is (in0 H _) (in1 H _) (in2 H _) (in3 H _) (in4 H _) (in5 H _) (in6 H _)
      (ih (n - 1) (by omega) (Nat.lt_of_le_of_lt (Nat.sub_le _ _) hn)) i j).trans
      (congrArg Real.toEReal (upto_next ⟨n, hn⟩ h0 _))

omit t in
/-- The first gain's gradient's running sum after point `n`. -/
theorem w15 (n : ℕ) : ∀ hn : n < cfg0.N, Is (φ := .f32) (outsAt0 m c n hn).2.2.2.2.2.2.2.2
    fun _ j => upto n fun p => ∑ r, dg2Row W (X (row p r)) (T (row p r)) j := by
  induction n using Nat.strong_induction_on with
  | _ n ih =>
  intro hn i j
  by_cases h0 : n % 32 = 0
  · refine (congrFun (out15_A m c ⟨n, hn⟩ h0) (ix2 i j)).trans ?_
    exact (stepG2_is (in0 H _) (in1 H _) (in2 H _) (in3 H _) (in4 H _) (in5 H _) (in6 H _) pay6 i j).trans
      (congrArg Real.toEReal (upto_first ⟨n, hn⟩ h0 fun p => ∑ r, dg2Row W (X (row p r)) (T (row p r)) j))
  · refine (congrFun (out15_B m c ⟨n, hn⟩ h0) (ix2 i j)).trans ?_
    exact (stepG2_is (in0 H _) (in1 H _) (in2 H _) (in3 H _) (in4 H _) (in5 H _) (in6 H _)
      (ih (n - 1) (by omega) (Nat.lt_of_le_of_lt (Nat.sub_le _ _) hn)) i j).trans
      (congrArg Real.toEReal (upto_next ⟨n, hn⟩ h0 _))

end Point
-- ==== Proof.Arrays.lean ====
/-
  The kernel's nine result arrays after the run, as real numbers: six hold a row per token, three the sums over all tokens.
-/
module

public import proofs.«01_k».proof.Proof.Point

@[expose] public section

set_option maxRecDepth 16384

noncomputable section

namespace Arrays

open Cert.KernelIdeal Cert.KernelIdeal.Gen Idealize.ShloMosaic Idealize.ShloMosaic.TcCoe Idealize.SL.Sem Spec Payload Inputs Point

theorem idxOut : ∀ t : Fin cfg0.N, win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![0, 0]
    ∧ win0_14.index t = ![0, 0] ∧ win0_15.index t = ![0, 0] :=
  (by decide +kernel : ∀ t : Fin grid0.N, _)

/-- The array of the real numbers `f`. -/
def arr {φ : FTy} {a b : ℕ} (f : Fin a → Fin b → ℝ) : FVec Ideal ⟨2, ![a, b]⟩ φ := fun i => ((f (i 0) (i 1) : ℝ) : EReal)

variable {m : (ℓ : Loc nD τ Cert.KernelIdeal.sig) → Buf (Elt Ideal) ℓ} {c : Dev nD} {W : Params}
  {X T : Fin 8192 → Fin 1024 → ℝ} (H : Args m c W X T)
include H

/-- The gradient of the input. -/
theorem a7 : (dats m 0 c).arrAt 7 cfg0.N = arr (φ := .f32) fun i j => dx1 W (X i) (T i) j := by
  refine (dats m 0 c).arrAt_eq_of_covers 7 _ (by decide +kernel) fun t hf y => ?_
  change S256x1024.Idx at y
  blk_simp
  rw [after0_7, eq_ix2 y]
  refine (w7 H t _ _).trans ?_
  have e : (win0_7.blk t).view.emb (ix2 (y 0) (y 1)) = ix2 (row t (y 0)) (y 1) := by blk_ext [idxOut t, row]
  rw [e]
  rfl

/-- The first norm's output. -/
theorem a8 : (dats m 0 c).arrAt 8 cfg0.N = arr (φ := .bf16) fun i j => h2 W (X i) j := by
  refine (dats m 0 c).arrAt_eq_of_covers 8 _ (by decide +kernel) fun t hf y => ?_
  change S256x1024.Idx at y
  blk_simp
  rw [after0_8, eq_ix2 y]
  refine (w8 H t _ _).trans ?_
  have e : (win0_8.blk t).view.emb (ix2 (y 0) (y 1)) = ix2 (row t (y 0)) (y 1) := by blk_ext [idxOut t, row]
  rw [e]
  rfl

/-- The gate's gradient. -/
theorem a9 : (dats m 0 c).arrAt 9 cfg0.N = arr (φ := .bf16) fun i f => dgate W (X i) (T i) f := by
  refine (dats m 0 c).arrAt_eq_of_covers 9 _ (by decide +kernel) fun t hf y => ?_
  change S256x2816.Idx at y
  blk_simp
  rw [after0_9, eq_ix2 y]
  refine (w9 H t _ _).trans ?_
  have e : (win0_9.blk t).view.emb (ix2 (y 0) (y 1)) = ix2 (row t (y 0)) (y 1) := by blk_ext [idxOut t, row]
  rw [e]
  rfl

/-- The gradient of the product beside the gate. -/
theorem a10 : (dats m 0 c).arrAt 10 cfg0.N = arr (φ := .bf16) fun i f => dup W (X i) (T i) f := by
  refine (dats m 0 c).arrAt_eq_of_covers 10 _ (by decide +kernel) fun t hf y => ?_
  change S256x2816.Idx at y
  blk_simp
  rw [after0_10, eq_ix2 y]
  refine (w10 H t _ _).trans ?_
  have e : (win0_10.blk t).view.emb (ix2 (y 0) (y 1)) = ix2 (row t (y 0)) (y 1) := by blk_ext [idxOut t, row]
  rw [e]
  rfl

/-- The gated product. -/
theorem a11 : (dats m 0 c).arrAt 11 cfg0.N = arr (φ := .bf16) fun i f => act W (X i) f := by
  refine (dats m 0 c).arrAt_eq_of_covers 11 _ (by decide +kernel) fun t hf y => ?_
  change S256x2816.Idx at y
  blk_simp
  rw [after0_11, eq_ix2 y]
  refine (w11 H t _ _).trans ?_
  have e : (win0_11.blk t).view.emb (ix2 (y 0) (y 1)) = ix2 (row t (y 0)) (y 1) := by blk_ext [idxOut t, row]
  rw [e]
  rfl

/-- The gradient of the second residual. -/
theorem a12 : (dats m 0 c).arrAt 12 cfg0.N = arr (φ := .bf16) fun i j => dx2 W (X i) (T i) j := by
  refine (dats m 0 c).arrAt_eq_of_covers 12 _ (by decide +kernel) fun t hf y => ?_
  change S256x1024.Idx at y
  blk_simp
  rw [after0_12, eq_ix2 y]
  refine (w12 H t _ _).trans ?_
  have e : (win0_12.blk t).view.emb (ix2 (y 0) (y 1)) = ix2 (row t (y 0)) (y 1) := by blk_ext [idxOut t, row]
  rw [e]
  rfl

/-- The loss, in every place. -/
theorem a13 : (dats m 0 c).arrAt 13 cfg0.N = arr (φ := .f32) fun _ _ => 1 / 2 * ∑ i, lossRow W (X i) (T i) := by
  refine (dats m 0 c).arrAt_eq_of_covers 13 _ (by decide +kernel) fun t hf y => ?_
  have h31 := (flush0_13 t).mp hf
  change S8x128.Idx at y
  blk_simp
  rw [after0_13, eq_ix2 y]
  refine (w13 H t.val t.isLt _ _).trans ?_
  have e : (win0_13.blk t).view.emb (ix2 (y 0) (y 1)) = ix2 (y 0) (y 1) := by blk_ext [idxOut t, row]
  rw [e]
  refine congrArg Real.toEReal ((upto_last t h31 _).trans ?_)
  rw [← Finset.mul_sum]
  exact congrArg (1 / 2 * ·) (sum_rows fun i => lossRow W (X i) (T i))

/-- The final gain's gradient. -/
theorem a14 : (dats m 0 c).arrAt 14 cfg0.N = arr (φ := .f32) fun _ j => ∑ i, dgfRow W (X i) (T i) j := by
  refine (dats m 0 c).arrAt_eq_of_covers 14 _ (by decide +kernel) fun t hf y => ?_
  have h31 := (flush0_14 t).mp hf
  change S1x1024.Idx at y
  blk_simp
  rw [after0_14, eq_ix2 y]
  refine (w14 H t.val t.isLt _ _).trans ?_
  have e : (win0_14.blk t).view.emb (ix2 (y 0) (y 1)) = ix2 (y 0) (y 1) := by blk_ext [idxOut t, row]
  rw [e]
  refine congrArg Real.toEReal ((upto_last t h31 _).trans ?_)
  exact sum_rows fun i => dgfRow W (X i) (T i) (y 1)

/-- The first gain's gradient. -/
theorem a15 : (dats m 0 c).arrAt 15 cfg0.N = arr (φ := .f32) fun _ j => ∑ i, dg2Row W (X i) (T i) j := by
  refine (dats m 0 c).arrAt_eq_of_covers 15 _ (by decide +kernel) fun t hf y => ?_
  have h31 := (flush0_15 t).mp hf
  change S1x1024.Idx at y
  blk_simp
  rw [after0_15, eq_ix2 y]
  refine (w15 H t.val t.isLt _ _).trans ?_
  have e : (win0_15.blk t).view.emb (ix2 (y 0) (y 1)) = ix2 (y 0) (y 1) := by blk_ext [idxOut t, row]
  rw [e]
  refine congrArg Real.toEReal ((upto_last t h31 _).trans ?_)
  exact sum_rows fun i => dg2Row W (X i) (T i) (y 1)

end Arrays
-- ==== Proof.Finite.lean ====
/-
  The precondition read: arguments that are finite everywhere are arrays of real numbers.
-/
module

public import proofs.«01_k».proof.Proof.Arrays
public import proofs.«01_k».proof.Proof.Gen.Pre_finite
public import proofs.«01_k».proof.Defs

@[expose] public section

noncomputable section

namespace Finite

open Idealize.ShloMosaic Idealize.SL.Sem Reals Spec

theorem lit_top : Ideal.ofBits .f32 0x7F800000#32 = ⊤ := by simp [Ideal.ofBits, Ideal.ieee]

/-- An array whose comparison with infinity holds everywhere has a real number at each index. -/
theorem real {S : Shape} {v : FVec Ideal S .f32} {hb}
    (h : cmpf .olt (Host.absf v) (broadcastInDim S ![] hb (constant (F := Ideal) ⟨0, ![]⟩ .f32 0x7F800000#32)) = fun _ => 1#1)
    (i : S.Idx) : ∃ r : ℝ, v i = (r : EReal) := by
  apply exists_real
  by_contra hn
  have e := congrFun h i
  pointwise at e
  rw [lit_top] at e
  have e' : BitVec.ofBool (decide (max (v i) (-v i) < ⊤)) = 1#1 := e
  rw [decide_eq_false hn] at e'
  exact absurd e' (by decide)

theorem args {m} (h : Cert.Pre_KernelIdeal_finite m) (c : Dev Cert.KernelIdeal.nD) : ∃ W X T, Inputs.Args m c W X T := by
  obtain ⟨h0, h1, h2, h3, h4, h5, h6⟩ := h c
  choose x hx using real h0
  choose t ht using real h1
  choose g2 hg2 using real h2
  choose wg hwg using real h3
  choose wu hwu using real h4
  choose wd hwd using real h5
  choose gf hgf using real h6
  exact ⟨⟨fun j => g2 (ix1 j), fun j => gf (ix1 j), fun i j => wg (ix2 i j), fun i j => wu (ix2 i j), fun i j => wd (ix2 i j)⟩,
    fun i j => x (ix2 i j), fun i j => t (ix2 i j),
    fun _ _ => hx _, fun _ _ => ht _, fun _ => hg2 _, fun _ _ => hwg _, fun _ _ => hwu _, fun _ _ => hwd _, fun _ => hgf _⟩

end Finite
-- ==== Proof.WeightGrad.lean ====
/-
  The gradient of the weight of a product, blocked: each block of its rows adds the products of four tiles of tokens, and
  the whole array is the sum over all tokens, on any extended reals.
-/
module

public import proofs.«01_k».proof.Proof.Gen.Kernel2Ideal.Value
public import proofs.«01_k».proof.Proof.Gen.Reference2Ideal.Read
public import proofs.«01_k».proof.Proof.Gen.Reference3Ideal.Read
public import Idealize.ShloMosaic.Lib.Pointwise
public import Idealize.ShloMosaic.Lib.Pipeline.ValueKit
public import Idealize.ShloMosaic.Lib.Pipeline.ValueKit.Acc

@[expose] public section

set_option maxRecDepth 16384

noncomputable section

namespace WeightGrad

open Cert.Kernel2Ideal Cert.Kernel2Ideal.Gen Idealize.ShloMosaic Idealize.ShloMosaic.TcCoe Idealize.SL.Sem

/-- The gradient of the weight: for each pair of an output and an input, the sum over the tokens. -/
def grad (A : FVec Ideal S8192x2816 .bf16) (B : FVec Ideal S8192x1024 .bf16) : FVec Ideal S2816x1024 .f32 := fun i =>
  ∑ s : Fin 8192, (A (ix2 s (i 0)) : EReal) * B (ix2 s (i 1))

/-! ## The two references -/

theorem reference2 (A : FVec Ideal S8192x2816 .bf16) (B : FVec Ideal S8192x1024 .bf16) :
    Cert.Reference2Ideal.Read.val_main_v5 (F := Ideal) A B = grad A B := by
  funext i
  rw [eq_ix2 i]
  pointwise [Cert.Reference2Ideal.Read.val_main_v5, Cert.Reference2Ideal.Read.val_main_v4, Cert.Reference2Ideal.Read.val_main_v0,
    Cert.Reference2Ideal.Read.val_main_v1]
  exact Finset.sum_congr rfl fun s _ => mul_comm _ _

theorem reference3 (A : FVec Ideal S8192x2816 .bf16) (B : FVec Ideal S8192x1024 .bf16) :
    Cert.Reference3Ideal.Read.val_main_v6 (F := Ideal) A B = grad A B := by
  funext i
  rw [eq_ix2 i]
  pointwise [Cert.Reference3Ideal.Read.val_main_v6, Cert.Reference3Ideal.Read.val_main_v5, Cert.Reference3Ideal.Read.val_main_v4, Cert.Reference3Ideal.Read.val_main_v0,
    Cert.Reference3Ideal.Read.val_main_v1]
  rfl

/-! ## The kernel -/

/-- What a point adds: the products of its tile of tokens. -/
theorem adds (acc : Vec Ideal S1408x1024 .f32) (a : Vec Ideal S2048x1408 .bf16) (b : Vec Ideal S2048x1024 .bf16)
    (j : S1408x1024.Idx) :
    k0_pay2 (F := Ideal) acc a b j = acc j + ∑ k : Fin 2048, (a (ix2 k (j 0)) : EReal) * b (ix2 k (j 1)) := by
  rw [eq_ix2 j]
  pointwise [k0_pay2]

theorem zero (j : S1408x1024.Idx) : k0_pay1 (F := Ideal) j = (0 : EReal) := by
  rw [eq_ix2 j]
  pointwise [k0_pay1]

/-- The blocks' places: a point's output rows are its column of the grid, its tokens the row of the grid. -/
theorem idx : ∀ t : Fin cfg0.N, win0_0.index t = ![t.val % 4, t.val / 4] ∧ win0_1.index t = ![t.val % 4, 0]
    ∧ win0_2.index t = ![t.val / 4, 0] := (by decide +kernel : ∀ t : Fin grid0.N, _)

variable (m : (ℓ : Loc nD τ Cert.Kernel2Ideal.sig) → Buf (Elt Ideal) ℓ) (c : Dev nD)

/-- The four points of a block leave the sum over all tokens. -/
theorem block (t : Fin cfg0.N) (hf : t.val % 4 = 3) (j : S1408x1024.Idx) :
    outsAt0 m c t.val t.isLt j = ∑ s : Fin 4, ∑ k : Fin 2048,
      (show EReal from iblk m c 0 ⟨4 * (t.val / 4) + s.val, Pipeline.run_point_lt_of_flush t hf s⟩ (ix2 k (j 0)))
        * (show EReal from iblk m c 1 ⟨4 * (t.val / 4) + s.val, Pipeline.run_point_lt_of_flush t hf s⟩ (ix2 k (j 1))) := by
  rw [Pipeline.eq_sum_fin_of_reset_step_apply_of_flush (fun n h => outsAt0 m c n h) 4 (fun _ => (0 : EReal)) _
    (fun t h j => by rw [outsAt0_A m c t h]; frame_out; rw [adds, zero])
    (fun t h j => by rw [outsAt0_B m c t h]; frame_out; rw [adds]) t hf j, zero_add]

/-- The whole result. -/
theorem result : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have h3 := (flush0_2 t).mp hf
  change S1408x1024.Idx at y
  blk_simp
  rw [after0_2]
  refine (block m c t h3 y).trans ?_
  refine Fin.sum_mul_add_congr fun s k hl => ?_
  have hs : (4 * (t.val / 4) + s.val) % 4 = s.val := by omega
  have hd : (4 * (t.val / 4) + s.val) / 4 = t.val / 4 := by omega
  congr 1
  · blk_ext [iblk, V, idx ⟨4 * (t.val / 4) + s.val, Pipeline.run_point_lt_of_flush t h3 s⟩, idx t, hs, hd]
  · blk_ext [iblk, V, idx ⟨4 * (t.val / 4) + s.val, Pipeline.run_point_lt_of_flush t h3 s⟩, idx t, hs, hd]

end WeightGrad
-- ==== Proof.ProjSums.lean ====
/-
  The columns of the projection's gradient in the reference's order and in the padded order that the kernel keeps them in,
  and the product with the projection's matrix as one sum or as three.
-/
module

public import proofs.«01_k».proof.Proof.Gen.Reference4Ideal.Read
public import Idealize.ShloMosaic.Lib.Pointwise

@[expose] public section

set_option maxRecDepth 16384

noncomputable section

namespace ProjSums

open Cert.Reference4Ideal Cert.Reference4Ideal.Read Idealize.ShloMosaic Idealize.ShloMosaic.TcCoe Idealize.SL.Sem

/-- A sum over the reference's columns, the padded ones in three runs. -/
theorem three (R W : Fin 2592 → EReal) (P : Fin 2688 → EReal)
    (h1 : ∀ c : Fin 1536, R ⟨c.val, by omega⟩ = P ⟨c.val, by omega⟩)
    (h2 : ∀ c : Fin 32, R ⟨1536 + c.val, by omega⟩ = P ⟨2560 + c.val, by omega⟩)
    (h3 : ∀ c : Fin 1024, R ⟨1568 + c.val, by omega⟩ = P ⟨1536 + c.val, by omega⟩)
    (h4 : ∀ c : Fin 96, P ⟨2592 + c.val, by omega⟩ = 0) :
    ∑ c, R c * W c = ∑ x : Fin 1536, P ⟨x.val, by omega⟩ * W ⟨x.val, by omega⟩
      + ∑ x : Fin 1024, P ⟨1536 + x.val, by omega⟩ * W ⟨1568 + x.val, by omega⟩
      + ∑ x : Fin 128, P ⟨2560 + x.val, by omega⟩ * W ⟨1536 + x.val, by omega⟩ := by
  have e1 : ∑ c, R c * W c = ∑ c : Fin 1536, R ⟨c.val, by omega⟩ * W ⟨c.val, by omega⟩
      + (∑ c : Fin 32, R ⟨1536 + c.val, by omega⟩ * W ⟨1536 + c.val, by omega⟩
        + ∑ c : Fin 1024, R ⟨1536 + (32 + c.val), by omega⟩ * W ⟨1536 + (32 + c.val), by omega⟩) := by
    refine (Fin.sum_univ_add (a := 1536) (b := 1056) fun c => R c * W c).trans ?_
    refine congrArg _ ?_
    exact Fin.sum_univ_add (a := 32) (b := 1024) fun c => R (Fin.natAdd 1536 c) * W (Fin.natAdd 1536 c)
  have e2 : ∑ x : Fin 128, P ⟨2560 + x.val, by omega⟩ * W ⟨1536 + x.val, by omega⟩
      = ∑ c : Fin 32, P ⟨2560 + c.val, by omega⟩ * W ⟨1536 + c.val, by omega⟩
        + ∑ c : Fin 96, P ⟨2560 + (32 + c.val), by omega⟩ * W ⟨1536 + (32 + c.val), by omega⟩ :=
    Fin.sum_univ_add (a := 32) (b := 96) fun x : Fin 128 => P ⟨2560 + x.val, by omega⟩ * W ⟨1536 + x.val, by omega⟩
  have e3 : ∑ c : Fin 96, P ⟨2560 + (32 + c.val), by omega⟩ * W ⟨1536 + (32 + c.val), by omega⟩ = 0 :=
    Finset.sum_eq_zero fun c _ => by
      have := h4 c
      simp only [← Nat.add_assoc] at this ⊢
      rw [this, zero_mul]
  rw [e1, e2, e3, add_zero, add_assoc, add_comm (∑ x : Fin 1024, _) (∑ x : Fin 32, _)]
  simp only [← Nat.add_assoc, Nat.reduceAdd]
  refine congrArg₂ _ (Finset.sum_congr rfl fun c _ => by rw [h1]) (congrArg₂ _ (Finset.sum_congr rfl fun c _ => by rw [h2])
    (Finset.sum_congr rfl fun c _ => by rw [h3]))

variable (x2 : FVec Ideal S1024x2592 .f32)
  (x4 x5 x6 x7 : FVec Ideal S8192x256 .bf16) (x8 x9 x10 x11 x12 : FVec Ideal S8192x512 .bf16) (x13 x14 : FVec Ideal S8192x16 .bf16)

/-- The padded columns of token `i`. -/
abbrev P (i : Fin 8192) (c : Fin 2688) : EReal := val_main_v56 (F := Ideal) x4 x5 x6 x7 x8 x9 x10 x11 x12 x13 x14 (ix2 i c)
/-- The reference's columns of token `i`. -/
abbrev R (i : Fin 8192) (c : Fin 2592) : EReal := val_main_v14 (F := Ideal) x4 x5 x6 x7 x8 x9 x10 x11 x12 x13 x14 (ix2 i c)

/-- What a column of the padded order holds. -/
theorem P_eq (i : Fin 8192) (c : Fin 2688) : P x4 x5 x6 x7 x8 x9 x10 x11 x12 x13 x14 i c =
    if h : c.val < 256 then x4 (ix2 i ⟨c.val, h⟩) + x5 (ix2 i ⟨c.val, h⟩)
    else if h : c.val - 256 < 256 then x6 (ix2 i ⟨c.val - 256, h⟩) + x7 (ix2 i ⟨c.val - 256, h⟩)
    else if h : c.val - 512 < 512 then x8 (ix2 i ⟨c.val - 512, h⟩) + x9 (ix2 i ⟨c.val - 512, h⟩)
    else if h : c.val - 1024 < 512 then x10 (ix2 i ⟨c.val - 1024, h⟩)
    else if h : c.val - 1536 < 512 then x11 (ix2 i ⟨c.val - 1536, h⟩)
    else if h : c.val - 2048 < 512 then x12 (ix2 i ⟨c.val - 2048, h⟩)
    else if h : c.val - 2560 < 16 then x13 (ix2 i ⟨c.val - 2560, h⟩)
    else if h : c.val - 2576 < 16 then x14 (ix2 i ⟨c.val - 2576, h⟩) else 0 := by
  pointwise [P, val_main_v56, val_main_v54, val_main_v53, val_main_cst_8, val_main_v0, val_main_v1, val_main_v2, val_main_v3, val_main_v4, val_main_v5, val_main_v6, val_main_v7, val_main_v8, val_main_v9, val_main_v10, val_main_v11, val_main_v12, val_main_v13]
  simp only [Nat.sub_sub, Nat.reduceAdd]

/-- What a column of the reference's order holds. -/
theorem R_eq (i : Fin 8192) (c : Fin 2592) : R x4 x5 x6 x7 x8 x9 x10 x11 x12 x13 x14 i c =
    if h : c.val < 256 then x4 (ix2 i ⟨c.val, h⟩) + x5 (ix2 i ⟨c.val, h⟩)
    else if h : c.val - 256 < 256 then x6 (ix2 i ⟨c.val - 256, h⟩) + x7 (ix2 i ⟨c.val - 256, h⟩)
    else if h : c.val - 512 < 512 then x8 (ix2 i ⟨c.val - 512, h⟩) + x9 (ix2 i ⟨c.val - 512, h⟩)
    else if h : c.val - 1024 < 512 then x10 (ix2 i ⟨c.val - 1024, h⟩)
    else if h : c.val - 1536 < 16 then x13 (ix2 i ⟨c.val - 1536, h⟩)
    else if h : c.val - 1552 < 16 then x14 (ix2 i ⟨c.val - 1552, h⟩)
    else if h : c.val - 1568 < 512 then x11 (ix2 i ⟨c.val - 1568, h⟩)
    else x12 (ix2 i ⟨c.val - 2080, by omega⟩) := by
  pointwise [R, val_main_v14, val_main_v0, val_main_v1, val_main_v2, val_main_v3, val_main_v4, val_main_v5, val_main_v6, val_main_v7, val_main_v8, val_main_v9, val_main_v10, val_main_v11, val_main_v12, val_main_v13]
  simp only [Nat.sub_sub, Nat.reduceAdd]

/-- The first columns are in the same places. -/
theorem first (i : Fin 8192) (c : Fin 1536) : R x4 x5 x6 x7 x8 x9 x10 x11 x12 x13 x14 i ⟨c.val, by omega⟩
    = P x4 x5 x6 x7 x8 x9 x10 x11 x12 x13 x14 i ⟨c.val, by omega⟩ := by
  rw [R_eq, P_eq]
  by_cases h0 : c.val < 256
  · simp only [show c.val < 256 by omega, ↓reduceDIte]
  by_cases h1 : c.val < 512
  · simp only [show ¬ c.val < 256 by omega, show c.val - 256 < 256 by omega, ↓reduceDIte]
  by_cases h2 : c.val < 1024
  · simp only [show ¬ c.val < 256 by omega, show ¬ c.val - 256 < 256 by omega, show c.val - 512 < 512 by omega, ↓reduceDIte]
  simp only [show ¬ c.val < 256 by omega, show ¬ c.val - 256 < 256 by omega, show ¬ c.val - 512 < 512 by omega, show c.val - 1024 < 512 by omega, ↓reduceDIte]

/-- The decays' columns come later in the padded order. -/
theorem decays (i : Fin 8192) (c : Fin 32) : R x4 x5 x6 x7 x8 x9 x10 x11 x12 x13 x14 i ⟨1536 + c.val, by omega⟩
    = P x4 x5 x6 x7 x8 x9 x10 x11 x12 x13 x14 i ⟨2560 + c.val, by omega⟩ := by
  rw [R_eq, P_eq]
  by_cases h0 : c.val < 16
  · simp only [show ¬ 1536 + c.val < 256 by omega, show ¬ 1536 + c.val - 256 < 256 by omega, show ¬ 1536 + c.val - 512 < 512 by omega, show ¬ 1536 + c.val - 1024 < 512 by omega, show 1536 + c.val - 1536 < 16 by omega, show ¬ 2560 + c.val < 256 by omega, show ¬ 2560 + c.val - 256 < 256 by omega, show ¬ 2560 + c.val - 512 < 512 by omega, show ¬ 2560 + c.val - 1024 < 512 by omega, show ¬ 2560 + c.val - 1536 < 512 by omega, show ¬ 2560 + c.val - 2048 < 512 by omega, show 2560 + c.val - 2560 < 16 by omega, show 1536 + c.val - 1536 = 2560 + c.val - 2560 by omega, ↓reduceDIte]
  simp only [show ¬ 1536 + c.val < 256 by omega, show ¬ 1536 + c.val - 256 < 256 by omega, show ¬ 1536 + c.val - 512 < 512 by omega, show ¬ 1536 + c.val - 1024 < 512 by omega, show ¬ 1536 + c.val - 1536 < 16 by omega, show 1536 + c.val - 1552 < 16 by omega, show ¬ 2560 + c.val < 256 by omega, show ¬ 2560 + c.val - 256 < 256 by omega, show ¬ 2560 + c.val - 512 < 512 by omega, show ¬ 2560 + c.val - 1024 < 512 by omega, show ¬ 2560 + c.val - 1536 < 512 by omega, show ¬ 2560 + c.val - 2048 < 512 by omega, show ¬ 2560 + c.val - 2560 < 16 by omega, show 2560 + c.val - 2576 < 16 by omega, show 1536 + c.val - 1552 = 2560 + c.val - 2576 by omega, ↓reduceDIte]

/-- The mixer's columns come earlier in the padded order. -/
theorem last (i : Fin 8192) (c : Fin 1024) : R x4 x5 x6 x7 x8 x9 x10 x11 x12 x13 x14 i ⟨1568 + c.val, by omega⟩
    = P x4 x5 x6 x7 x8 x9 x10 x11 x12 x13 x14 i ⟨1536 + c.val, by omega⟩ := by
  rw [R_eq, P_eq]
  by_cases h0 : c.val < 512
  · simp only [show ¬ 1568 + c.val < 256 by omega, show ¬ 1568 + c.val - 256 < 256 by omega, show ¬ 1568 + c.val - 512 < 512 by omega, show ¬ 1568 + c.val - 1024 < 512 by omega, show ¬ 1568 + c.val - 1536 < 16 by omega, show ¬ 1568 + c.val - 1552 < 16 by omega, show 1568 + c.val - 1568 < 512 by omega, show ¬ 1536 + c.val < 256 by omega, show ¬ 1536 + c.val - 256 < 256 by omega, show ¬ 1536 + c.val - 512 < 512 by omega, show ¬ 1536 + c.val - 1024 < 512 by omega, show 1536 + c.val - 1536 < 512 by omega, show 1568 + c.val - 1568 = 1536 + c.val - 1536 by omega, ↓reduceDIte]
  simp only [show ¬ 1568 + c.val < 256 by omega, show ¬ 1568 + c.val - 256 < 256 by omega, show ¬ 1568 + c.val - 512 < 512 by omega, show ¬ 1568 + c.val - 1024 < 512 by omega, show ¬ 1568 + c.val - 1536 < 16 by omega, show ¬ 1568 + c.val - 1552 < 16 by omega, show ¬ 1568 + c.val - 1568 < 512 by omega, show ¬ 1536 + c.val < 256 by omega, show ¬ 1536 + c.val - 256 < 256 by omega, show ¬ 1536 + c.val - 512 < 512 by omega, show ¬ 1536 + c.val - 1024 < 512 by omega, show ¬ 1536 + c.val - 1536 < 512 by omega, show 1536 + c.val - 2048 < 512 by omega, show 1568 + c.val - 2080 = 1536 + c.val - 2048 by omega, ↓reduceDIte]

/-- The padding is zero. -/
theorem rest (i : Fin 8192) (c : Fin 96) : P x4 x5 x6 x7 x8 x9 x10 x11 x12 x13 x14 i ⟨2592 + c.val, by omega⟩ = 0 := by
  rw [P_eq]
  simp only [show ¬ 2592 + c.val < 256 by omega, show ¬ 2592 + c.val - 256 < 256 by omega, show ¬ 2592 + c.val - 512 < 512 by omega, show ¬ 2592 + c.val - 1024 < 512 by omega, show ¬ 2592 + c.val - 1536 < 512 by omega, show ¬ 2592 + c.val - 2048 < 512 by omega, show ¬ 2592 + c.val - 2560 < 16 by omega, show ¬ 2592 + c.val - 2576 < 16 by omega, ↓reduceDIte]

/-- The gradient of the projection's input: the sum over the columns, in the kernel's three runs. -/
theorem dh (i : Fin 8192) (j : Fin 1024) : val_main_v32 (F := Ideal) x2 x4 x5 x6 x7 x8 x9 x10 x11 x12 x13 x14 (ix2 i j)
    = ∑ x : Fin 1536, P x4 x5 x6 x7 x8 x9 x10 x11 x12 x13 x14 i ⟨x.val, by omega⟩ * x2 (ix2 j ⟨x.val, by omega⟩)
      + ∑ x : Fin 1024, P x4 x5 x6 x7 x8 x9 x10 x11 x12 x13 x14 i ⟨1536 + x.val, by omega⟩ * x2 (ix2 j ⟨1568 + x.val, by omega⟩)
      + ∑ x : Fin 128, P x4 x5 x6 x7 x8 x9 x10 x11 x12 x13 x14 i ⟨2560 + x.val, by omega⟩ * x2 (ix2 j ⟨1536 + x.val, by omega⟩) := by
  refine Eq.trans ?_ (three (R x4 x5 x6 x7 x8 x9 x10 x11 x12 x13 x14 i) (fun c => x2 (ix2 j c))
    (P x4 x5 x6 x7 x8 x9 x10 x11 x12 x13 x14 i) (first _ _ _ _ _ _ _ _ _ _ _ i) (decays _ _ _ _ _ _ _ _ _ _ _ i)
    (last _ _ _ _ _ _ _ _ _ _ _ i) (rest _ _ _ _ _ _ _ _ _ _ _ i))
  pointwise [val_main_v32]

end ProjSums
-- ==== Proof.NormBack.lean ====
/-
  The gradient of a norm's input, in the two ways it is computed, on any extended reals: with the root factored out, and by
  the chain rule through the root. They agree in every case: where the row is finite by the distributivity of a positive
  finite factor, where it is not because both are zero.
-/
module

public import proofs.«01_k».proof.Proof.Reals

@[expose] public section

open Idealize.ShloMosaic

noncomputable section

namespace NormBack

/-- A nonnegative real factor goes into a finite sum of extended reals. -/
theorem sum_mul_coe {ι : Type} (s : Finset ι) (f : ι → EReal) {r : ℝ} (h : 0 ≤ r) :
    ∑ i ∈ s, f i * (r : EReal) = (∑ i ∈ s, f i) * (r : EReal) := by
  classical
  induction s using Finset.induction_on with
  | empty => simp
  | insert a s ha ih =>
    rw [Finset.sum_insert ha, Finset.sum_insert ha, ih, mul_comm _ (r : EReal), mul_comm _ (r : EReal), mul_comm _ (r : EReal),
      EReal.left_distrib_of_nonneg_of_ne_top (EReal.coe_nonneg.mpr h) (EReal.coe_ne_top r)]

/-- Twice an extended real. -/
theorem double (a : EReal) : a + a = a * ((2 : ℝ) : EReal) := by
  induction a using EReal.rec with
  | bot => rw [EReal.bot_mul_coe_of_pos (by norm_num)]; rfl
  | top => rw [EReal.top_mul_coe_of_pos (by norm_num)]; rfl
  | coe a => rw [← EReal.coe_add, ← EReal.coe_mul]; congr 1; ring

/-- The mean square of a row, with the small number added. -/
def ms (X : Fin 1024 → EReal) : EReal := Ideal.div (∑ k, X k * X k) ((1024 : ℝ) : EReal) + ((Reals.eps : ℝ) : EReal)

theorem sq_nonneg (a : EReal) : 0 ≤ a * a := by
  induction a using EReal.rec with
  | bot => simp
  | top => simp
  | coe a => rw [← EReal.coe_mul]; exact EReal.coe_nonneg.mpr (mul_self_nonneg a)

/-- A row with an infinite entry has an infinite mean square. -/
theorem ms_top {X : Fin 1024 → EReal} {k : Fin 1024} (h : X k * X k = ⊤) : ms X = ⊤ := by
  have h1 : ∑ k, X k * X k = ⊤ :=
    top_le_iff.mp (h ▸ Finset.single_le_sum (f := fun k => X k * X k) (fun i _ => sq_nonneg (X i)) (Finset.mem_univ k))
  rw [ms, h1, Ideal.div_coe (by norm_num), EReal.top_mul_coe_of_pos (by norm_num)]
  rfl

/-- The mean square of real numbers is a positive real number. -/
theorem ms_real (x : Fin 1024 → ℝ) : ∃ μ : ℝ, 0 < μ ∧ ms (fun k => (x k : EReal)) = (μ : EReal) := by
  refine ⟨(∑ k, x k * x k) / 1024 + Reals.eps, ?_, ?_⟩
  · have := Finset.sum_nonneg (s := Finset.univ) fun k _ => mul_self_nonneg (x k)
    have := Reals.eps_pos
    positivity
  · rw [ms, EReal.coe_add, ← Reals.div_1024, ← Reals.coe_sum]
    rfl

/-- A row is finite, or its mean square is infinite. -/
theorem cases (X : Fin 1024 → EReal) : (∃ x : Fin 1024 → ℝ, X = fun k => (x k : EReal)) ∨ ms X = ⊤ := by
  by_cases h : ∀ k, X k * X k ≠ ⊤
  · refine .inl ⟨fun k => (X k).toReal, funext fun k => ?_⟩
    refine (EReal.coe_toReal (fun e => h k ?_) (fun e => h k ?_)).symm <;> rw [e] <;> simp
  · push Not at h
    exact .inr (ms_top h.choose_spec)

/-- The two gradients agree. -/
theorem eq (X G : Fin 1024 → EReal) (j : Fin 1024) :
    Ideal.rsqrt (ms X) * (G j - X j * Ideal.rsqrt (ms X) * Ideal.div (∑ k, G k * (X k * Ideal.rsqrt (ms X))) ((1024 : ℝ) : EReal))
      = G j * Ideal.rsqrt (ms X)
        + (X j * Ideal.div ((∑ k, X k * G k) * (((-(1 / 2) : ℝ) : EReal) * Ideal.div (Ideal.rsqrt (ms X)) (ms X))) ((1024 : ℝ) : EReal)
          + Ideal.div ((∑ k, X k * G k) * (((-(1 / 2) : ℝ) : EReal) * Ideal.div (Ideal.rsqrt (ms X)) (ms X))) ((1024 : ℝ) : EReal) * X j) := by
  rcases cases X with ⟨x, rfl⟩ | h
  · obtain ⟨μ, hμ, e⟩ := ms_real x
    have hr : 0 < (Real.sqrt μ)⁻¹ := inv_pos.mpr (Real.sqrt_pos.mpr hμ)
    have hq : (Real.sqrt μ)⁻¹ * (Real.sqrt μ)⁻¹ = 1 / μ := by
      rw [← mul_inv, Real.mul_self_sqrt hμ.le, one_div]
    rw [e, Reals.rsqrt_pos hμ, Reals.div_coe _ hμ.ne']
    generalize (Real.sqrt μ)⁻¹ = r at hr hq
    have hs : ∑ k, G k * ((x k : EReal) * (r : EReal)) = (∑ k, (x k : EReal) * G k) * (r : EReal) := by
      rw [← sum_mul_coe _ _ hr.le]
      exact Finset.sum_congr rfl fun k _ => by rw [← mul_assoc, mul_comm (G k)]
    rw [hs]
    generalize ∑ k, (x k : EReal) * G k = S
    have h1024 : (1024 : ℝ) ≠ 0 := by norm_num
    rw [Ideal.div_coe h1024, Ideal.div_coe h1024, mul_comm (x j : EReal) (_ * _ * _), double, mul_comm (G j) (r : EReal), sub_eq_add_neg,
      EReal.left_distrib_of_nonneg_of_ne_top (EReal.coe_nonneg.mpr hr.le) (EReal.coe_ne_top r)]
    congr 1
    have el : (r : EReal) * -((x j : EReal) * (r : EReal) * (S * (r : EReal) * ((1 / 1024 : ℝ) : EReal)))
        = S * ((-(r * (x j * r * r / 1024)) : ℝ) : EReal) := by
      have : (x j : EReal) * (r : EReal) * (S * (r : EReal) * ((1 / 1024 : ℝ) : EReal)) = S * ((x j * r * (r * (1 / 1024)) : ℝ) : EReal) := by
        simp only [EReal.coe_mul]; ac_rfl
      rw [this, ← mul_neg, ← EReal.coe_neg, mul_left_comm, ← EReal.coe_mul]
      congr 2; ring
    rw [el, mul_assoc S, mul_assoc S, mul_assoc S, ← EReal.coe_mul, ← EReal.coe_mul, ← EReal.coe_mul, ← EReal.coe_mul]
    congr 2
    rw [div_eq_mul_one_div r μ, ← hq]
    ring
  · have hz : Ideal.div (0 : EReal) ⊤ = 0 := by rw [Ideal.div, if_neg (by simp), zero_mul]
    have hz' : Ideal.div (0 : EReal) ((1024 : ℝ) : EReal) = 0 := by rw [Ideal.div_coe (by norm_num), zero_mul]
    have hr : Ideal.rsqrt ⊤ = 0 := rfl
    rw [h, hr, hz]
    simp only [mul_zero, zero_mul, hz', add_zero]

end NormBack
-- ==== Proof.InProj.lean ====
/-
  What one grid point of the projection's backward call leaves: the blocks of its 512 tokens, as the reference's values at
  those tokens, and the gain's gradient's running sum with the block's tokens added.
-/
module

public import proofs.«01_k».proof.Proof.Gen.Kernel4Ideal.Value
public import proofs.«01_k».proof.Proof.ProjSums
public import proofs.«01_k».proof.Proof.NormBack
public import Idealize.ShloMosaic.Lib.Pipeline.ValueKit
public import Idealize.ShloMosaic.Lib.Pipeline.ValueKit.Acc

@[expose] public section

set_option maxRecDepth 16384

noncomputable section

namespace InProj

open Cert.Kernel4Ideal Cert.Kernel4Ideal.Gen Idealize.ShloMosaic Idealize.ShloMosaic.TcCoe Idealize.SL.Sem
open Cert.Reference4Ideal.Read (val_main_v32 val_main_v55 val_main_v56 val_main_v57)

/-- The token in row `r` of the block of point `p`. -/
def row (p : Fin cfg0.N) (r : Fin 512) : Fin 8192 := ⟨p.val * 512 + r.val, by have := p.isLt; have : cfg0.N = 16 := N_0; omega⟩

variable (m : (ℓ : Loc nD τ Cert.Kernel4Ideal.sig) → Buf (Elt Ideal) ℓ) (c : Dev nD) (t : Fin cfg0.N)

/-! ## The arguments and the blocks -/

abbrev a0 : FVec Ideal S8192x1024 .f32 := m ((c : Thread nD τ).loc main_arg0)
abbrev a1 : FVec Ideal S1024 .f32 := m ((c : Thread nD τ).loc main_arg1)
abbrev a2 : FVec Ideal S1024x2592 .f32 := m ((c : Thread nD τ).loc main_arg2)
abbrev a3 : FVec Ideal S8192x1024 .f32 := m ((c : Thread nD τ).loc main_arg3)
abbrev a4 : FVec Ideal S8192x256 .bf16 := m ((c : Thread nD τ).loc main_arg4)
abbrev a5 : FVec Ideal S8192x256 .bf16 := m ((c : Thread nD τ).loc main_arg5)
abbrev a6 : FVec Ideal S8192x256 .bf16 := m ((c : Thread nD τ).loc main_arg6)
abbrev a7 : FVec Ideal S8192x256 .bf16 := m ((c : Thread nD τ).loc main_arg7)
abbrev a8 : FVec Ideal S8192x512 .bf16 := m ((c : Thread nD τ).loc main_arg8)
abbrev a9 : FVec Ideal S8192x512 .bf16 := m ((c : Thread nD τ).loc main_arg9)
abbrev a10 : FVec Ideal S8192x512 .bf16 := m ((c : Thread nD τ).loc main_arg10)
abbrev a11 : FVec Ideal S8192x512 .bf16 := m ((c : Thread nD τ).loc main_arg11)
abbrev a12 : FVec Ideal S8192x512 .bf16 := m ((c : Thread nD τ).loc main_arg12)
abbrev a13 : FVec Ideal S8192x16 .bf16 := m ((c : Thread nD τ).loc main_arg13)
abbrev a14 : FVec Ideal S8192x16 .bf16 := m ((c : Thread nD τ).loc main_arg14)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] ∧ win0_12.index t = ![t.val, 0] ∧ win0_13.index t = ![t.val, 0] ∧ win0_14.index t = ![0, 0] :=
  (by decide +kernel : ∀ t : Fin grid0.N, _)

theorem in0 (r : Fin 512) (j : Fin 1024) : iblk m c 0 t (ix2 r j) = a0 m c (ix2 (row t r) j) := by
  blk_ext [iblk, V, idx t, row]

theorem in2 (r : Fin 512) (j : Fin 1024) : iblk m c 2 t (ix2 r j) = a3 m c (ix2 (row t r) j) := by
  blk_ext [iblk, V, idx t, row]

theorem in3 (r : Fin 512) (j : Fin 256) : iblk m c 3 t (ix2 r j) = a4 m c (ix2 (row t r) j) := by
  blk_ext [iblk, V, idx t, row]

theorem in4 (r : Fin 512) (j : Fin 256) : iblk m c 4 t (ix2 r j) = a5 m c (ix2 (row t r) j) := by
  blk_ext [iblk, V, idx t, row]

theorem in5 (r : Fin 512) (j : Fin 256) : iblk m c 5 t (ix2 r j) = a6 m c (ix2 (row t r) j) := by
  blk_ext [iblk, V, idx t, row]

theorem in6 (r : Fin 512) (j : Fin 256) : iblk m c 6 t (ix2 r j) = a7 m c (ix2 (row t r) j) := by
  blk_ext [iblk, V, idx t, row]

theorem in7 (r : Fin 512) (j : Fin 512) : iblk m c 7 t (ix2 r j) = a8 m c (ix2 (row t r) j) := by
  blk_ext [iblk, V, idx t, row]

theorem in8 (r : Fin 512) (j : Fin 512) : iblk m c 8 t (ix2 r j) = a9 m c (ix2 (row t r) j) := by
  blk_ext [iblk, V, idx t, row]

theorem in9 (r : Fin 512) (j : Fin 512) : iblk m c 9 t (ix2 r j) = a10 m c (ix2 (row t r) j) := by
  blk_ext [iblk, V, idx t, row]

theorem in10 (r : Fin 512) (j : Fin 512) : iblk m c 10 t (ix2 r j) = a11 m c (ix2 (row t r) j) := by
  blk_ext [iblk, V, idx t, row]

theorem in11 (r : Fin 512) (j : Fin 512) : iblk m c 11 t (ix2 r j) = a12 m c (ix2 (row t r) j) := by
  blk_ext [iblk, V, idx t, row]

/-- The gain, as a row. -/
theorem in1 (r : Fin 1) (j : Fin 1024) : iblk m c 1 t (ix2 r j) = a1 m c (ix1 j) := by
  blk_ext! [iblk, V, idx t]

/-- The matrix, laid on its side. -/
theorem in14 (r : Fin 2592) (j : Fin 1024) : iblk m c 14 t (ix2 r j) = a2 m c (ix2 j r) := by
  blk_ext! [iblk, V, idx t]

/-- Sixteen columns in the first lanes, and in the second ones. -/
def first16 (x : FVec Ideal S8192x16 .bf16) : FVec Ideal S8192x128 .bf16 :=
  concatenate S8192x128 1 [⟨S8192x16, x⟩, ⟨S8192x112, (broadcastInDim S8192x112 ![] bcast_S_S8192x112 (constant S_ .bf16 0x0000#16 : FVec Ideal S_ .bf16) : FVec Ideal S8192x112 .bf16)⟩] concatenates_S8192x16_S8192x112_S8192x128_d1
def second16 (x : FVec Ideal S8192x16 .bf16) : FVec Ideal S8192x128 .bf16 :=
  concatenate S8192x128 1 [⟨S8192x16, (broadcastInDim S8192x16 ![] bcast_S_S8192x16 (constant S_ .bf16 0x0000#16 : FVec Ideal S_ .bf16) : FVec Ideal S8192x16 .bf16)⟩, ⟨S8192x16, x⟩, ⟨S8192x96, (broadcastInDim S8192x96 ![] bcast_S_S8192x96 (constant S_ .bf16 0x0000#16 : FVec Ideal S_ .bf16) : FVec Ideal S8192x96 .bf16)⟩] concatenates_S8192x16_S8192x16_S8192x96_S8192x128_d1

theorem host1 : V m c main_v1 = first16 (a13 m c) := rfl
theorem host4 : V m c main_v4 = second16 (a14 m c) := rfl

theorem first16_eq (x : FVec Ideal S8192x16 .bf16) (i : Fin 8192) (l : Fin 128) :
    first16 x (ix2 i l) = if h : l.val < 16 then x (ix2 i ⟨l.val, h⟩) else (0 : EReal) := by
  pointwise [first16]

theorem second16_eq (x : FVec Ideal S8192x16 .bf16) (i : Fin 8192) (l : Fin 128) :
    second16 x (ix2 i l) = if h : l.val < 16 then (0 : EReal) else if h : l.val - 16 < 16 then x (ix2 i ⟨l.val - 16, h⟩) else (0 : EReal) := by
  pointwise [second16]

/-- The forward decay's gradient, in its lanes. -/
theorem in12 (r : Fin 512) (l : Fin 128) : iblk m c 12 t (ix2 r l)
    = if h : l.val < 16 then a13 m c (ix2 (row t r) ⟨l.val, h⟩) else (0 : EReal) := by
  have e : (win0_12.blk t).view.emb (ix2 r l) = ix2 (row t r) l := by blk_ext [idx t, row]
  exact (congrFun (host1 m c) _).trans ((congrArg (first16 (a13 m c)) e).trans (first16_eq _ _ _))

/-- The backward decay's gradient, in its lanes. -/
theorem in13 (r : Fin 512) (l : Fin 128) : iblk m c 13 t (ix2 r l)
    = if h : l.val < 16 then (0 : EReal) else if h : l.val - 16 < 16 then a14 m c (ix2 (row t r) ⟨l.val - 16, h⟩) else (0 : EReal) := by
  have e : (win0_13.blk t).view.emb (ix2 r l) = ix2 (row t r) l := by blk_ext [idx t, row]
  exact (congrFun (host4 m c) _).trans ((congrArg (second16 (a14 m c)) e).trans (second16_eq _ _ _))

/-! ## The columns and the product -/

/-- The kernel's concatenated columns, from blocks that hold the rows of the arguments. -/
theorem cols (v3 v5 v9 v11 : Vec Ideal S512x256 .bf16) (v15 v17 v21 v22 v23 : Vec Ideal S512x512 .bf16) (v24 v27 : Vec Ideal S512x128 .bf16)
    (x4 x5 x6 x7 : FVec Ideal S8192x256 .bf16) (x8 x9 x10 x11 x12 : FVec Ideal S8192x512 .bf16) (x13 x14 : FVec Ideal S8192x16 .bf16)
    (r : Fin 512) (i : Fin 8192) (j : Fin 2688)
    (h3 : ∀ j, v3 (ix2 r j) = x4 (ix2 i j)) (h5 : ∀ j, v5 (ix2 r j) = x5 (ix2 i j)) (h9 : ∀ j, v9 (ix2 r j) = x6 (ix2 i j))
    (h11 : ∀ j, v11 (ix2 r j) = x7 (ix2 i j)) (h15 : ∀ j, v15 (ix2 r j) = x8 (ix2 i j)) (h17 : ∀ j, v17 (ix2 r j) = x9 (ix2 i j))
    (h21 : ∀ j, v21 (ix2 r j) = x10 (ix2 i j)) (h22 : ∀ j, v22 (ix2 r j) = x11 (ix2 i j)) (h23 : ∀ j, v23 (ix2 r j) = x12 (ix2 i j))
    (h24 : ∀ l : Fin 128, v24 (ix2 r l) = if h : l.val < 16 then x13 (ix2 i ⟨l.val, h⟩) else (0 : EReal))
    (h27 : ∀ l : Fin 128, v27 (ix2 r l) = if h : l.val < 16 then (0 : EReal) else if h : l.val - 16 < 16 then x14 (ix2 i ⟨l.val - 16, h⟩) else (0 : EReal)) :
    k0_pay3 (F := Ideal) v3 v5 v9 v11 v15 v17 v21 v22 v23 v24 v27 (ix2 r j) = ProjSums.P x4 x5 x6 x7 x8 x9 x10 x11 x12 x13 x14 i j := by
  rw [ProjSums.P_eq]
  pointwise [k0_pay3]
  simp only [Nat.sub_sub, Nat.reduceAdd, h3, h5, h9, h11, h15, h17, h21, h22, h23, h24, h27]
  by_cases d : j.val < 2560
  · by_cases d1 : j.val < 256
    · simp only [d1, ↓reduceDIte]
    by_cases d2 : j.val - 256 < 256
    · simp only [d1, d2, ↓reduceDIte]
    by_cases d3 : j.val - 512 < 512
    · simp only [d1, d2, d3, ↓reduceDIte]
    by_cases d4 : j.val - 1024 < 512
    · simp only [d1, d2, d3, d4, ↓reduceDIte]
    by_cases d5 : j.val - 1536 < 512
    · simp only [d1, d2, d3, d4, d5, ↓reduceDIte]
    simp only [d1, d2, d3, d4, d5, show j.val - 2048 < 512 by omega, ↓reduceDIte]
  · simp only [show ¬ j.val < 256 by omega, show ¬ j.val - 256 < 256 by omega, show ¬ j.val - 512 < 512 by omega,
      show ¬ j.val - 1024 < 512 by omega, show ¬ j.val - 1536 < 512 by omega, show ¬ j.val - 2048 < 512 by omega, ↓reduceDIte]
    by_cases d1 : j.val - 2560 < 16
    · simp only [d1, ↓reduceDIte, add_zero]
    by_cases d2 : j.val - 2576 < 16
    · simp only [d1, d2, ↓reduceDIte, zero_add]
    simp only [d1, d2, ↓reduceDIte, add_zero]

/-- The padded columns of the block's tokens. -/
theorem dp (r : Fin 512) (j : Fin 2688) : k0_pay3 (F := Ideal) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix2 r j)
    = ProjSums.P (a4 m c) (a5 m c) (a6 m c) (a7 m c) (a8 m c) (a9 m c) (a10 m c) (a11 m c) (a12 m c) (a13 m c) (a14 m c) (row t r) j :=
  cols _ _ _ _ _ _ _ _ _ _ _ (a4 m c) (a5 m c) (a6 m c) (a7 m c) (a8 m c) (a9 m c) (a10 m c) (a11 m c) (a12 m c) (a13 m c) (a14 m c) r (row t r) j (in3 m c t r) (in4 m c t r) (in5 m c t r) (in6 m c t r) (in7 m c t r) (in8 m c t r) (in9 m c t r) (in10 m c t r) (in11 m c t r) (in12 m c t r) (in13 m c t r)

/-- The block's gradient of the norm's output. -/
abbrev D : FVec Ideal S512x1024 .f32 := k0_pay4 (F := Ideal) (k0_pay3 (F := Ideal) (iblk m c 3 t) (iblk m c 4 t) (iblk m c 5 t) (iblk m c 6 t) (iblk m c 7 t) (iblk m c 8 t) (iblk m c 9 t) (iblk m c 10 t) (iblk m c 11 t) (iblk m c 12 t) (iblk m c 13 t))
        (View.ld (iblk m c 14 t) (Rect.unit ![0, 0] ![1536, 1024] inb_S2592x1024_S1536x1024_0_0))
        (View.ld (iblk m c 14 t) (Rect.unit ![1568, 0] ![1024, 1024] inb_S2592x1024_S1024x1024_1568_0))
        (View.ld (iblk m c 14 t) (Rect.unit ![1536, 0] ![128, 1024] inb_S2592x1024_S128x1024_1536_0))

theorem dh (r : Fin 512) (j : Fin 1024) : D m c t (ix2 r j)
    = val_main_v32 (F := Ideal) (a2 m c) (a4 m c) (a5 m c) (a6 m c) (a7 m c) (a8 m c) (a9 m c) (a10 m c) (a11 m c) (a12 m c) (a13 m c) (a14 m c) (ix2 (row t r) j) := by
  rw [ProjSums.dh]
  pointwise [D, k0_pay4]
  simp only [dp, in14]

end InProj
-- ==== Proof.InProjOut.lean ====
/-
  The three result arrays of the projection's backward call: the gradient of its input, the columns' gradients in the padded
  order, and the gain's gradient, each the reference's on any extended reals.
-/
module

public import proofs.«01_k».proof.Proof.InProj

@[expose] public section

set_option maxRecDepth 16384

noncomputable section

namespace InProj

open Cert.Kernel4Ideal Cert.Kernel4Ideal.Gen Idealize.ShloMosaic Idealize.ShloMosaic.TcCoe Idealize.SL.Sem
open Cert.Reference4Ideal.Read Reals

/-- The gradient of a token's place `j`: what reaches it past the norm, `a`, and the norm's closed form. -/
def form (a : EReal) (G X : Fin 1024 → EReal) (j : Fin 1024) : EReal :=
  a + Ideal.rsqrt (NormBack.ms X) * (G j - X j * Ideal.rsqrt (NormBack.ms X)
    * Ideal.div (∑ k, G k * (X k * Ideal.rsqrt (NormBack.ms X))) ((1024 : ℝ) : EReal))

/-! ## The references -/

section
variable (x0 x3 : FVec Ideal S8192x1024 .f32) (x1 : FVec Ideal S1024 .f32) (x2 : FVec Ideal S1024x2592 .f32)
  (x4 x5 x6 x7 : FVec Ideal S8192x256 .bf16) (x8 x9 x10 x11 x12 : FVec Ideal S8192x512 .bf16) (x13 x14 : FVec Ideal S8192x16 .bf16)

/-- The reciprocal root of a token's mean square. -/
theorem ref_r (i : Fin 8192) : val_main_v22 (F := Ideal) x0 (ix2 i 0) = Ideal.rsqrt (NormBack.ms fun k => x0 (ix2 i k)) := by
  pointwise [val_main_v22, val_main_v21, val_main_v20, val_main_v19, val_main_v18, val_main_v17, val_main_v16, val_main_v15, val_main_cst, val_main_cst_0, val_main_cst_1]
  rw [lit_1024, lit_eps]
  rfl

theorem ref_ms (i : Fin 8192) : val_main_v21 (F := Ideal) x0 (ix2 i 0) = NormBack.ms fun k => x0 (ix2 i k) := by
  pointwise [val_main_v21, val_main_v20, val_main_v19, val_main_v18, val_main_v17, val_main_v16, val_main_v15, val_main_cst, val_main_cst_0, val_main_cst_1]
  rw [lit_1024, lit_eps]
  rfl

/-- The gradient of a token, by the norm's closed form. -/
theorem ref_dx (i : Fin 8192) (j : Fin 1024) :
    val_main_v55 (F := Ideal) x0 x1 x2 x3 x4 x5 x6 x7 x8 x9 x10 x11 x12 x13 x14 (ix2 i j) = form (x3 (ix2 i j))
      (fun k => val_main_v32 (F := Ideal) x2 x4 x5 x6 x7 x8 x9 x10 x11 x12 x13 x14 (ix2 i k) * x1 (ix1 k)) (fun k => x0 (ix2 i k)) j := by
  rw [form, NormBack.eq (fun k => x0 (ix2 i k)) (fun k => val_main_v32 (F := Ideal) x2 x4 x5 x6 x7 x8 x9 x10 x11 x12 x13 x14 (ix2 i k) * x1 (ix1 k)) j]
  pointwise [val_main_v55, val_main_v52, val_main_v51, val_main_v50, val_main_v49, val_main_v48, val_main_v47, val_main_v46, val_main_v45, val_main_v44, val_main_v43, val_main_v42, val_main_v41, val_main_v40, val_main_v39, val_main_v37, val_main_v36, val_main_v28, val_main_cst_7, val_main_cst_6, val_main_cst_5, val_main_v25, val_main_v24, val_main_v23, val_main_cst_2]
  simp only [Fin.sum_univ_one, ref_r, ref_ms, lit_1024, lit_neg_half, add_assoc]

/-- The gain's gradient. -/
theorem ref_dg (i : Fin 1) (j : Fin 1024) : val_main_v57 (F := Ideal) x0 x2 x4 x5 x6 x7 x8 x9 x10 x11 x12 x13 x14 (ix2 i j)
    = ∑ s : Fin 8192, val_main_v32 (F := Ideal) x2 x4 x5 x6 x7 x8 x9 x10 x11 x12 x13 x14 (ix2 s j) * (x0 (ix2 s j) * Ideal.rsqrt (NormBack.ms fun k => x0 (ix2 s k))) := by
  pointwise [val_main_v57, val_main_v38, val_main_v35, val_main_v34, val_main_v33, val_main_v27, val_main_v26, val_main_cst_3, val_main_cst_4]
  simp only [Fin.sum_univ_one, ref_r, mul_comm]
end

variable (m : (ℓ : Loc nD τ Cert.Kernel4Ideal.sig) → Buf (Elt Ideal) ℓ) (c : Dev nD) (t : Fin cfg0.N)

/-! ## A point's blocks -/

theorem pay5_eq (v : Vec Ideal S512x1024 .f32) (r : Fin 512) (l : Fin 1) :
    k0_pay5 (F := Ideal) v (ix2 r l) = Ideal.rsqrt (NormBack.ms fun k => v (ix2 r k)) := by
  pointwise [k0_pay5]
  rw [lit_1024, lit_eps]
  rfl

theorem ms_row (r : Fin 512) : NormBack.ms (fun k => iblk m c 0 t (ix2 r k)) = NormBack.ms fun k => a0 m c (ix2 (row t r) k) :=
  congrArg NormBack.ms (funext fun k => in0 m c t r k)

theorem out15 : (outsAt0 m c t.val t.isLt).1 = k0_pay1 (D m c t) (k0_pay5 (iblk m c 0 t)) (k0_pay6 (iblk m c 0 t)) (iblk m c 2 t) (iblk m c 1 t) := by
  by_cases h0 : t.val % 16 = 0
  · rw [outsAt0_A m c t h0]; frame_out; rfl
  · rw [outsAt0_B m c t h0]; frame_out; rfl

theorem out16 : (outsAt0 m c t.val t.isLt).2.1 = k0_pay3 (F := Ideal) (iblk m c 3 t) (iblk m c 4 t) (iblk m c 5 t) (iblk m c 6 t) (iblk m c 7 t) (iblk m c 8 t) (iblk m c 9 t) (iblk m c 10 t) (iblk m c 11 t) (iblk m c 12 t) (iblk m c 13 t) := by
  by_cases h0 : t.val % 16 = 0
  · rw [outsAt0_A m c t h0]; frame_out
  · rw [outsAt0_B m c t h0]; frame_out

theorem pay1_eq (v49 : FVec Ideal S512x1024 .f32) (v50 : Vec Ideal S512x1024 .f32) (v68 : Vec Ideal S512x1024 .f32)
    (v69 : Vec Ideal S1x1024 .f32) (r : Fin 512) (j : Fin 1024) :
    k0_pay1 (F := Ideal) v49 (k0_pay5 v50) (k0_pay6 v50) v68 v69 (ix2 r j)
      = form (v68 (ix2 r j)) (fun k => v49 (ix2 r k) * v69 (ix2 0 k)) (fun k => v50 (ix2 r k)) j := by
  pointwise [k0_pay1, k0_pay6]
  simp only [lit_1024, pay5_eq, form]

theorem w15 (r : Fin 512) (j : Fin 1024) : (outsAt0 m c t.val t.isLt).1 (ix2 r j)
    = val_main_v55 (F := Ideal) (a0 m c) (a1 m c) (a2 m c) (a3 m c) (a4 m c) (a5 m c) (a6 m c) (a7 m c) (a8 m c) (a9 m c) (a10 m c) (a11 m c) (a12 m c) (a13 m c) (a14 m c) (ix2 (row t r) j) := by
  have h := pay1_eq (D m c t) (iblk m c 0 t) (iblk m c 2 t) (iblk m c 1 t) r j
  have hX : (fun k => iblk m c 0 t (ix2 r k)) = fun k => a0 m c (ix2 (row t r) k) := funext fun k => in0 m c t r k
  have hG : (fun k => D m c t (ix2 r k) * (show EReal from iblk m c 1 t (ix2 0 k)))
      = fun k => val_main_v32 (F := Ideal) (a2 m c) (a4 m c) (a5 m c) (a6 m c) (a7 m c) (a8 m c) (a9 m c) (a10 m c) (a11 m c) (a12 m c) (a13 m c) (a14 m c) (ix2 (row t r) k) * a1 m c (ix1 k) :=
    funext fun k => congrArg₂ (· * ·) (dh m c t r k) (in1 m c t 0 k)
  have hF := congrFun (congr (congr (congrArg form (in2 m c t r j)) hG) hX) j
  exact (congrFun (out15 m c t) (ix2 r j)).trans (h.trans (hF.trans
    (ref_dx (a0 m c) (a3 m c) (a1 m c) (a2 m c) (a4 m c) (a5 m c) (a6 m c) (a7 m c) (a8 m c) (a9 m c) (a10 m c) (a11 m c) (a12 m c) (a13 m c) (a14 m c) (row t r) j).symm))

theorem pay7_eq (v32 : FVec Ideal S512x2688 .bf16) (v35 : Vec Ideal S1536x1024 .bf16) (v41 : Vec Ideal S1024x1024 .bf16)
    (v46 : Vec Ideal S128x1024 .bf16) (v50 : Vec Ideal S512x1024 .f32) (v61 : Vec Ideal S1x1024 .f32) (y : S1x1024.Idx) :
    k0_pay7 (F := Ideal) v32 v35 v41 v46 v50 v61 y = v61 y
      + ∑ k : Fin 512, k0_pay4 (F := Ideal) v32 v35 v41 v46 (ix2 k (y 1)) * (v50 (ix2 k (y 1)) * k0_pay5 (F := Ideal) v50 (ix2 k 0)) := by
  rw [eq_ix2 y]
  pointwise [k0_pay7, k0_pay6]

/-- A token's part of the gain's gradient. -/
def dg (s : Fin 8192) (j : Fin 1024) : EReal := val_main_v32 (F := Ideal) (a2 m c) (a4 m c) (a5 m c) (a6 m c) (a7 m c) (a8 m c) (a9 m c) (a10 m c) (a11 m c) (a12 m c) (a13 m c) (a14 m c) (ix2 s j)
  * (a0 m c (ix2 s j) * Ideal.rsqrt (NormBack.ms fun k => a0 m c (ix2 s k)))

/-- What a block adds to the gain's gradient. -/
theorem adds (v : Vec Ideal S1x1024 .f32) (y : S1x1024.Idx) :
    k0_pay7 (F := Ideal) (k0_pay3 (F := Ideal) (iblk m c 3 t) (iblk m c 4 t) (iblk m c 5 t) (iblk m c 6 t) (iblk m c 7 t) (iblk m c 8 t) (iblk m c 9 t) (iblk m c 10 t) (iblk m c 11 t) (iblk m c 12 t) (iblk m c 13 t))
        (View.ld (iblk m c 14 t) (Rect.unit ![0, 0] ![1536, 1024] inb_S2592x1024_S1536x1024_0_0))
        (View.ld (iblk m c 14 t) (Rect.unit ![1568, 0] ![1024, 1024] inb_S2592x1024_S1024x1024_1568_0))
        (View.ld (iblk m c 14 t) (Rect.unit ![1536, 0] ![128, 1024] inb_S2592x1024_S128x1024_1536_0)) (iblk m c 0 t) v y
      = v y + ∑ k : Fin 512, dg m c (row t k) (y 1) := by
  refine (pay7_eq _ _ _ _ _ _ y).trans (congrArg _ (Finset.sum_congr rfl fun k _ => ?_))
  exact congrArg₂ (· * ·) (dh m c t k (y 1)) (congrArg₂ (· * ·) (in0 m c t k (y 1))
    ((pay5_eq _ _ _).trans (congrArg Ideal.rsqrt (ms_row m c t k))))

theorem zero (y : S1x1024.Idx) : k0_pay2 (F := Ideal) y = (0 : EReal) := by
  rw [eq_ix2 y]
  pointwise [k0_pay2]

/-- The sixteen points leave the sum over all tokens. -/
theorem w17 (hf : t.val % 16 = 15) (y : S1x1024.Idx) : (outsAt0 m c t.val t.isLt).2.2 y
    = val_main_v57 (F := Ideal) (a0 m c) (a2 m c) (a4 m c) (a5 m c) (a6 m c) (a7 m c) (a8 m c) (a9 m c) (a10 m c) (a11 m c) (a12 m c) (a13 m c) (a14 m c) (ix2 (y 0) (y 1)) := by
  have hN : cfg0.N = 16 := N_0
  have ht := t.isLt
  refine Eq.trans ?_ (ref_dg _ _ _ _ _ _ _ _ _ _ _ _ _ (y 0) (y 1)).symm
  refine (Pipeline.eq_sum_fin_of_reset_step_apply_last (fun n h => (outsAt0 m c n h).2.2) 16 (fun _ => (0 : EReal))
    (fun t y => ∑ k : Fin 512, dg m c (row t k) (y 1))
    (fun t h y => by rw [outsAt0_A m c t h]; frame_out; exact (adds m c t _ y).trans (congrArg (· + _) (zero y)))
    (fun t h y => by rw [outsAt0_B m c t h]; frame_out; exact adds m c t _ y) hN.le t (by omega) y).trans ?_
  rw [zero_add]
  exact Fin.sum_mul_add_congr (fun s k hl => rfl)

theorem idxOut : ∀ t : Fin cfg0.N, win0_15.index t = ![t.val, 0] ∧ win0_16.index t = ![t.val, 0] ∧ win0_17.index t = ![0, 0] :=
  (by decide +kernel : ∀ t : Fin grid0.N, _)

/-! ## The arrays -/

/-- The gradient of the input. -/
theorem r15 : (dats m 0 c).arrAt 15 cfg0.N = val_main_v55 (F := Ideal) (a0 m c) (a1 m c) (a2 m c) (a3 m c) (a4 m c) (a5 m c) (a6 m c) (a7 m c) (a8 m c) (a9 m c) (a10 m c) (a11 m c) (a12 m c) (a13 m c) (a14 m c) := by
  refine (dats m 0 c).arrAt_eq_of_covers 15 _ (by decide +kernel) fun t hf y => ?_
  change S512x1024.Idx at y
  blk_simp
  rw [after0_15, eq_ix2 y]
  refine (w15 m c t _ _).trans ?_
  have e : (win0_15.blk t).view.emb (ix2 (y 0) (y 1)) = ix2 (row t (y 0)) (y 1) := by blk_ext [idxOut t, row]
  rw [e]
  rfl

/-- The columns' gradients. -/
theorem r16 : (dats m 0 c).arrAt 16 cfg0.N = val_main_v56 (F := Ideal) (a4 m c) (a5 m c) (a6 m c) (a7 m c) (a8 m c) (a9 m c) (a10 m c) (a11 m c) (a12 m c) (a13 m c) (a14 m c) := by
  refine (dats m 0 c).arrAt_eq_of_covers 16 _ (by decide +kernel) fun t hf y => ?_
  change S512x2688.Idx at y
  blk_simp
  rw [after0_16, eq_ix2 y]
  refine (congrFun (out16 m c t) _).trans ((dp m c t _ _).trans ?_)
  have e : (win0_16.blk t).view.emb (ix2 (y 0) (y 1)) = ix2 (row t (y 0)) (y 1) := by blk_ext [idxOut t, row]
  rw [e]
  rfl

/-- The gain's gradient. -/
theorem r17 : (dats m 0 c).arrAt 17 cfg0.N = val_main_v57 (F := Ideal) (a0 m c) (a2 m c) (a4 m c) (a5 m c) (a6 m c) (a7 m c) (a8 m c) (a9 m c) (a10 m c) (a11 m c) (a12 m c) (a13 m c) (a14 m c) := by
  refine (dats m 0 c).arrAt_eq_of_covers 17 _ (by decide +kernel) fun t hf y => ?_
  have h15 := (flush0_17 t).mp hf
  change S1x1024.Idx at y
  blk_simp
  rw [after0_17]
  refine (w17 m c t h15 y).trans ?_
  have e : (win0_17.blk t).view.emb y = ix2 (y 0) (y 1) := by rw [eq_ix2 y]; blk_ext [idxOut t]
  rw [e]
  rfl

end InProj
-- ==== Proof.Adam.lean ====
/-
  One AdamW step on a device's rows of a large weight: the gradient is the sum of the device's own part and three received
  parts, and the update, the two moments and the gradient are the reference's on any extended reals.
-/
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit

@[expose] public section

set_option maxRecDepth 16384

noncomputable section

namespace Adam

open Cert.Kernel5Ideal Cert.Kernel5Ideal.Gen Idealize.ShloMosaic Idealize.ShloMosaic.TcCoe Idealize.SL.Sem
open Cert.Reference5Ideal.Read

/-- The weight's row in row `r` of the block of point `p`. -/
def row (p : Fin cfg0.N) (r : Fin 176) : Fin 352 := ⟨p.val * 176 + r.val, by have := p.isLt; have : cfg0.N = 2 := N_0; omega⟩

variable (m : (ℓ : Loc nD τ Cert.Kernel5Ideal.sig) → Buf (Elt Ideal) ℓ) (c : Dev nD) (t : Fin cfg0.N)

abbrev a0 : FVec Ideal S352x1024 .f32 := m ((c : Thread nD τ).loc main_arg0)
abbrev a1 : FVec Ideal S3x352x1024 .bf16 := m ((c : Thread nD τ).loc main_arg1)
abbrev a2 : FVec Ideal S352x1024 .f32 := m ((c : Thread nD τ).loc main_arg2)
abbrev a3 : FVec Ideal S352x1024 .f32 := m ((c : Thread nD τ).loc main_arg3)
abbrev a4 : FVec Ideal S352x1024 .f32 := m ((c : Thread nD τ).loc main_arg4)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] := (by decide +kernel : ∀ t : Fin grid0.N, _)

theorem idxOut : ∀ t : Fin cfg0.N, win0_5.index t = ![t.val, 0] ∧ win0_6.index t = ![t.val, 0] ∧ win0_7.index t = ![t.val, 0]
    ∧ win0_8.index t = ![t.val, 0] := (by decide +kernel : ∀ t : Fin grid0.N, _)

theorem in0 (r : Fin 176) (j : Fin 1024) : iblk m c 0 t (ix2 r j) = a0 m c (ix2 (row t r) j) := by blk_ext [iblk, V, idx t, row]
theorem in1 (k : Fin 3) (r : Fin 176) (j : Fin 1024) : iblk m c 1 t (ix3 k r j) = a1 m c (ix3 k (row t r) j) := by blk_ext [iblk, V, idx t, row]
theorem in2 (r : Fin 176) (j : Fin 1024) : iblk m c 2 t (ix2 r j) = a2 m c (ix2 (row t r) j) := by blk_ext [iblk, V, idx t, row]
theorem in3 (r : Fin 176) (j : Fin 1024) : iblk m c 3 t (ix2 r j) = a3 m c (ix2 (row t r) j) := by blk_ext [iblk, V, idx t, row]
theorem in4 (r : Fin 176) (j : Fin 1024) : iblk m c 4 t (ix2 r j) = a4 m c (ix2 (row t r) j) := by blk_ext [iblk, V, idx t, row]

/-! ## A point's blocks -/

/-- The gradient: the four parts' sum. -/
theorem w5 (r : Fin 176) (j : Fin 1024) : out0_5 (iblk m c 0 t) (iblk m c 1 t) (iblk m c 2 t) (iblk m c 3 t) (iblk m c 4 t) (ix2 r j)
    = val_main_v2 (F := Ideal) (a0 m c) (a1 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The update. -/
theorem w6 (r : Fin 176) (j : Fin 1024) : out0_6 (iblk m c 0 t) (iblk m c 1 t) (iblk m c 2 t) (iblk m c 3 t) (iblk m c 4 t) (ix2 r j)
    = val_main_v26 (F := Ideal) (a0 m c) (a1 m c) (a2 m c) (a3 m c) (a4 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The first moment. -/
theorem w7 (r : Fin 176) (j : Fin 1024) : out0_7 (iblk m c 0 t) (iblk m c 1 t) (iblk m c 2 t) (iblk m c 3 t) (iblk m c 4 t) (ix2 r j)
    = val_main_v7 (F := Ideal) (a0 m c) (a1 m c) (a3 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The second moment. -/
theorem w8 (r : Fin 176) (j : Fin 1024) : out0_8 (iblk m c 0 t) (iblk m c 1 t) (iblk m c 2 t) (iblk m c 3 t) (iblk m c 4 t) (ix2 r j)
    = val_main_v13 (F := Ideal) (a0 m c) (a1 m c) (a4 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-! ## The arrays -/

theorem r5 : (dats m 0 c).arrAt 5 cfg0.N = val_main_v2 (F := Ideal) (a0 m c) (a1 m c) := by
  refine (dats m 0 c).arrAt_eq_of_covers 5 _ (by decide +kernel) fun t hf y => ?_
  change S176x1024.Idx at y
  blk_simp
  rw [after0_5, eq_ix2 y]
  refine (w5 m c t _ _).trans ?_
  have e : (win0_5.blk t).view.emb (ix2 (y 0) (y 1)) = ix2 (row t (y 0)) (y 1) := by blk_ext [idxOut t, row]
  rw [e]
  rfl

theorem r6 : (dats m 0 c).arrAt 6 cfg0.N = val_main_v26 (F := Ideal) (a0 m c) (a1 m c) (a2 m c) (a3 m c) (a4 m c) := by
  refine (dats m 0 c).arrAt_eq_of_covers 6 _ (by decide +kernel) fun t hf y => ?_
  change S176x1024.Idx at y
  blk_simp
  rw [after0_6, eq_ix2 y]
  refine (w6 m c t _ _).trans ?_
  have e : (win0_6.blk t).view.emb (ix2 (y 0) (y 1)) = ix2 (row t (y 0)) (y 1) := by blk_ext [idxOut t, row]
  rw [e]
  rfl

theorem r7 : (dats m 0 c).arrAt 7 cfg0.N = val_main_v7 (F := Ideal) (a0 m c) (a1 m c) (a3 m c) := by
  refine (dats m 0 c).arrAt_eq_of_covers 7 _ (by decide +kernel) fun t hf y => ?_
  change S176x1024.Idx at y
  blk_simp
  rw [after0_7, eq_ix2 y]
  refine (w7 m c t _ _).trans ?_
  have e : (win0_7.blk t).view.emb (ix2 (y 0) (y 1)) = ix2 (row t (y 0)) (y 1) := by blk_ext [idxOut t, row]
  rw [e]
  rfl

theorem r8 : (dats m 0 c).arrAt 8 cfg0.N = val_main_v13 (F := Ideal) (a0 m c) (a1 m c) (a4 m c) := by
  refine (dats m 0 c).arrAt_eq_of_covers 8 _ (by decide +kernel) fun t hf y => ?_
  change S176x1024.Idx at y
  blk_simp
  rw [after0_8, eq_ix2 y]
  refine (w8 m c t _ _).trans ?_
  have e : (win0_8.blk t).view.emb (ix2 (y 0) (y 1)) = ix2 (row t (y 0)) (y 1) := by blk_ext [idxOut t, row]
  rw [e]
  rfl

end Adam
-- ==== Proof.AdamOut.lean ====
/-
  One AdamW step on a device's rows of the output projection: the gradient is the sum of the device's own part and three received
  parts, and the update, the two moments and the gradient are the reference's on any extended reals.
-/
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

@[expose] public section

set_option maxRecDepth 16384

noncomputable section

namespace AdamOut

open Cert.Kernel6Ideal Cert.Kernel6Ideal.Gen Idealize.ShloMosaic Idealize.ShloMosaic.TcCoe Idealize.SL.Sem
open Cert.Reference6Ideal.Read

/-- The weight's row in row `r` of the block of point `p`. -/
def row (p : Fin cfg0.N) (r : Fin 64) : Fin 128 := ⟨p.val * 64 + r.val, by have := p.isLt; have : cfg0.N = 2 := N_0; omega⟩

variable (m : (ℓ : Loc nD τ Cert.Kernel6Ideal.sig) → Buf (Elt Ideal) ℓ) (c : Dev nD) (t : Fin cfg0.N)

abbrev a0 : FVec Ideal S128x1024 .f32 := m ((c : Thread nD τ).loc main_arg0)
abbrev a1 : FVec Ideal S3x128x1024 .bf16 := m ((c : Thread nD τ).loc main_arg1)
abbrev a2 : FVec Ideal S128x1024 .f32 := m ((c : Thread nD τ).loc main_arg2)
abbrev a3 : FVec Ideal S128x1024 .f32 := m ((c : Thread nD τ).loc main_arg3)
abbrev a4 : FVec Ideal S128x1024 .f32 := m ((c : Thread nD τ).loc main_arg4)

theorem idx : ∀ t : Fin cfg0.N, win0_0.index t = ![t.val, 0] ∧ win0_1.index t = ![0, t.val, 0] ∧ win0_2.index t = ![t.val, 0]
    ∧ win0_3.index t = ![t.val, 0] ∧ win0_4.index t = ![t.val, 0] := (by decide +kernel : ∀ t : Fin grid0.N, _)

theorem idxOut : ∀ t : Fin cfg0.N, win0_5.index t = ![t.val, 0] ∧ win0_6.index t = ![t.val, 0] ∧ win0_7.index t = ![t.val, 0]
    ∧ win0_8.index t = ![t.val, 0] := (by decide +kernel : ∀ t : Fin grid0.N, _)

theorem in0 (r : Fin 64) (j : Fin 1024) : iblk m c 0 t (ix2 r j) = a0 m c (ix2 (row t r) j) := by blk_ext [iblk, V, idx t, row]
theorem in1 (k : Fin 3) (r : Fin 64) (j : Fin 1024) : iblk m c 1 t (ix3 k r j) = a1 m c (ix3 k (row t r) j) := by blk_ext [iblk, V, idx t, row]
theorem in2 (r : Fin 64) (j : Fin 1024) : iblk m c 2 t (ix2 r j) = a2 m c (ix2 (row t r) j) := by blk_ext [iblk, V, idx t, row]
theorem in3 (r : Fin 64) (j : Fin 1024) : iblk m c 3 t (ix2 r j) = a3 m c (ix2 (row t r) j) := by blk_ext [iblk, V, idx t, row]
theorem in4 (r : Fin 64) (j : Fin 1024) : iblk m c 4 t (ix2 r j) = a4 m c (ix2 (row t r) j) := by blk_ext [iblk, V, idx t, row]

/-! ## A point's blocks -/

/-- The gradient: the four parts' sum. -/
theorem w5 (r : Fin 64) (j : Fin 1024) : out0_5 (iblk m c 0 t) (iblk m c 1 t) (iblk m c 2 t) (iblk m c 3 t) (iblk m c 4 t) (ix2 r j)
    = val_main_v2 (F := Ideal) (a0 m c) (a1 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The update. -/
theorem w6 (r : Fin 64) (j : Fin 1024) : out0_6 (iblk m c 0 t) (iblk m c 1 t) (iblk m c 2 t) (iblk m c 3 t) (iblk m c 4 t) (ix2 r j)
    = val_main_v26 (F := Ideal) (a0 m c) (a1 m c) (a2 m c) (a3 m c) (a4 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The first moment. -/
theorem w7 (r : Fin 64) (j : Fin 1024) : out0_7 (iblk m c 0 t) (iblk m c 1 t) (iblk m c 2 t) (iblk m c 3 t) (iblk m c 4 t) (ix2 r j)
    = val_main_v7 (F := Ideal) (a0 m c) (a1 m c) (a3 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The second moment. -/
theorem w8 (r : Fin 64) (j : Fin 1024) : out0_8 (iblk m c 0 t) (iblk m c 1 t) (iblk m c 2 t) (iblk m c 3 t) (iblk m c 4 t) (ix2 r j)
    = val_main_v13 (F := Ideal) (a0 m c) (a1 m c) (a4 m c) (ix2 (row t r) j) := by
  frame_out
  pointwise [k0_pay1, k0_pay2, k0_pay3, k0_pay4, k0_pay5, k0_pay6, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-! ## The arrays -/

theorem r5 : (dats m 0 c).arrAt 5 cfg0.N = val_main_v2 (F := Ideal) (a0 m c) (a1 m c) := by
  refine (dats m 0 c).arrAt_eq_of_covers 5 _ (by decide +kernel) fun t hf y => ?_
  change S64x1024.Idx at y
  blk_simp
  rw [after0_5, eq_ix2 y]
  refine (w5 m c t _ _).trans ?_
  have e : (win0_5.blk t).view.emb (ix2 (y 0) (y 1)) = ix2 (row t (y 0)) (y 1) := by blk_ext [idxOut t, row]
  rw [e]
  rfl

theorem r6 : (dats m 0 c).arrAt 6 cfg0.N = val_main_v26 (F := Ideal) (a0 m c) (a1 m c) (a2 m c) (a3 m c) (a4 m c) := by
  refine (dats m 0 c).arrAt_eq_of_covers 6 _ (by decide +kernel) fun t hf y => ?_
  change S64x1024.Idx at y
  blk_simp
  rw [after0_6, eq_ix2 y]
  refine (w6 m c t _ _).trans ?_
  have e : (win0_6.blk t).view.emb (ix2 (y 0) (y 1)) = ix2 (row t (y 0)) (y 1) := by blk_ext [idxOut t, row]
  rw [e]
  rfl

theorem r7 : (dats m 0 c).arrAt 7 cfg0.N = val_main_v7 (F := Ideal) (a0 m c) (a1 m c) (a3 m c) := by
  refine (dats m 0 c).arrAt_eq_of_covers 7 _ (by decide +kernel) fun t hf y => ?_
  change S64x1024.Idx at y
  blk_simp
  rw [after0_7, eq_ix2 y]
  refine (w7 m c t _ _).trans ?_
  have e : (win0_7.blk t).view.emb (ix2 (y 0) (y 1)) = ix2 (row t (y 0)) (y 1) := by blk_ext [idxOut t, row]
  rw [e]
  rfl

theorem r8 : (dats m 0 c).arrAt 8 cfg0.N = val_main_v13 (F := Ideal) (a0 m c) (a1 m c) (a4 m c) := by
  refine (dats m 0 c).arrAt_eq_of_covers 8 _ (by decide +kernel) fun t hf y => ?_
  change S64x1024.Idx at y
  blk_simp
  rw [after0_8, eq_ix2 y]
  refine (w8 m c t _ _).trans ?_
  have e : (win0_8.blk t).view.emb (ix2 (y 0) (y 1)) = ix2 (row t (y 0)) (y 1) := by blk_ext [idxOut t, row]
  rw [e]
  rfl

end AdamOut
-- ==== Proof.AdamIn.lean ====
/-
  One AdamW step on a device's rows of w_in: the gradient is the first 322 rows of a window of 336, the sum of the device's own
  part and three received parts, and the update, the two moments and the gradient are the reference's on any extended reals.
-/
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit

@[expose] public section

set_option maxRecDepth 16384

noncomputable section

namespace AdamIn

open Cert.Kernel7Ideal Cert.Kernel7Ideal.Gen Idealize.ShloMosaic Idealize.ShloMosaic.TcCoe Idealize.SL.Sem
open Cert.Reference7Ideal.Read

variable (m : (ℓ : Loc nD τ Cert.Kernel7Ideal.sig) → Buf (Elt Ideal) ℓ) (c : Dev nD) (t : Fin cfg0.N)

abbrev a0 : FVec Ideal S336x1024 .f32 := m ((c : Thread nD τ).loc main_arg0)
abbrev a1 : FVec Ideal S3x336x1024 .bf16 := m ((c : Thread nD τ).loc main_arg1)
abbrev a2 : FVec Ideal S322x1024 .f32 := m ((c : Thread nD τ).loc main_arg2)
abbrev a3 : FVec Ideal S322x1024 .f32 := m ((c : Thread nD τ).loc main_arg3)
abbrev a4 : FVec Ideal S322x1024 .f32 := m ((c : Thread nD τ).loc main_arg4)

theorem idx : ∀ t : Fin cfg0.N, win0_0.index t = ![0, 0] ∧ win0_1.index t = ![0, 0, 0] ∧ win0_2.index t = ![0, 0]
    ∧ win0_3.index t = ![0, 0] ∧ win0_4.index t = ![0, 0] := (by decide +kernel : ∀ t : Fin grid0.N, _)

theorem idxOut : ∀ t : Fin cfg0.N, win0_5.index t = ![0, 0] ∧ win0_6.index t = ![0, 0] ∧ win0_7.index t = ![0, 0]
    ∧ win0_8.index t = ![0, 0] := (by decide +kernel : ∀ t : Fin grid0.N, _)

theorem in0 (r : Fin 336) (j : Fin 1024) : iblk m c 0 t (ix2 r j) = a0 m c (ix2 r j) := by blk_ext [iblk, V, idx t]
theorem in1 (k : Fin 3) (r : Fin 336) (j : Fin 1024) : iblk m c 1 t (ix3 k r j) = a1 m c (ix3 k r j) := by blk_ext [iblk, V, idx t]
theorem in2 (r : Fin 322) (j : Fin 1024) : iblk m c 2 t (ix2 r j) = a2 m c (ix2 r j) := by blk_ext [iblk, V, idx t]
theorem in3 (r : Fin 322) (j : Fin 1024) : iblk m c 3 t (ix2 r j) = a3 m c (ix2 r j) := by blk_ext [iblk, V, idx t]
theorem in4 (r : Fin 322) (j : Fin 1024) : iblk m c 4 t (ix2 r j) = a4 m c (ix2 r j) := by blk_ext [iblk, V, idx t]

/-! ## A point's blocks -/

/-- The gradient: the four parts' sum. -/
theorem w5 (r : Fin 322) (j : Fin 1024) : out0_5 (iblk m c 0 t) (iblk m c 1 t) (iblk m c 2 t) (iblk m c 3 t) (iblk m c 4 t) (ix2 r j)
    = val_main_v4 (F := Ideal) (a0 m c) (a1 m c) (ix2 r j) := by
  frame_out
  pointwise [k0_pay1, k0_pay2, k0_pay3, k0_pay4, k0_pay5, k0_pay6, k0_pay7, k0_pay8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The update. -/
theorem w6 (r : Fin 322) (j : Fin 1024) : out0_6 (iblk m c 0 t) (iblk m c 1 t) (iblk m c 2 t) (iblk m c 3 t) (iblk m c 4 t) (ix2 r j)
    = val_main_v28 (F := Ideal) (a0 m c) (a1 m c) (a2 m c) (a3 m c) (a4 m c) (ix2 r j) := by
  frame_out
  unfold k0_pay9
  pointwise [k0_pay1, k0_pay2, k0_pay3, k0_pay4, k0_pay5, k0_pay6, k0_pay7, k0_pay8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The first moment. -/
theorem w7 (r : Fin 322) (j : Fin 1024) : out0_7 (iblk m c 0 t) (iblk m c 1 t) (iblk m c 2 t) (iblk m c 3 t) (iblk m c 4 t) (ix2 r j)
    = val_main_v9 (F := Ideal) (a0 m c) (a1 m c) (a3 m c) (ix2 r j) := by
  frame_out
  pointwise [k0_pay1, k0_pay2, k0_pay3, k0_pay4, k0_pay5, k0_pay6, k0_pay7, k0_pay8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The second moment. -/
theorem w8 (r : Fin 322) (j : Fin 1024) : out0_8 (iblk m c 0 t) (iblk m c 1 t) (iblk m c 2 t) (iblk m c 3 t) (iblk m c 4 t) (ix2 r j)
    = val_main_v15 (F := Ideal) (a0 m c) (a1 m c) (a4 m c) (ix2 r j) := by
  frame_out
  unfold k0_pay9
  pointwise [k0_pay1, k0_pay2, k0_pay3, k0_pay4, k0_pay5, k0_pay6, k0_pay7, k0_pay8, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-! ## The arrays -/

theorem r5 : (dats m 0 c).arrAt 5 cfg0.N = val_main_v4 (F := Ideal) (a0 m c) (a1 m c) := by
  refine (dats m 0 c).arrAt_eq_of_covers 5 _ (by decide +kernel) fun t hf y => ?_
  change S322x1024.Idx at y
  blk_simp
  rw [after0_5, eq_ix2 y]
  refine (w5 m c t _ _).trans ?_
  have e : (win0_5.blk t).view.emb (ix2 (y 0) (y 1)) = ix2 (y 0) (y 1) := by blk_ext [idxOut t]
  rw [e]
  rfl

theorem r6 : (dats m 0 c).arrAt 6 cfg0.N = val_main_v28 (F := Ideal) (a0 m c) (a1 m c) (a2 m c) (a3 m c) (a4 m c) := by
  refine (dats m 0 c).arrAt_eq_of_covers 6 _ (by decide +kernel) fun t hf y => ?_
  change S322x1024.Idx at y
  blk_simp
  rw [after0_6, eq_ix2 y]
  refine (w6 m c t _ _).trans ?_
  have e : (win0_6.blk t).view.emb (ix2 (y 0) (y 1)) = ix2 (y 0) (y 1) := by blk_ext [idxOut t]
  rw [e]
  rfl

theorem r7 : (dats m 0 c).arrAt 7 cfg0.N = val_main_v9 (F := Ideal) (a0 m c) (a1 m c) (a3 m c) := by
  refine (dats m 0 c).arrAt_eq_of_covers 7 _ (by decide +kernel) fun t hf y => ?_
  change S322x1024.Idx at y
  blk_simp
  rw [after0_7, eq_ix2 y]
  refine (w7 m c t _ _).trans ?_
  have e : (win0_7.blk t).view.emb (ix2 (y 0) (y 1)) = ix2 (y 0) (y 1) := by blk_ext [idxOut t]
  rw [e]
  rfl

theorem r8 : (dats m 0 c).arrAt 8 cfg0.N = val_main_v15 (F := Ideal) (a0 m c) (a1 m c) (a4 m c) := by
  refine (dats m 0 c).arrAt_eq_of_covers 8 _ (by decide +kernel) fun t hf y => ?_
  change S322x1024.Idx at y
  blk_simp
  rw [after0_8, eq_ix2 y]
  refine (w8 m c t _ _).trans ?_
  have e : (win0_8.blk t).view.emb (ix2 (y 0) (y 1)) = ix2 (y 0) (y 1) := by blk_ext [idxOut t]
  rw [e]
  rfl

end AdamIn
-- ==== Proof.AdamIn1.lean ====
/-
  One AdamW step on the rows of w_in of a device whose rows begin four rows into the window: the kernel rolls the sum of the device's
  own part and three received parts and takes the first 322 rows, the reference takes those behind the first four. The update, the
  two moments and the gradient are the reference's on any extended reals.
-/
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.KernelVsHost

@[expose] public section

set_option maxRecDepth 16384

noncomputable section

namespace AdamIn1

open Cert.Kernel9Ideal Cert.Kernel9Ideal.Gen Idealize.ShloMosaic Idealize.ShloMosaic.TcCoe Idealize.SL.Sem
open Cert.Reference9Ideal.Read

variable (m : (ℓ : Loc nD τ Cert.Kernel9Ideal.sig) → Buf (Elt Ideal) ℓ) (c : Dev nD) (t : Fin cfg0.N)

abbrev a0 : FVec Ideal S336x1024 .f32 := m ((c : Thread nD τ).loc main_arg0)
abbrev a1 : FVec Ideal S3x336x1024 .bf16 := m ((c : Thread nD τ).loc main_arg1)
abbrev a2 : FVec Ideal S322x1024 .f32 := m ((c : Thread nD τ).loc main_arg2)
abbrev a3 : FVec Ideal S322x1024 .f32 := m ((c : Thread nD τ).loc main_arg3)
abbrev a4 : FVec Ideal S322x1024 .f32 := m ((c : Thread nD τ).loc main_arg4)

theorem idx : ∀ t : Fin cfg0.N, win0_0.index t = ![0, 0] ∧ win0_1.index t = ![0, 0, 0] ∧ win0_2.index t = ![0, 0]
    ∧ win0_3.index t = ![0, 0] ∧ win0_4.index t = ![0, 0] := (by decide +kernel : ∀ t : Fin grid0.N, _)

theorem idxOut : ∀ t : Fin cfg0.N, win0_5.index t = ![0, 0] ∧ win0_6.index t = ![0, 0] ∧ win0_7.index t = ![0, 0]
    ∧ win0_8.index t = ![0, 0] := (by decide +kernel : ∀ t : Fin grid0.N, _)

theorem in0 (r : Fin 336) (j : Fin 1024) : iblk m c 0 t (ix2 r j) = a0 m c (ix2 r j) := by blk_ext [iblk, V, idx t]
theorem in1 (k : Fin 3) (r : Fin 336) (j : Fin 1024) : iblk m c 1 t (ix3 k r j) = a1 m c (ix3 k r j) := by blk_ext [iblk, V, idx t]
theorem in2 (r : Fin 322) (j : Fin 1024) : iblk m c 2 t (ix2 r j) = a2 m c (ix2 r j) := by blk_ext [iblk, V, idx t]
theorem in3 (r : Fin 322) (j : Fin 1024) : iblk m c 3 t (ix2 r j) = a3 m c (ix2 r j) := by blk_ext [iblk, V, idx t]
theorem in4 (r : Fin 322) (j : Fin 1024) : iblk m c 4 t (ix2 r j) = a4 m c (ix2 r j) := by blk_ext [iblk, V, idx t]

/-! ## The rolled window -/

/-- The parts' sum, before it is rolled. -/
def parts (v0 : Vec Ideal S336x1024 .f32) (v1 v5 v9 : Vec Ideal S1x336x1024 .bf16) : FVec Ideal S336x1024 .f32 :=
  addf (addf (addf v0 (extf .f32 (shapeCast S336x1024 v1 shapeCasts_S1x336x1024_S336x1024 : FVec Ideal S336x1024 .bf16) bitsLt_bf16_f32))
    (extf .f32 (shapeCast S336x1024 v5 shapeCasts_S1x336x1024_S336x1024 : FVec Ideal S336x1024 .bf16) bitsLt_bf16_f32))
    (extf .f32 (shapeCast S336x1024 v9 shapeCasts_S1x336x1024_S336x1024 : FVec Ideal S336x1024 .bf16) bitsLt_bf16_f32)

theorem slices4 : S336x1024.Slices ![4, 0] S322x1024 := by decide

/-- Rolled by 332 of 336 rows, the first 322 rows are those behind the first four. -/
theorem rolled (x : FVec Ideal S336x1024 .f32) :
    extractStridedSlice S322x1024 ![0, 0] (dynamicRotate 0 332#32 none x rotates_S336x1024_d0) slices_S336x1024_o0_0_S322x1024
      = extractStridedSlice S322x1024 ![4, 0] x slices4 := by
  funext i
  have h : (i 0).val < 322 := (i 0).isLt
  have h1 : (i 1).val < 1024 := (i 1).isLt
  refine (extractStridedSlice_apply ![0, 0] _ slices_S336x1024_o0_0_S322x1024 i
    (ix2 (⟨(i 0).val, by omega⟩ : Fin 336) (⟨(i 1).val, h1⟩ : Fin 1024)) (fun a => by
      match a with
      | ⟨0, _⟩ => show (i 0).val = 0 + (i 0).val; omega
      | ⟨1, _⟩ => show (i 1).val = 0 + (i 1).val; omega)).trans (Eq.trans ?_
    (extractStridedSlice_apply ![4, 0] x slices4 i
      (ix2 (⟨4 + (i 0).val, by omega⟩ : Fin 336) (⟨(i 1).val, h1⟩ : Fin 1024)) (fun a => by
        match a with
        | ⟨0, _⟩ => rfl
        | ⟨1, _⟩ => show (i 1).val = 0 + (i 1).val; omega)).symm)
  refine dynamicRotate_apply _ _ _ _ _ _ fun b => ?_
  match b with
  | ⟨0, _⟩ => show 4 + (i 0).val = ((i 0).val + 336 - 332 % 336) % 336; omega
  | ⟨1, _⟩ => rfl

theorem rolled3 (v0 : Vec Ideal S336x1024 .f32) (v1 v5 v9 : Vec Ideal S1x336x1024 .bf16) :
    k0_pay3 v0 v1 v5 v9 = extractStridedSlice S322x1024 ![4, 0] (parts v0 v1 v5 v9) slices4 := by
  unfold k0_pay3 k0_pay2
  exact rolled (parts v0 v1 v5 v9)

theorem rolled4 (v0 : Vec Ideal S336x1024 .f32) (v1 v5 v9 : Vec Ideal S1x336x1024 .bf16) :
    k0_pay4 v0 v1 v5 v9 = extractStridedSlice S322x1024 ![4, 0] (parts v0 v1 v5 v9) slices4 := by
  unfold k0_pay4 k0_pay2
  exact rolled (parts v0 v1 v5 v9)

/-! ## A point's blocks -/

/-- The gradient: the four parts' sum. -/
theorem w5 (r : Fin 322) (j : Fin 1024) : out0_5 (iblk m c 0 t) (iblk m c 1 t) (iblk m c 2 t) (iblk m c 3 t) (iblk m c 4 t) (ix2 r j)
    = val_main_v4 (F := Ideal) (a0 m c) (a1 m c) (ix2 r j) := by
  frame_out
  pointwise [k0_pay1, rolled3, rolled4, parts, k0_pay5, k0_pay6, k0_pay7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The update. -/
theorem w6 (r : Fin 322) (j : Fin 1024) : out0_6 (iblk m c 0 t) (iblk m c 1 t) (iblk m c 2 t) (iblk m c 3 t) (iblk m c 4 t) (ix2 r j)
    = val_main_v28 (F := Ideal) (a0 m c) (a1 m c) (a2 m c) (a3 m c) (a4 m c) (ix2 r j) := by
  frame_out
  unfold k0_pay8
  pointwise [k0_pay1, rolled3, rolled4, parts, k0_pay5, k0_pay6, k0_pay7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The first moment. -/
theorem w7 (r : Fin 322) (j : Fin 1024) : out0_7 (iblk m c 0 t) (iblk m c 1 t) (iblk m c 2 t) (iblk m c 3 t) (iblk m c 4 t) (ix2 r j)
    = val_main_v9 (F := Ideal) (a0 m c) (a1 m c) (a3 m c) (ix2 r j) := by
  frame_out
  pointwise [k0_pay1, rolled3, rolled4, parts, k0_pay5, k0_pay6, k0_pay7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-- The second moment. -/
theorem w8 (r : Fin 322) (j : Fin 1024) : out0_8 (iblk m c 0 t) (iblk m c 1 t) (iblk m c 2 t) (iblk m c 3 t) (iblk m c 4 t) (ix2 r j)
    = val_main_v15 (F := Ideal) (a0 m c) (a1 m c) (a4 m c) (ix2 r j) := by
  frame_out
  unfold k0_pay8
  pointwise [k0_pay1, rolled3, rolled4, parts, k0_pay5, k0_pay6, k0_pay7, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, val_main_cst_7, val_main_cst_8]
  simp only [in0, in1, in2, in3, in4, Fin.sum_univ_three, add_assoc]

/-! ## The arrays -/

theorem r5 : (dats m 0 c).arrAt 5 cfg0.N = val_main_v4 (F := Ideal) (a0 m c) (a1 m c) := by
  refine (dats m 0 c).arrAt_eq_of_covers 5 _ (by decide +kernel) fun t hf y => ?_
  change S322x1024.Idx at y
  blk_simp
  rw [after0_5, eq_ix2 y]
  refine (w5 m c t _ _).trans ?_
  have e : (win0_5.blk t).view.emb (ix2 (y 0) (y 1)) = ix2 (y 0) (y 1) := by blk_ext [idxOut t]
  rw [e]
  rfl

theorem r6 : (dats m 0 c).arrAt 6 cfg0.N = val_main_v28 (F := Ideal) (a0 m c) (a1 m c) (a2 m c) (a3 m c) (a4 m c) := by
  refine (dats m 0 c).arrAt_eq_of_covers 6 _ (by decide +kernel) fun t hf y => ?_
  change S322x1024.Idx at y
  blk_simp
  rw [after0_6, eq_ix2 y]
  refine (w6 m c t _ _).trans ?_
  have e : (win0_6.blk t).view.emb (ix2 (y 0) (y 1)) = ix2 (y 0) (y 1) := by blk_ext [idxOut t]
  rw [e]
  rfl

theorem r7 : (dats m 0 c).arrAt 7 cfg0.N = val_main_v9 (F := Ideal) (a0 m c) (a1 m c) (a3 m c) := by
  refine (dats m 0 c).arrAt_eq_of_covers 7 _ (by decide +kernel) fun t hf y => ?_
  change S322x1024.Idx at y
  blk_simp
  rw [after0_7, eq_ix2 y]
  refine (w7 m c t _ _).trans ?_
  have e : (win0_7.blk t).view.emb (ix2 (y 0) (y 1)) = ix2 (y 0) (y 1) := by blk_ext [idxOut t]
  rw [e]
  rfl

theorem r8 : (dats m 0 c).arrAt 8 cfg0.N = val_main_v15 (F := Ideal) (a0 m c) (a1 m c) (a4 m c) := by
  refine (dats m 0 c).arrAt_eq_of_covers 8 _ (by decide +kernel) fun t hf y => ?_
  change S322x1024.Idx at y
  blk_simp
  rw [after0_8, eq_ix2 y]
  refine (w8 m c t _ _).trans ?_
  have e : (win0_8.blk t).view.emb (ix2 (y 0) (y 1)) = ix2 (y 0) (y 1) := by blk_ext [idxOut t]
  rw [e]
  rfl

end AdamIn1
-- ==== Proof.SmallBody.lean ====
/-
  The body of the AdamW step on the twelve small parameters, over any values: on whole buffers it leaves the six stacks, the
  weights and the moments as they were, and in each of the 48 outputs one stored block computed from them.
-/
module

public import proofs.«01_k».proof.Proof.Gen.Kernel8Ideal.Launch
public import proofs.«01_k».proof.Proof.Gen.Kernel8Ideal.Skeleton
public import proofs.«01_k».proof.Proof.Gen.Kernel8Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Small

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What is loaded and stored: the rows of the stacks, and whole buffers -/

abbrev r0_0 : Rect S8x1024 := Rect.unit (s := S8x1024) ![0, 0] S1x1024.size inb_S8x1024_S1x1024_0_0
abbrev r0_1 : Rect S1x1024 := Rect.unit (s := S1x1024) ![0, 0] S1x1024.size inb_S1x1024_S1x1024_0_0
abbrev r0_2 : Rect S16x32 := Rect.unit (s := S16x32) ![0, 0] S16x32.size inb_S16x32_S16x32_0_0
abbrev r0_3 : Rect S40x256 := Rect.unit (s := S40x256) ![0, 0] S1x256.size inb_S40x256_S1x256_0_0
abbrev r0_4 : Rect S1x256 := Rect.unit (s := S1x256) ![0, 0] S1x256.size inb_S1x256_S1x256_0_0
abbrev r0_5 : Rect S40x256 := Rect.unit (s := S40x256) ![1, 0] S1x256.size inb_S40x256_S1x256_1_0
abbrev r0_6 : Rect S8x512 := Rect.unit (s := S8x512) ![0, 0] S1x512.size inb_S8x512_S1x512_0_0
abbrev r0_7 : Rect S1x512 := Rect.unit (s := S1x512) ![0, 0] S1x512.size inb_S1x512_S1x512_0_0
abbrev r0_8 : Rect S8x512 := Rect.unit (s := S8x512) ![1, 0] S1x512.size inb_S8x512_S1x512_1_0
abbrev r0_9 : Rect S8x512 := Rect.unit (s := S8x512) ![2, 0] S1x512.size inb_S8x512_S1x512_2_0
abbrev r0_10 : Rect S520x128 := Rect.unit (s := S520x128) ![0, 0] S512x128.size inb_S520x128_S512x128_0_0
abbrev r0_11 : Rect S512x128 := Rect.unit (s := S512x128) ![0, 0] S512x128.size inb_S512x128_S512x128_0_0
abbrev r0_12 : Rect S520x128 := Rect.unit (s := S520x128) ![512, 0] S4x128.size inb_S520x128_S4x128_512_0
abbrev r0_13 : Rect S4x128 := Rect.unit (s := S4x128) ![0, 0] S4x128.size inb_S4x128_S4x128_0_0
abbrev r0_14 : Rect S8x1024 := Rect.unit (s := S8x1024) ![1, 0] S1x1024.size inb_S8x1024_S1x1024_1_0
abbrev r0_15 : Rect S8x1024 := Rect.unit (s := S8x1024) ![2, 0] S1x1024.size inb_S8x1024_S1x1024_2_0

/-- The buffer after one store of the block `v` at `r`. -/
def put {S : Shape} (r : Rect S) (v : r.shape.Idx → Elt F .f32) : Vec F S .f32 := View.canon [⟨r, v⟩]

/-- A buffer stored whole reads as what was stored. -/
theorem read_put {κ : Kind} {sp : Space} {S : Shape} (v : View sig κ sp S .f32) (f : v.ty.Contents (Elt F)) (r : Rect S)
    (p : r.shape.Idx → Elt F .f32) (h : ∀ y, y ∈ r.set) : v.read (Elt F) (v.writes (Elt F) f [⟨r, p⟩]) = put r p :=
  View.read_writes_eq_canon _ _ _ fun y => ⟨_, List.mem_singleton.2 rfl, h y⟩

theorem full1 (y : S1x1024.Idx) : y ∈ r0_1.set := by
  obtain ⟨p, hp, h⟩ := View.cover_of_tiled (Val := fun _ => Unit) (e := .f32) [⟨r0_1, fun _ => ()⟩] S1x1024.size (by rfl) y
  rw [List.mem_singleton.1 hp] at h; exact h
theorem full2 (y : S16x32.Idx) : y ∈ r0_2.set := by
  obtain ⟨p, hp, h⟩ := View.cover_of_tiled (Val := fun _ => Unit) (e := .f32) [⟨r0_2, fun _ => ()⟩] S16x32.size (by rfl) y
  rw [List.mem_singleton.1 hp] at h; exact h
theorem full4 (y : S1x256.Idx) : y ∈ r0_4.set := by
  obtain ⟨p, hp, h⟩ := View.cover_of_tiled (Val := fun _ => Unit) (e := .f32) [⟨r0_4, fun _ => ()⟩] S1x256.size (by rfl) y
  rw [List.mem_singleton.1 hp] at h; exact h
theorem full7 (y : S1x512.Idx) : y ∈ r0_7.set := by
  obtain ⟨p, hp, h⟩ := View.cover_of_tiled (Val := fun _ => Unit) (e := .f32) [⟨r0_7, fun _ => ()⟩] S1x512.size (by rfl) y
  rw [List.mem_singleton.1 hp] at h; exact h
theorem full11 (y : S512x128.Idx) : y ∈ r0_11.set := by
  obtain ⟨p, hp, h⟩ := View.cover_of_tiled (Val := fun _ => Unit) (e := .f32) [⟨r0_11, fun _ => ()⟩] S512x128.size (by rfl) y
  rw [List.mem_singleton.1 hp] at h; exact h
theorem full13 (y : S4x128.Idx) : y ∈ r0_13.set := by
  obtain ⟨p, hp, h⟩ := View.cover_of_tiled (Val := fun _ => Unit) (e := .f32) [⟨r0_13, fun _ => ()⟩] S4x128.size (by rfl) y
  rw [List.mem_singleton.1 hp] at h; exact h

/-! ## The body's triple -/

set_option maxHeartbeats 8000000 in
/-- The body on whole buffers, the stacks, weights and moments at read contents and the outputs' at anything. -/
theorem sound (c : Dev nD) (E : Set ℕ)
    (arg0 : Memref sig .tc .vmem S8x1024 .f32) (harg0 : arg0.IsWhole)
    (arg1 : Memref sig .tc .vmem S16x32 .f32) (harg1 : arg1.IsWhole)
    (arg2 : Memref sig .tc .vmem S40x256 .f32) (harg2 : arg2.IsWhole)
    (arg3 : Memref sig .tc .vmem S16x32 .f32) (harg3 : arg3.IsWhole)
    (arg4 : Memref sig .tc .vmem S8x512 .f32) (harg4 : arg4.IsWhole)
    (arg5 : Memref sig .tc .vmem S520x128 .f32) (harg5 : arg5.IsWhole)
    (arg6 : Memref sig .tc .vmem S1x1024 .f32) (harg6 : arg6.IsWhole)
    (arg7 : Memref sig .tc .vmem S1x1024 .f32) (harg7 : arg7.IsWhole)
    (arg8 : Memref sig .tc .vmem S1x1024 .f32) (harg8 : arg8.IsWhole)
    (arg9 : Memref sig .tc .vmem S16x32 .f32) (harg9 : arg9.IsWhole)
    (arg10 : Memref sig .tc .vmem S16x32 .f32) (harg10 : arg10.IsWhole)
    (arg11 : Memref sig .tc .vmem S16x32 .f32) (harg11 : arg11.IsWhole)
    (arg12 : Memref sig .tc .vmem S1x256 .f32) (harg12 : arg12.IsWhole)
    (arg13 : Memref sig .tc .vmem S1x256 .f32) (harg13 : arg13.IsWhole)
    (arg14 : Memref sig .tc .vmem S1x256 .f32) (harg14 : arg14.IsWhole)
    (arg15 : Memref sig .tc .vmem S16x32 .f32) (harg15 : arg15.IsWhole)
    (arg16 : Memref sig .tc .vmem S16x32 .f32) (harg16 : arg16.IsWhole)
    (arg17 : Memref sig .tc .vmem S16x32 .f32) (harg17 : arg17.IsWhole)
    (arg18 : Memref sig .tc .vmem S1x256 .f32) (harg18 : arg18.IsWhole)
    (arg19 : Memref sig .tc .vmem S1x256 .f32) (harg19 : arg19.IsWhole)
    (arg20 : Memref sig .tc .vmem S1x256 .f32) (harg20 : arg20.IsWhole)
    (arg21 : Memref sig .tc .vmem S1x512 .f32) (harg21 : arg21.IsWhole)
    (arg22 : Memref sig .tc .vmem S1x512 .f32) (harg22 : arg22.IsWhole)
    (arg23 : Memref sig .tc .vmem S1x512 .f32) (harg23 : arg23.IsWhole)
    (arg24 : Memref sig .tc .vmem S1x512 .f32) (harg24 : arg24.IsWhole)
    (arg25 : Memref sig .tc .vmem S1x512 .f32) (harg25 : arg25.IsWhole)
    (arg26 : Memref sig .tc .vmem S1x512 .f32) (harg26 : arg26.IsWhole)
    (arg27 : Memref sig .tc .vmem S1x512 .f32) (harg27 : arg27.IsWhole)
    (arg28 : Memref sig .tc .vmem S1x512 .f32) (harg28 : arg28.IsWhole)
    (arg29 : Memref sig .tc .vmem S1x512 .f32) (harg29 : arg29.IsWhole)
    (arg30 : Memref sig .tc .vmem S512x128 .f32) (harg30 : arg30.IsWhole)
    (arg31 : Memref sig .tc .vmem S512x128 .f32) (harg31 : arg31.IsWhole)
    (arg32 : Memref sig .tc .vmem S512x128 .f32) (harg32 : arg32.IsWhole)
    (arg33 : Memref sig .tc .vmem S4x128 .f32) (harg33 : arg33.IsWhole)
    (arg34 : Memref sig .tc .vmem S4x128 .f32) (harg34 : arg34.IsWhole)
    (arg35 : Memref sig .tc .vmem S4x128 .f32) (harg35 : arg35.IsWhole)
    (arg36 : Memref sig .tc .vmem S1x1024 .f32) (harg36 : arg36.IsWhole)
    (arg37 : Memref sig .tc .vmem S1x1024 .f32) (harg37 : arg37.IsWhole)
    (arg38 : Memref sig .tc .vmem S1x1024 .f32) (harg38 : arg38.IsWhole)
    (arg39 : Memref sig .tc .vmem S1x1024 .f32) (harg39 : arg39.IsWhole)
    (arg40 : Memref sig .tc .vmem S1x1024 .f32) (harg40 : arg40.IsWhole)
    (arg41 : Memref sig .tc .vmem S1x1024 .f32) (harg41 : arg41.IsWhole)
    (arg42 : Memref sig .tc .vmem S1x1024 .f32) (harg42 : arg42.IsWhole)
    (arg43 : Memref sig .tc .vmem S1x1024 .f32) (harg43 : arg43.IsWhole)
    (arg44 : Memref sig .tc .vmem S1x1024 .f32) (harg44 : arg44.IsWhole)
    (arg45 : Memref sig .tc .vmem S1x1024 .f32) (harg45 : arg45.IsWhole)
    (arg46 : Memref sig .tc .vmem S16x32 .f32) (harg46 : arg46.IsWhole)
    (arg47 : Memref sig .tc .vmem S16x32 .f32) (harg47 : arg47.IsWhole)
    (arg48 : Memref sig .tc .vmem S16x32 .f32) (harg48 : arg48.IsWhole)
    (arg49 : Memref sig .tc .vmem S16x32 .f32) (harg49 : arg49.IsWhole)
    (arg50 : Memref sig .tc .vmem S1x256 .f32) (harg50 : arg50.IsWhole)
    (arg51 : Memref sig .tc .vmem S1x256 .f32) (harg51 : arg51.IsWhole)
    (arg52 : Memref sig .tc .vmem S1x256 .f32) (harg52 : arg52.IsWhole)
    (arg53 : Memref sig .tc .vmem S1x256 .f32) (harg53 : arg53.IsWhole)
    (arg54 : Memref sig .tc .vmem S16x32 .f32) (harg54 : arg54.IsWhole)
    (arg55 : Memref sig .tc .vmem S16x32 .f32) (harg55 : arg55.IsWhole)
    (arg56 : Memref sig .tc .vmem S16x32 .f32) (harg56 : arg56.IsWhole)
    (arg57 : Memref sig .tc .vmem S16x32 .f32) (harg57 : arg57.IsWhole)
    (arg58 : Memref sig .tc .vmem S1x256 .f32) (harg58 : arg58.IsWhole)
    (arg59 : Memref sig .tc .vmem S1x256 .f32) (harg59 : arg59.IsWhole)
    (arg60 : Memref sig .tc .vmem S1x256 .f32) (harg60 : arg60.IsWhole)
    (arg61 : Memref sig .tc .vmem S1x256 .f32) (harg61 : arg61.IsWhole)
    (arg62 : Memref sig .tc .vmem S1x512 .f32) (harg62 : arg62.IsWhole)
    (arg63 : Memref sig .tc .vmem S1x512 .f32) (harg63 : arg63.IsWhole)
    (arg64 : Memref sig .tc .vmem S1x512 .f32) (harg64 : arg64.IsWhole)
    (arg65 : Memref sig .tc .vmem S1x512 .f32) (harg65 : arg65.IsWhole)
    (arg66 : Memref sig .tc .vmem S1x512 .f32) (harg66 : arg66.IsWhole)
    (arg67 : Memref sig .tc .vmem S1x512 .f32) (harg67 : arg67.IsWhole)
    (arg68 : Memref sig .tc .vmem S1x512 .f32) (harg68 : arg68.IsWhole)
    (arg69 : Memref sig .tc .vmem S1x512 .f32) (harg69 : arg69.IsWhole)
    (arg70 : Memref sig .tc .vmem S1x512 .f32) (harg70 : arg70.IsWhole)
    (arg71 : Memref sig .tc .vmem S1x512 .f32) (harg71 : arg71.IsWhole)
    (arg72 : Memref sig .tc .vmem S1x512 .f32) (harg72 : arg72.IsWhole)
    (arg73 : Memref sig .tc .vmem S1x512 .f32) (harg73 : arg73.IsWhole)
    (arg74 : Memref sig .tc .vmem S512x128 .f32) (harg74 : arg74.IsWhole)
    (arg75 : Memref sig .tc .vmem S512x128 .f32) (harg75 : arg75.IsWhole)
    (arg76 : Memref sig .tc .vmem S512x128 .f32) (harg76 : arg76.IsWhole)
    (arg77 : Memref sig .tc .vmem S512x128 .f32) (harg77 : arg77.IsWhole)
    (arg78 : Memref sig .tc .vmem S4x128 .f32) (harg78 : arg78.IsWhole)
    (arg79 : Memref sig .tc .vmem S4x128 .f32) (harg79 : arg79.IsWhole)
    (arg80 : Memref sig .tc .vmem S4x128 .f32) (harg80 : arg80.IsWhole)
    (arg81 : Memref sig .tc .vmem S4x128 .f32) (harg81 : arg81.IsWhole)
    (arg82 : Memref sig .tc .vmem S1x1024 .f32) (harg82 : arg82.IsWhole)
    (arg83 : Memref sig .tc .vmem S1x1024 .f32) (harg83 : arg83.IsWhole)
    (arg84 : Memref sig .tc .vmem S1x1024 .f32) (harg84 : arg84.IsWhole)
    (arg85 : Memref sig .tc .vmem S1x1024 .f32) (harg85 : arg85.IsWhole)
    (arg86 : Memref sig .tc .vmem S1x1024 .f32) (harg86 : arg86.IsWhole)
    (arg87 : Memref sig .tc .vmem S1x1024 .f32) (harg87 : arg87.IsWhole)
    (arg88 : Memref sig .tc .vmem S1x1024 .f32) (harg88 : arg88.IsWhole)
    (arg89 : Memref sig .tc .vmem S1x1024 .f32) (harg89 : arg89.IsWhole)
    (x0 : Vec F S8x1024 .f32) (x1 : Vec F S16x32 .f32) (x2 : Vec F S40x256 .f32) (x3 : Vec F S16x32 .f32)
    (x4 : Vec F S8x512 .f32) (x5 : Vec F S520x128 .f32) (x6 : Vec F S1x1024 .f32) (x7 : Vec F S1x1024 .f32)
    (x8 : Vec F S1x1024 .f32) (x9 : Vec F S16x32 .f32) (x10 : Vec F S16x32 .f32) (x11 : Vec F S16x32 .f32)
    (x12 : Vec F S1x256 .f32) (x13 : Vec F S1x256 .f32) (x14 : Vec F S1x256 .f32) (x15 : Vec F S16x32 .f32)
    (x16 : Vec F S16x32 .f32) (x17 : Vec F S16x32 .f32) (x18 : Vec F S1x256 .f32) (x19 : Vec F S1x256 .f32)
    (x20 : Vec F S1x256 .f32) (x21 : Vec F S1x512 .f32) (x22 : Vec F S1x512 .f32) (x23 : Vec F S1x512 .f32)
    (x24 : Vec F S1x512 .f32) (x25 : Vec F S1x512 .f32) (x26 : Vec F S1x512 .f32) (x27 : Vec F S1x512 .f32)
    (x28 : Vec F S1x512 .f32) (x29 : Vec F S1x512 .f32) (x30 : Vec F S512x128 .f32) (x31 : Vec F S512x128 .f32)
    (x32 : Vec F S512x128 .f32) (x33 : Vec F S4x128 .f32) (x34 : Vec F S4x128 .f32) (x35 : Vec F S4x128 .f32)
    (x36 : Vec F S1x1024 .f32) (x37 : Vec F S1x1024 .f32) (x38 : Vec F S1x1024 .f32) (x39 : Vec F S1x1024 .f32)
    (x40 : Vec F S1x1024 .f32) (x41 : Vec F S1x1024 .f32) (K : sProp 𝕄) :
    iprop(((∃ _ : Vec F S8x1024 .f32, owns (c : Thread nD τ) arg0 fullShare x0) ∗
        (∃ _ : Vec F S16x32 .f32, owns (c : Thread nD τ) arg1 fullShare x1) ∗
        (∃ _ : Vec F S40x256 .f32, owns (c : Thread nD τ) arg2 fullShare x2) ∗
        (∃ _ : Vec F S16x32 .f32, owns (c : Thread nD τ) arg3 fullShare x3) ∗
        (∃ _ : Vec F S8x512 .f32, owns (c : Thread nD τ) arg4 fullShare x4) ∗
        (∃ _ : Vec F S520x128 .f32, owns (c : Thread nD τ) arg5 fullShare x5) ∗
        (∃ _ : Vec F S1x1024 .f32, owns (c : Thread nD τ) arg6 fullShare x6) ∗
        (∃ _ : Vec F S1x1024 .f32, owns (c : Thread nD τ) arg7 fullShare x7) ∗
        (∃ _ : Vec F S1x1024 .f32, owns (c : Thread nD τ) arg8 fullShare x8) ∗
        (∃ _ : Vec F S16x32 .f32, owns (c : Thread nD τ) arg9 fullShare x9) ∗
        (∃ _ : Vec F S16x32 .f32, owns (c : Thread nD τ) arg10 fullShare x10) ∗
        (∃ _ : Vec F S16x32 .f32, owns (c : Thread nD τ) arg11 fullShare x11) ∗
        (∃ _ : Vec F S1x256 .f32, owns (c : Thread nD τ) arg12 fullShare x12) ∗
        (∃ _ : Vec F S1x256 .f32, owns (c : Thread nD τ) arg13 fullShare x13) ∗
        (∃ _ : Vec F S1x256 .f32, owns (c : Thread nD τ) arg14 fullShare x14) ∗
        (∃ _ : Vec F S16x32 .f32, owns (c : Thread nD τ) arg15 fullShare x15) ∗
        (∃ _ : Vec F S16x32 .f32, owns (c : Thread nD τ) arg16 fullShare x16) ∗
        (∃ _ : Vec F S16x32 .f32, owns (c : Thread nD τ) arg17 fullShare x17) ∗
        (∃ _ : Vec F S1x256 .f32, owns (c : Thread nD τ) arg18 fullShare x18) ∗
        (∃ _ : Vec F S1x256 .f32, owns (c : Thread nD τ) arg19 fullShare x19) ∗
        (∃ _ : Vec F S1x256 .f32, owns (c : Thread nD τ) arg20 fullShare x20) ∗
        (∃ _ : Vec F S1x512 .f32, owns (c : Thread nD τ) arg21 fullShare x21) ∗
        (∃ _ : Vec F S1x512 .f32, owns (c : Thread nD τ) arg22 fullShare x22) ∗
        (∃ _ : Vec F S1x512 .f32, owns (c : Thread nD τ) arg23 fullShare x23) ∗
        (∃ _ : Vec F S1x512 .f32, owns (c : Thread nD τ) arg24 fullShare x24) ∗
        (∃ _ : Vec F S1x512 .f32, owns (c : Thread nD τ) arg25 fullShare x25) ∗
        (∃ _ : Vec F S1x512 .f32, owns (c : Thread nD τ) arg26 fullShare x26) ∗
        (∃ _ : Vec F S1x512 .f32, owns (c : Thread nD τ) arg27 fullShare x27) ∗
        (∃ _ : Vec F S1x512 .f32, owns (c : Thread nD τ) arg28 fullShare x28) ∗
        (∃ _ : Vec F S1x512 .f32, owns (c : Thread nD τ) arg29 fullShare x29) ∗
        (∃ _ : Vec F S512x128 .f32, owns (c : Thread nD τ) arg30 fullShare x30) ∗
        (∃ _ : Vec F S512x128 .f32, owns (c : Thread nD τ) arg31 fullShare x31) ∗
        (∃ _ : Vec F S512x128 .f32, owns (c : Thread nD τ) arg32 fullShare x32) ∗
        (∃ _ : Vec F S4x128 .f32, owns (c : Thread nD τ) arg33 fullShare x33) ∗
        (∃ _ : Vec F S4x128 .f32, owns (c : Thread nD τ) arg34 fullShare x34) ∗
        (∃ _ : Vec F S4x128 .f32, owns (c : Thread nD τ) arg35 fullShare x35) ∗
        (∃ _ : Vec F S1x1024 .f32, owns (c : Thread nD τ) arg36 fullShare x36) ∗
        (∃ _ : Vec F S1x1024 .f32, owns (c : Thread nD τ) arg37 fullShare x37) ∗
        (∃ _ : Vec F S1x1024 .f32, owns (c : Thread nD τ) arg38 fullShare x38) ∗
        (∃ _ : Vec F S1x1024 .f32, owns (c : Thread nD τ) arg39 fullShare x39) ∗
        (∃ _ : Vec F S1x1024 .f32, owns (c : Thread nD τ) arg40 fullShare x40) ∗
        (∃ _ : Vec F S1x1024 .f32, owns (c : Thread nD τ) arg41 fullShare x41) ∗
        (∃ d, owns (c : Thread nD τ) arg42 fullShare d) ∗ (∃ d, owns (c : Thread nD τ) arg43 fullShare d) ∗
        (∃ d, owns (c : Thread nD τ) arg44 fullShare d) ∗ (∃ d, owns (c : Thread nD τ) arg45 fullShare d) ∗
        (∃ d, owns (c : Thread nD τ) arg46 fullShare d) ∗ (∃ d, owns (c : Thread nD τ) arg47 fullShare d) ∗
        (∃ d, owns (c : Thread nD τ) arg48 fullShare d) ∗ (∃ d, owns (c : Thread nD τ) arg49 fullShare d) ∗
        (∃ d, owns (c : Thread nD τ) arg50 fullShare d) ∗ (∃ d, owns (c : Thread nD τ) arg51 fullShare d) ∗
        (∃ d, owns (c : Thread nD τ) arg52 fullShare d) ∗ (∃ d, owns (c : Thread nD τ) arg53 fullShare d) ∗
        (∃ d, owns (c : Thread nD τ) arg54 fullShare d) ∗ (∃ d, owns (c : Thread nD τ) arg55 fullShare d) ∗
        (∃ d, owns (c : Thread nD τ) arg56 fullShare d) ∗ (∃ d, owns (c : Thread nD τ) arg57 fullShare d) ∗
        (∃ d, owns (c : Thread nD τ) arg58 fullShare d) ∗ (∃ d, owns (c : Thread nD τ) arg59 fullShare d) ∗
        (∃ d, owns (c : Thread nD τ) arg60 fullShare d) ∗ (∃ d, owns (c : Thread nD τ) arg61 fullShare d) ∗
        (∃ d, owns (c : Thread nD τ) arg62 fullShare d) ∗ (∃ d, owns (c : Thread nD τ) arg63 fullShare d) ∗
        (∃ d, owns (c : Thread nD τ) arg64 fullShare d) ∗ (∃ d, owns (c : Thread nD τ) arg65 fullShare d) ∗
        (∃ d, owns (c : Thread nD τ) arg66 fullShare d) ∗ (∃ d, owns (c : Thread nD τ) arg67 fullShare d) ∗
        (∃ d, owns (c : Thread nD τ) arg68 fullShare d) ∗ (∃ d, owns (c : Thread nD τ) arg69 fullShare d) ∗
        (∃ d, owns (c : Thread nD τ) arg70 fullShare d) ∗ (∃ d, owns (c : Thread nD τ) arg71 fullShare d) ∗
        (∃ d, owns (c : Thread nD τ) arg72 fullShare d) ∗ (∃ d, owns (c : Thread nD τ) arg73 fullShare d) ∗
        (∃ d, owns (c : Thread nD τ) arg74 fullShare d) ∗ (∃ d, owns (c : Thread nD τ) arg75 fullShare d) ∗
        (∃ d, owns (c : Thread nD τ) arg76 fullShare d) ∗ (∃ d, owns (c : Thread nD τ) arg77 fullShare d) ∗
        (∃ d, owns (c : Thread nD τ) arg78 fullShare d) ∗ (∃ d, owns (c : Thread nD τ) arg79 fullShare d) ∗
        (∃ d, owns (c : Thread nD τ) arg80 fullShare d) ∗ (∃ d, owns (c : Thread nD τ) arg81 fullShare d) ∗
        (∃ d, owns (c : Thread nD τ) arg82 fullShare d) ∗ (∃ d, owns (c : Thread nD τ) arg83 fullShare d) ∗
        (∃ d, owns (c : Thread nD τ) arg84 fullShare d) ∗ (∃ d, owns (c : Thread nD τ) arg85 fullShare d) ∗
        (∃ d, owns (c : Thread nD τ) arg86 fullShare d) ∗ (∃ d, owns (c : Thread nD τ) arg87 fullShare d) ∗
        (∃ d, owns (c : Thread nD τ) arg88 fullShare d) ∗ (∃ d, owns (c : Thread nD τ) arg89 fullShare d))
      ∗ ((owns (c : Thread nD τ) arg0 fullShare x0 ∗ owns (c : Thread nD τ) arg1 fullShare x1 ∗
        owns (c : Thread nD τ) arg2 fullShare x2 ∗ owns (c : Thread nD τ) arg3 fullShare x3 ∗
        owns (c : Thread nD τ) arg4 fullShare x4 ∗ owns (c : Thread nD τ) arg5 fullShare x5 ∗
        owns (c : Thread nD τ) arg6 fullShare x6 ∗ owns (c : Thread nD τ) arg7 fullShare x7 ∗
        owns (c : Thread nD τ) arg8 fullShare x8 ∗ owns (c : Thread nD τ) arg9 fullShare x9 ∗
        owns (c : Thread nD τ) arg10 fullShare x10 ∗ owns (c : Thread nD τ) arg11 fullShare x11 ∗
        owns (c : Thread nD τ) arg12 fullShare x12 ∗ owns (c : Thread nD τ) arg13 fullShare x13 ∗
        owns (c : Thread nD τ) arg14 fullShare x14 ∗ owns (c : Thread nD τ) arg15 fullShare x15 ∗
        owns (c : Thread nD τ) arg16 fullShare x16 ∗ owns (c : Thread nD τ) arg17 fullShare x17 ∗
        owns (c : Thread nD τ) arg18 fullShare x18 ∗ owns (c : Thread nD τ) arg19 fullShare x19 ∗
        owns (c : Thread nD τ) arg20 fullShare x20 ∗ owns (c : Thread nD τ) arg21 fullShare x21 ∗
        owns (c : Thread nD τ) arg22 fullShare x22 ∗ owns (c : Thread nD τ) arg23 fullShare x23 ∗
        owns (c : Thread nD τ) arg24 fullShare x24 ∗ owns (c : Thread nD τ) arg25 fullShare x25 ∗
        owns (c : Thread nD τ) arg26 fullShare x26 ∗ owns (c : Thread nD τ) arg27 fullShare x27 ∗
        owns (c : Thread nD τ) arg28 fullShare x28 ∗ owns (c : Thread nD τ) arg29 fullShare x29 ∗
        owns (c : Thread nD τ) arg30 fullShare x30 ∗ owns (c : Thread nD τ) arg31 fullShare x31 ∗
        owns (c : Thread nD τ) arg32 fullShare x32 ∗ owns (c : Thread nD τ) arg33 fullShare x33 ∗
        owns (c : Thread nD τ) arg34 fullShare x34 ∗ owns (c : Thread nD τ) arg35 fullShare x35 ∗
        owns (c : Thread nD τ) arg36 fullShare x36 ∗ owns (c : Thread nD τ) arg37 fullShare x37 ∗
        owns (c : Thread nD τ) arg38 fullShare x38 ∗ owns (c : Thread nD τ) arg39 fullShare x39 ∗
        owns (c : Thread nD τ) arg40 fullShare x40 ∗ owns (c : Thread nD τ) arg41 fullShare x41 ∗
        owns (c : Thread nD τ) arg42 fullShare (put r0_1 (View.ld x0 r0_0)) ∗
        owns (c : Thread nD τ) arg43 fullShare (put r0_1 (k0_pay3 (View.ld x0 r0_0) (View.ld x6 r0_1) (View.ld x7 r0_1) (View.ld x8 r0_1))) ∗
        owns (c : Thread nD τ) arg44 fullShare (put r0_1 (k0_pay1 (View.ld x0 r0_0) (View.ld x7 r0_1))) ∗
        owns (c : Thread nD τ) arg45 fullShare (put r0_1 (k0_pay2 (View.ld x0 r0_0) (View.ld x8 r0_1))) ∗
        owns (c : Thread nD τ) arg46 fullShare (put r0_2 (View.ld x1 r0_2)) ∗
        owns (c : Thread nD τ) arg47 fullShare (put r0_2 (k0_pay6 (View.ld x1 r0_2) (View.ld x9 r0_2) (View.ld x10 r0_2) (View.ld x11 r0_2))) ∗
        owns (c : Thread nD τ) arg48 fullShare (put r0_2 (k0_pay4 (View.ld x1 r0_2) (View.ld x10 r0_2))) ∗
        owns (c : Thread nD τ) arg49 fullShare (put r0_2 (k0_pay5 (View.ld x1 r0_2) (View.ld x11 r0_2))) ∗
        owns (c : Thread nD τ) arg50 fullShare (put r0_4 (View.ld x2 r0_3)) ∗
        owns (c : Thread nD τ) arg51 fullShare (put r0_4 (k0_pay9 (View.ld x2 r0_3) (View.ld x12 r0_4) (View.ld x13 r0_4) (View.ld x14 r0_4))) ∗
        owns (c : Thread nD τ) arg52 fullShare (put r0_4 (k0_pay7 (View.ld x2 r0_3) (View.ld x13 r0_4))) ∗
        owns (c : Thread nD τ) arg53 fullShare (put r0_4 (k0_pay8 (View.ld x2 r0_3) (View.ld x14 r0_4))) ∗
        owns (c : Thread nD τ) arg54 fullShare (put r0_2 (View.ld x3 r0_2)) ∗
        owns (c : Thread nD τ) arg55 fullShare (put r0_2 (k0_pay12 (View.ld x3 r0_2) (View.ld x15 r0_2) (View.ld x16 r0_2) (View.ld x17 r0_2))) ∗
        owns (c : Thread nD τ) arg56 fullShare (put r0_2 (k0_pay10 (View.ld x3 r0_2) (View.ld x16 r0_2))) ∗
        owns (c : Thread nD τ) arg57 fullShare (put r0_2 (k0_pay11 (View.ld x3 r0_2) (View.ld x17 r0_2))) ∗
        owns (c : Thread nD τ) arg58 fullShare (put r0_4 (View.ld x2 r0_5)) ∗
        owns (c : Thread nD τ) arg59 fullShare (put r0_4 (k0_pay15 (View.ld x2 r0_5) (View.ld x18 r0_4) (View.ld x19 r0_4) (View.ld x20 r0_4))) ∗
        owns (c : Thread nD τ) arg60 fullShare (put r0_4 (k0_pay13 (View.ld x2 r0_5) (View.ld x19 r0_4))) ∗
        owns (c : Thread nD τ) arg61 fullShare (put r0_4 (k0_pay14 (View.ld x2 r0_5) (View.ld x20 r0_4))) ∗
        owns (c : Thread nD τ) arg62 fullShare (put r0_7 (View.ld x4 r0_6)) ∗
        owns (c : Thread nD τ) arg63 fullShare (put r0_7 (k0_pay18 (View.ld x4 r0_6) (View.ld x21 r0_7) (View.ld x22 r0_7) (View.ld x23 r0_7))) ∗
        owns (c : Thread nD τ) arg64 fullShare (put r0_7 (k0_pay16 (View.ld x4 r0_6) (View.ld x22 r0_7))) ∗
        owns (c : Thread nD τ) arg65 fullShare (put r0_7 (k0_pay17 (View.ld x4 r0_6) (View.ld x23 r0_7))) ∗
        owns (c : Thread nD τ) arg66 fullShare (put r0_7 (View.ld x4 r0_8)) ∗
        owns (c : Thread nD τ) arg67 fullShare (put r0_7 (k0_pay21 (View.ld x4 r0_8) (View.ld x24 r0_7) (View.ld x25 r0_7) (View.ld x26 r0_7))) ∗
        owns (c : Thread nD τ) arg68 fullShare (put r0_7 (k0_pay19 (View.ld x4 r0_8) (View.ld x25 r0_7))) ∗
        owns (c : Thread nD τ) arg69 fullShare (put r0_7 (k0_pay20 (View.ld x4 r0_8) (View.ld x26 r0_7))) ∗
        owns (c : Thread nD τ) arg70 fullShare (put r0_7 (View.ld x4 r0_9)) ∗
        owns (c : Thread nD τ) arg71 fullShare (put r0_7 (k0_pay24 (View.ld x4 r0_9) (View.ld x27 r0_7) (View.ld x28 r0_7) (View.ld x29 r0_7))) ∗
        owns (c : Thread nD τ) arg72 fullShare (put r0_7 (k0_pay22 (View.ld x4 r0_9) (View.ld x28 r0_7))) ∗
        owns (c : Thread nD τ) arg73 fullShare (put r0_7 (k0_pay23 (View.ld x4 r0_9) (View.ld x29 r0_7))) ∗
        owns (c : Thread nD τ) arg74 fullShare (put r0_11 (View.ld x5 r0_10)) ∗
        owns (c : Thread nD τ) arg75 fullShare (put r0_11 (k0_pay27 (View.ld x5 r0_10) (View.ld x30 r0_11) (View.ld x31 r0_11) (View.ld x32 r0_11))) ∗
        owns (c : Thread nD τ) arg76 fullShare (put r0_11 (k0_pay25 (View.ld x5 r0_10) (View.ld x31 r0_11))) ∗
        owns (c : Thread nD τ) arg77 fullShare (put r0_11 (k0_pay26 (View.ld x5 r0_10) (View.ld x32 r0_11))) ∗
        owns (c : Thread nD τ) arg78 fullShare (put r0_13 (View.ld x5 r0_12)) ∗
        owns (c : Thread nD τ) arg79 fullShare (put r0_13 (k0_pay30 (View.ld x5 r0_12) (View.ld x33 r0_13) (View.ld x34 r0_13) (View.ld x35 r0_13))) ∗
        owns (c : Thread nD τ) arg80 fullShare (put r0_13 (k0_pay28 (View.ld x5 r0_12) (View.ld x34 r0_13))) ∗
        owns (c : Thread nD τ) arg81 fullShare (put r0_13 (k0_pay29 (View.ld x5 r0_12) (View.ld x35 r0_13))) ∗
        owns (c : Thread nD τ) arg82 fullShare (put r0_1 (View.ld x0 r0_14)) ∗
        owns (c : Thread nD τ) arg83 fullShare (put r0_1 (k0_pay33 (View.ld x0 r0_14) (View.ld x36 r0_1) (View.ld x37 r0_1) (View.ld x38 r0_1))) ∗
        owns (c : Thread nD τ) arg84 fullShare (put r0_1 (k0_pay31 (View.ld x0 r0_14) (View.ld x37 r0_1))) ∗
        owns (c : Thread nD τ) arg85 fullShare (put r0_1 (k0_pay32 (View.ld x0 r0_14) (View.ld x38 r0_1))) ∗
        owns (c : Thread nD τ) arg86 fullShare (put r0_1 (View.ld x0 r0_15)) ∗
        owns (c : Thread nD τ) arg87 fullShare (put r0_1 (k0_pay36 (View.ld x0 r0_15) (View.ld x39 r0_1) (View.ld x40 r0_1) (View.ld x41 r0_1))) ∗
        owns (c : Thread nD τ) arg88 fullShare (put r0_1 (k0_pay34 (View.ld x0 r0_15) (View.ld x40 r0_1))) ∗
        owns (c : Thread nD τ) arg89 fullShare (put r0_1 (k0_pay35 (View.ld x0 r0_15) (View.ld x41 r0_1)))) -∗ K))
      ⊢ wp frame (wpE (defs₀ (F := F)) Variants.none c none) E
        (cc0_adamw_small arg0 harg0 arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17 arg18 harg18
          arg19 harg19 arg20 harg20 arg21 harg21 arg22 harg22 arg23 harg23 arg24 harg24 arg25 harg25 arg26 harg26 arg27 harg27
          arg28 harg28 arg29 harg29 arg30 harg30 arg31 harg31 arg32 harg32 arg33 harg33 arg34 harg34 arg35 harg35 arg36 harg36
          arg37 harg37 arg38 harg38 arg39 harg39 arg40 harg40 arg41 harg41 arg42 harg42 arg43 harg43 arg44 harg44 arg45 harg45
          arg46 harg46 arg47 harg47 arg48 harg48 arg49 harg49 arg50 harg50 arg51 harg51 arg52 harg52 arg53 harg53 arg54 harg54
          arg55 harg55 arg56 harg56 arg57 harg57 arg58 harg58 arg59 harg59 arg60 harg60 arg61 harg61 arg62 harg62 arg63 harg63
          arg64 harg64 arg65 harg65 arg66 harg66 arg67 harg67 arg68 harg68 arg69 harg69 arg70 harg70 arg71 harg71 arg72 harg72
          arg73 harg73 arg74 harg74 arg75 harg75 arg76 harg76 arg77 harg77 arg78 harg78 arg79 harg79 arg80 harg80 arg81 harg81
          arg82 harg82 arg83 harg83 arg84 harg84 arg85 harg85 arg86 harg86 arg87 harg87 arg88 harg88 arg89 harg89)
        (fun _ => K) := by
  simp only [cc0_adamw_small_eq_skeleton]; unfold cc0_adamw_small_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton]
  unfold owns
  iintro ⟨⟨⟨%d0, %f0, %hf0, H0⟩, ⟨%d1, %f1, %hf1, H1⟩, ⟨%d2, %f2, %hf2, H2⟩, ⟨%d3, %f3, %hf3, H3⟩, ⟨%d4, %f4, %hf4, H4⟩,
    ⟨%d5, %f5, %hf5, H5⟩, ⟨%d6, %f6, %hf6, H6⟩, ⟨%d7, %f7, %hf7, H7⟩, ⟨%d8, %f8, %hf8, H8⟩, ⟨%d9, %f9, %hf9, H9⟩,
    ⟨%d10, %f10, %hf10, H10⟩, ⟨%d11, %f11, %hf11, H11⟩, ⟨%d12, %f12, %hf12, H12⟩, ⟨%d13, %f13, %hf13, H13⟩,
    ⟨%d14, %f14, %hf14, H14⟩, ⟨%d15, %f15, %hf15, H15⟩, ⟨%d16, %f16, %hf16, H16⟩, ⟨%d17, %f17, %hf17, H17⟩,
    ⟨%d18, %f18, %hf18, H18⟩, ⟨%d19, %f19, %hf19, H19⟩, ⟨%d20, %f20, %hf20, H20⟩, ⟨%d21, %f21, %hf21, H21⟩,
    ⟨%d22, %f22, %hf22, H22⟩, ⟨%d23, %f23, %hf23, H23⟩, ⟨%d24, %f24, %hf24, H24⟩, ⟨%d25, %f25, %hf25, H25⟩,
    ⟨%d26, %f26, %hf26, H26⟩, ⟨%d27, %f27, %hf27, H27⟩, ⟨%d28, %f28, %hf28, H28⟩, ⟨%d29, %f29, %hf29, H29⟩,
    ⟨%d30, %f30, %hf30, H30⟩, ⟨%d31, %f31, %hf31, H31⟩, ⟨%d32, %f32, %hf32, H32⟩, ⟨%d33, %f33, %hf33, H33⟩,
    ⟨%d34, %f34, %hf34, H34⟩, ⟨%d35, %f35, %hf35, H35⟩, ⟨%d36, %f36, %hf36, H36⟩, ⟨%d37, %f37, %hf37, H37⟩,
    ⟨%d38, %f38, %hf38, H38⟩, ⟨%d39, %f39, %hf39, H39⟩, ⟨%d40, %f40, %hf40, H40⟩, ⟨%d41, %f41, %hf41, H41⟩,
    ⟨%d42, %f42, -, H42⟩, ⟨%d43, %f43, -, H43⟩, ⟨%d44, %f44, -, H44⟩, ⟨%d45, %f45, -, H45⟩, ⟨%d46, %f46, -, H46⟩,
    ⟨%d47, %f47, -, H47⟩, ⟨%d48, %f48, -, H48⟩, ⟨%d49, %f49, -, H49⟩, ⟨%d50, %f50, -, H50⟩, ⟨%d51, %f51, -, H51⟩,
    ⟨%d52, %f52, -, H52⟩, ⟨%d53, %f53, -, H53⟩, ⟨%d54, %f54, -, H54⟩, ⟨%d55, %f55, -, H55⟩, ⟨%d56, %f56, -, H56⟩,
    ⟨%d57, %f57, -, H57⟩, ⟨%d58, %f58, -, H58⟩, ⟨%d59, %f59, -, H59⟩, ⟨%d60, %f60, -, H60⟩, ⟨%d61, %f61, -, H61⟩,
    ⟨%d62, %f62, -, H62⟩, ⟨%d63, %f63, -, H63⟩, ⟨%d64, %f64, -, H64⟩, ⟨%d65, %f65, -, H65⟩, ⟨%d66, %f66, -, H66⟩,
    ⟨%d67, %f67, -, H67⟩, ⟨%d68, %f68, -, H68⟩, ⟨%d69, %f69, -, H69⟩, ⟨%d70, %f70, -, H70⟩, ⟨%d71, %f71, -, H71⟩,
    ⟨%d72, %f72, -, H72⟩, ⟨%d73, %f73, -, H73⟩, ⟨%d74, %f74, -, H74⟩, ⟨%d75, %f75, -, H75⟩, ⟨%d76, %f76, -, H76⟩,
    ⟨%d77, %f77, -, H77⟩, ⟨%d78, %f78, -, H78⟩, ⟨%d79, %f79, -, H79⟩, ⟨%d80, %f80, -, H80⟩, ⟨%d81, %f81, -, H81⟩,
    ⟨%d82, %f82, -, H82⟩, ⟨%d83, %f83, -, H83⟩, ⟨%d84, %f84, -, H84⟩, ⟨%d85, %f85, -, H85⟩, ⟨%d86, %f86, -, H86⟩,
    ⟨%d87, %f87, -, H87⟩, ⟨%d88, %f88, -, H88⟩, ⟨%d89, %f89, -, H89⟩⟩, Hk⟩
  subst hf0 hf1 hf2 hf3 hf4 hf5 hf6 hf7 hf8 hf9 hf10 hf11 hf12 hf13 hf14 hf15 hf16 hf17 hf18 hf19 hf20 hf21 hf22 hf23 hf24 hf25
    hf26 hf27 hf28 hf29 hf30 hf31 hf32 hf33 hf34 hf35 hf36 hf37 hf38 hf39 hf40 hf41
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists f40; isplitr; · ipureintro; rfl
    iexact H40
  isplitl [H41]
  · iexists f41; isplitr; · ipureintro; rfl
    iexact H41
  isplitl [H42]
  · iexists _; isplitr
    swap; · iexact H42
    ipureintro; exact read_put _ _ _ _ full1
  isplitl [H43]
  · iexists _; isplitr
    swap; · iexact H43
    ipureintro; exact read_put _ _ _ _ full1
  isplitl [H44]
  · iexists _; isplitr
    swap; · iexact H44
    ipureintro; exact read_put _ _ _ _ full1
  isplitl [H45]
  · iexists _; isplitr
    swap; · iexact H45
    ipureintro; exact read_put _ _ _ _ full1
  isplitl [H46]
  · iexists _; isplitr
    swap; · iexact H46
    ipureintro; exact read_put _ _ _ _ full2
  isplitl [H47]
  · iexists _; isplitr
    swap; · iexact H47
    ipureintro; exact read_put _ _ _ _ full2
  isplitl [H48]
  · iexists _; isplitr
    swap; · iexact H48
    ipureintro; exact read_put _ _ _ _ full2
  isplitl [H49]
  · iexists _; isplitr
    swap; · iexact H49
    ipureintro; exact read_put _ _ _ _ full2
  isplitl [H50]
  · iexists _; isplitr
    swap; · iexact H50
    ipureintro; exact read_put _ _ _ _ full4
  isplitl [H51]
  · iexists _; isplitr
    swap; · iexact H51
    ipureintro; exact read_put _ _ _ _ full4
  isplitl [H52]
  · iexists _; isplitr
    swap; · iexact H52
    ipureintro; exact read_put _ _ _ _ full4
  isplitl [H53]
  · iexists _; isplitr
    swap; · iexact H53
    ipureintro; exact read_put _ _ _ _ full4
  isplitl [H54]
  · iexists _; isplitr
    swap; · iexact H54
    ipureintro; exact read_put _ _ _ _ full2
  isplitl [H55]
  · iexists _; isplitr
    swap; · iexact H55
    ipureintro; exact read_put _ _ _ _ full2
  isplitl [H56]
  · iexists _; isplitr
    swap; · iexact H56
    ipureintro; exact read_put _ _ _ _ full2
  isplitl [H57]
  · iexists _; isplitr
    swap; · iexact H57
    ipureintro; exact read_put _ _ _ _ full2
  isplitl [H58]
  · iexists _; isplitr
    swap; · iexact H58
    ipureintro; exact read_put _ _ _ _ full4
  isplitl [H59]
  · iexists _; isplitr
    swap; · iexact H59
    ipureintro; exact read_put _ _ _ _ full4
  isplitl [H60]
  · iexists _; isplitr
    swap; · iexact H60
    ipureintro; exact read_put _ _ _ _ full4
  isplitl [H61]
  · iexists _; isplitr
    swap; · iexact H61
    ipureintro; exact read_put _ _ _ _ full4
  isplitl [H62]
  · iexists _; isplitr
    swap; · iexact H62
    ipureintro; exact read_put _ _ _ _ full7
  isplitl [H63]
  · iexists _; isplitr
    swap; · iexact H63
    ipureintro; exact read_put _ _ _ _ full7
  isplitl [H64]
  · iexists _; isplitr
    swap; · iexact H64
    ipureintro; exact read_put _ _ _ _ full7
  isplitl [H65]
  · iexists _; isplitr
    swap; · iexact H65
    ipureintro; exact read_put _ _ _ _ full7
  isplitl [H66]
  · iexists _; isplitr
    swap; · iexact H66
    ipureintro; exact read_put _ _ _ _ full7
  isplitl [H67]
  · iexists _; isplitr
    swap; · iexact H67
    ipureintro; exact read_put _ _ _ _ full7
  isplitl [H68]
  · iexists _; isplitr
    swap; · iexact H68
    ipureintro; exact read_put _ _ _ _ full7
  isplitl [H69]
  · iexists _; isplitr
    swap; · iexact H69
    ipureintro; exact read_put _ _ _ _ full7
  isplitl [H70]
  · iexists _; isplitr
    swap; · iexact H70
    ipureintro; exact read_put _ _ _ _ full7
  isplitl [H71]
  · iexists _; isplitr
    swap; · iexact H71
    ipureintro; exact read_put _ _ _ _ full7
  isplitl [H72]
  · iexists _; isplitr
    swap; · iexact H72
    ipureintro; exact read_put _ _ _ _ full7
  isplitl [H73]
  · iexists _; isplitr
    swap; · iexact H73
    ipureintro; exact read_put _ _ _ _ full7
  isplitl [H74]
  · iexists _; isplitr
    swap; · iexact H74
    ipureintro; exact read_put _ _ _ _ full11
  isplitl [H75]
  · iexists _; isplitr
    swap; · iexact H75
    ipureintro; exact read_put _ _ _ _ full11
  isplitl [H76]
  · iexists _; isplitr
    swap; · iexact H76
    ipureintro; exact read_put _ _ _ _ full11
  isplitl [H77]
  · iexists _; isplitr
    swap; · iexact H77
    ipureintro; exact read_put _ _ _ _ full11
  isplitl [H78]
  · iexists _; isplitr
    swap; · iexact H78
    ipureintro; exact read_put _ _ _ _ full13
  isplitl [H79]
  · iexists _; isplitr
    swap; · iexact H79
    ipureintro; exact read_put _ _ _ _ full13
  isplitl [H80]
  · iexists _; isplitr
    swap; · iexact H80
    ipureintro; exact read_put _ _ _ _ full13
  isplitl [H81]
  · iexists _; isplitr
    swap; · iexact H81
    ipureintro; exact read_put _ _ _ _ full13
  isplitl [H82]
  · iexists _; isplitr
    swap; · iexact H82
    ipureintro; exact read_put _ _ _ _ full1
  isplitl [H83]
  · iexists _; isplitr
    swap; · iexact H83
    ipureintro; exact read_put _ _ _ _ full1
  isplitl [H84]
  · iexists _; isplitr
    swap; · iexact H84
    ipureintro; exact read_put _ _ _ _ full1
  isplitl [H85]
  · iexists _; isplitr
    swap; · iexact H85
    ipureintro; exact read_put _ _ _ _ full1
  isplitl [H86]
  · iexists _; isplitr
    swap; · iexact H86
    ipureintro; exact read_put _ _ _ _ full1
  isplitl [H87]
  · iexists _; isplitr
    swap; · iexact H87
    ipureintro; exact read_put _ _ _ _ full1
  isplitl [H88]
  · iexists _; isplitr
    swap; · iexact H88
    ipureintro; exact read_put _ _ _ _ full1
  iexists _; isplitr
  swap; · iexact H89
  ipureintro; exact read_put _ _ _ _ full1

end Small
-- ==== Proof.SmallRun.lean ====
/-
  The run of the AdamW step on the twelve small parameters, over any values: every execution ends with each array holding what
  the body leaves in its buffer, the arguments as they were, and every counter at zero.
-/
module

public import proofs.«01_k».proof.Proof.SmallBody
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Small

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A device's arrays as the call finds them: as launched. -/
abbrev V (c : Dev nD) (b : Ref sig .tc) : Buf (Elt F) ((c : Thread nD τ).loc b) := m ((c : Thread nD τ).loc b)

set_option maxHeartbeats 800000 in
/-- The program is the one call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block of its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the call works with: the arrays as found, and after the body each input's buffer at its block and each output's at the
    one block stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => iblk m c 41 t
    | ⟨42, _⟩ => put r0_1 (View.ld (iblk m c 0 t) r0_0)
    | ⟨43, _⟩ => put r0_1 (k0_pay3 (View.ld (iblk m c 0 t) r0_0) (View.ld (iblk m c 6 t) r0_1) (View.ld (iblk m c 7 t) r0_1) (View.ld (iblk m c 8 t) r0_1))
    | ⟨44, _⟩ => put r0_1 (k0_pay1 (View.ld (iblk m c 0 t) r0_0) (View.ld (iblk m c 7 t) r0_1))
    | ⟨45, _⟩ => put r0_1 (k0_pay2 (View.ld (iblk m c 0 t) r0_0) (View.ld (iblk m c 8 t) r0_1))
    | ⟨46, _⟩ => put r0_2 (View.ld (iblk m c 1 t) r0_2)
    | ⟨47, _⟩ => put r0_2 (k0_pay6 (View.ld (iblk m c 1 t) r0_2) (View.ld (iblk m c 9 t) r0_2) (View.ld (iblk m c 10 t) r0_2) (View.ld (iblk m c 11 t) r0_2))
    | ⟨48, _⟩ => put r0_2 (k0_pay4 (View.ld (iblk m c 1 t) r0_2) (View.ld (iblk m c 10 t) r0_2))
    | ⟨49, _⟩ => put r0_2 (k0_pay5 (View.ld (iblk m c 1 t) r0_2) (View.ld (iblk m c 11 t) r0_2))
    | ⟨50, _⟩ => put r0_4 (View.ld (iblk m c 2 t) r0_3)
    | ⟨51, _⟩ => put r0_4 (k0_pay9 (View.ld (iblk m c 2 t) r0_3) (View.ld (iblk m c 12 t) r0_4) (View.ld (iblk m c 13 t) r0_4) (View.ld (iblk m c 14 t) r0_4))
    | ⟨52, _⟩ => put r0_4 (k0_pay7 (View.ld (iblk m c 2 t) r0_3) (View.ld (iblk m c 13 t) r0_4))
    | ⟨53, _⟩ => put r0_4 (k0_pay8 (View.ld (iblk m c 2 t) r0_3) (View.ld (iblk m c 14 t) r0_4))
    | ⟨54, _⟩ => put r0_2 (View.ld (iblk m c 3 t) r0_2)
    | ⟨55, _⟩ => put r0_2 (k0_pay12 (View.ld (iblk m c 3 t) r0_2) (View.ld (iblk m c 15 t) r0_2) (View.ld (iblk m c 16 t) r0_2) (View.ld (iblk m c 17 t) r0_2))
    | ⟨56, _⟩ => put r0_2 (k0_pay10 (View.ld (iblk m c 3 t) r0_2) (View.ld (iblk m c 16 t) r0_2))
    | ⟨57, _⟩ => put r0_2 (k0_pay11 (View.ld (iblk m c 3 t) r0_2) (View.ld (iblk m c 17 t) r0_2))
    | ⟨58, _⟩ => put r0_4 (View.ld (iblk m c 2 t) r0_5)
    | ⟨59, _⟩ => put r0_4 (k0_pay15 (View.ld (iblk m c 2 t) r0_5) (View.ld (iblk m c 18 t) r0_4) (View.ld (iblk m c 19 t) r0_4) (View.ld (iblk m c 20 t) r0_4))
    | ⟨60, _⟩ => put r0_4 (k0_pay13 (View.ld (iblk m c 2 t) r0_5) (View.ld (iblk m c 19 t) r0_4))
    | ⟨61, _⟩ => put r0_4 (k0_pay14 (View.ld (iblk m c 2 t) r0_5) (View.ld (iblk m c 20 t) r0_4))
    | ⟨62, _⟩ => put r0_7 (View.ld (iblk m c 4 t) r0_6)
    | ⟨63, _⟩ => put r0_7 (k0_pay18 (View.ld (iblk m c 4 t) r0_6) (View.ld (iblk m c 21 t) r0_7) (View.ld (iblk m c 22 t) r0_7) (View.ld (iblk m c 23 t) r0_7))
    | ⟨64, _⟩ => put r0_7 (k0_pay16 (View.ld (iblk m c 4 t) r0_6) (View.ld (iblk m c 22 t) r0_7))
    | ⟨65, _⟩ => put r0_7 (k0_pay17 (View.ld (iblk m c 4 t) r0_6) (View.ld (iblk m c 23 t) r0_7))
    | ⟨66, _⟩ => put r0_7 (View.ld (iblk m c 4 t) r0_8)
    | ⟨67, _⟩ => put r0_7 (k0_pay21 (View.ld (iblk m c 4 t) r0_8) (View.ld (iblk m c 24 t) r0_7) (View.ld (iblk m c 25 t) r0_7) (View.ld (iblk m c 26 t) r0_7))
    | ⟨68, _⟩ => put r0_7 (k0_pay19 (View.ld (iblk m c 4 t) r0_8) (View.ld (iblk m c 25 t) r0_7))
    | ⟨69, _⟩ => put r0_7 (k0_pay20 (View.ld (iblk m c 4 t) r0_8) (View.ld (iblk m c 26 t) r0_7))
    | ⟨70, _⟩ => put r0_7 (View.ld (iblk m c 4 t) r0_9)
    | ⟨71, _⟩ => put r0_7 (k0_pay24 (View.ld (iblk m c 4 t) r0_9) (View.ld (iblk m c 27 t) r0_7) (View.ld (iblk m c 28 t) r0_7) (View.ld (iblk m c 29 t) r0_7))
    | ⟨72, _⟩ => put r0_7 (k0_pay22 (View.ld (iblk m c 4 t) r0_9) (View.ld (iblk m c 28 t) r0_7))
    | ⟨73, _⟩ => put r0_7 (k0_pay23 (View.ld (iblk m c 4 t) r0_9) (View.ld (iblk m c 29 t) r0_7))
    | ⟨74, _⟩ => put r0_11 (View.ld (iblk m c 5 t) r0_10)
    | ⟨75, _⟩ => put r0_11 (k0_pay27 (View.ld (iblk m c 5 t) r0_10) (View.ld (iblk m c 30 t) r0_11) (View.ld (iblk m c 31 t) r0_11) (View.ld (iblk m c 32 t) r0_11))
    | ⟨76, _⟩ => put r0_11 (k0_pay25 (View.ld (iblk m c 5 t) r0_10) (View.ld (iblk m c 31 t) r0_11))
    | ⟨77, _⟩ => put r0_11 (k0_pay26 (View.ld (iblk m c 5 t) r0_10) (View.ld (iblk m c 32 t) r0_11))
    | ⟨78, _⟩ => put r0_13 (View.ld (iblk m c 5 t) r0_12)
    | ⟨79, _⟩ => put r0_13 (k0_pay30 (View.ld (iblk m c 5 t) r0_12) (View.ld (iblk m c 33 t) r0_13) (View.ld (iblk m c 34 t) r0_13) (View.ld (iblk m c 35 t) r0_13))
    | ⟨80, _⟩ => put r0_13 (k0_pay28 (View.ld (iblk m c 5 t) r0_12) (View.ld (iblk m c 34 t) r0_13))
    | ⟨81, _⟩ => put r0_13 (k0_pay29 (View.ld (iblk m c 5 t) r0_12) (View.ld (iblk m c 35 t) r0_13))
    | ⟨82, _⟩ => put r0_1 (View.ld (iblk m c 0 t) r0_14)
    | ⟨83, _⟩ => put r0_1 (k0_pay33 (View.ld (iblk m c 0 t) r0_14) (View.ld (iblk m c 36 t) r0_1) (View.ld (iblk m c 37 t) r0_1) (View.ld (iblk m c 38 t) r0_1))
    | ⟨84, _⟩ => put r0_1 (k0_pay31 (View.ld (iblk m c 0 t) r0_14) (View.ld (iblk m c 37 t) r0_1))
    | ⟨85, _⟩ => put r0_1 (k0_pay32 (View.ld (iblk m c 0 t) r0_14) (View.ld (iblk m c 38 t) r0_1))
    | ⟨86, _⟩ => put r0_1 (View.ld (iblk m c 0 t) r0_15)
    | ⟨87, _⟩ => put r0_1 (k0_pay36 (View.ld (iblk m c 0 t) r0_15) (View.ld (iblk m c 39 t) r0_1) (View.ld (iblk m c 40 t) r0_1) (View.ld (iblk m c 41 t) r0_1))
    | ⟨88, _⟩ => put r0_1 (k0_pay34 (View.ld (iblk m c 0 t) r0_15) (View.ld (iblk m c 40 t) r0_1))
    | ⟨89, _⟩ => put r0_1 (k0_pay35 (View.ld (iblk m c 0 t) r0_15) (View.ld (iblk m c 41 t) r0_1))
    | ⟨_ + 90, h⟩ => absurd h (Nat.not_lt.2 (Nat.le_add_left _ _))
  Φ _ := Pipeline.ΦA spec0 c
  q _ := fullShare
  owed _ := 0

/-! ## The body at its one point -/

/-- Each input is fetched at every point. -/
theorem fetch_in : ∀ w : Fin cfg0.W, (cfg0.win w).isOut = false → ∀ t : Fin cfg0.N, (cfg0.win w).fetch t = true := by
  decide +kernel

/-- What the body finds: an input's buffer holds its fetched block, an output's holds anything. -/
theorem found {c : Dev nD} (dat : Dat τ (Elt F) Unit ℕ (UR sig nD τ) ℕ cfg0 c) (w : Fin cfg0.W) (t : Fin cfg0.N) :
    (iprop(∃ d, owns (c : Thread nD τ) ((cfg0.win w).stage (cfg0.slots t w)) fullShare (dat.before w t d)) : sProp 𝕄)
      ⊢ iprop(∃ d, owns (c : Thread nD τ) ((cfg0.win w).stage (cfg0.slots t w)) fullShare
          (bif (cfg0.win w).isOut then d else dat.fetched w t d)) :=
  exists_elim fun d => by
    cases h : (cfg0.win w).isOut
    · rw [dat.before_fetched w t (fetch_in w h t) d]; exact exists_intro_trans d .rfl
    · exact exists_intro_trans (dat.before w t d) .rfl

/-- What a body does not touch goes round it. -/
theorem around {A B L L' P Q : sProp 𝕄} (hp : L ⊢ P) (hq : Q ⊢ L') :
    iprop(A ∗ B ∗ L) ⊢ iprop(P ∗ (Q -∗ (A ∗ B ∗ L'))) := by
  iintro ⟨HA, HB, HL⟩
  isplitl [HL]
  · iapply hp; iexact HL
  · iintro HQ
    isplitl [HA]; · iexact HA
    isplitl [HB]; · iexact HB
    iapply hq; iexact HQ

set_option maxHeartbeats 4000000 in
theorem before_body (c : Dev nD) (t : Fin cfg0.N) :
    (bigSep Finset.univ fun w : Fin cfg0.W =>
      iprop(∃ d, owns (c : Thread nD τ) ((cfg0.win w).stage (cfg0.slots t w)) fullShare ((dats m 0 c).before w t d)) : sProp 𝕄)
    ⊢ iprop((∃ _ : Vec F S8x1024 .f32, owns (c : Thread nD τ) (st0_0 t) fullShare (iblk m c 0 t)) ∗
      (∃ _ : Vec F S16x32 .f32, owns (c : Thread nD τ) (st0_1 t) fullShare (iblk m c 1 t)) ∗
      (∃ _ : Vec F S40x256 .f32, owns (c : Thread nD τ) (st0_2 t) fullShare (iblk m c 2 t)) ∗
      (∃ _ : Vec F S16x32 .f32, owns (c : Thread nD τ) (st0_3 t) fullShare (iblk m c 3 t)) ∗
      (∃ _ : Vec F S8x512 .f32, owns (c : Thread nD τ) (st0_4 t) fullShare (iblk m c 4 t)) ∗
      (∃ _ : Vec F S520x128 .f32, owns (c : Thread nD τ) (st0_5 t) fullShare (iblk m c 5 t)) ∗
      (∃ _ : Vec F S1x1024 .f32, owns (c : Thread nD τ) (st0_6 t) fullShare (iblk m c 6 t)) ∗
      (∃ _ : Vec F S1x1024 .f32, owns (c : Thread nD τ) (st0_7 t) fullShare (iblk m c 7 t)) ∗
      (∃ _ : Vec F S1x1024 .f32, owns (c : Thread nD τ) (st0_8 t) fullShare (iblk m c 8 t)) ∗
      (∃ _ : Vec F S16x32 .f32, owns (c : Thread nD τ) (st0_9 t) fullShare (iblk m c 9 t)) ∗
      (∃ _ : Vec F S16x32 .f32, owns (c : Thread nD τ) (st0_10 t) fullShare (iblk m c 10 t)) ∗
      (∃ _ : Vec F S16x32 .f32, owns (c : Thread nD τ) (st0_11 t) fullShare (iblk m c 11 t)) ∗
      (∃ _ : Vec F S1x256 .f32, owns (c : Thread nD τ) (st0_12 t) fullShare (iblk m c 12 t)) ∗
      (∃ _ : Vec F S1x256 .f32, owns (c : Thread nD τ) (st0_13 t) fullShare (iblk m c 13 t)) ∗
      (∃ _ : Vec F S1x256 .f32, owns (c : Thread nD τ) (st0_14 t) fullShare (iblk m c 14 t)) ∗
      (∃ _ : Vec F S16x32 .f32, owns (c : Thread nD τ) (st0_15 t) fullShare (iblk m c 15 t)) ∗
      (∃ _ : Vec F S16x32 .f32, owns (c : Thread nD τ) (st0_16 t) fullShare (iblk m c 16 t)) ∗
      (∃ _ : Vec F S16x32 .f32, owns (c : Thread nD τ) (st0_17 t) fullShare (iblk m c 17 t)) ∗
      (∃ _ : Vec F S1x256 .f32, owns (c : Thread nD τ) (st0_18 t) fullShare (iblk m c 18 t)) ∗
      (∃ _ : Vec F S1x256 .f32, owns (c : Thread nD τ) (st0_19 t) fullShare (iblk m c 19 t)) ∗
      (∃ _ : Vec F S1x256 .f32, owns (c : Thread nD τ) (st0_20 t) fullShare (iblk m c 20 t)) ∗
      (∃ _ : Vec F S1x512 .f32, owns (c : Thread nD τ) (st0_21 t) fullShare (iblk m c 21 t)) ∗
      (∃ _ : Vec F S1x512 .f32, owns (c : Thread nD τ) (st0_22 t) fullShare (iblk m c 22 t)) ∗
      (∃ _ : Vec F S1x512 .f32, owns (c : Thread nD τ) (st0_23 t) fullShare (iblk m c 23 t)) ∗
      (∃ _ : Vec F S1x512 .f32, owns (c : Thread nD τ) (st0_24 t) fullShare (iblk m c 24 t)) ∗
      (∃ _ : Vec F S1x512 .f32, owns (c : Thread nD τ) (st0_25 t) fullShare (iblk m c 25 t)) ∗
      (∃ _ : Vec F S1x512 .f32, owns (c : Thread nD τ) (st0_26 t) fullShare (iblk m c 26 t)) ∗
      (∃ _ : Vec F S1x512 .f32, owns (c : Thread nD τ) (st0_27 t) fullShare (iblk m c 27 t)) ∗
      (∃ _ : Vec F S1x512 .f32, owns (c : Thread nD τ) (st0_28 t) fullShare (iblk m c 28 t)) ∗
      (∃ _ : Vec F S1x512 .f32, owns (c : Thread nD τ) (st0_29 t) fullShare (iblk m c 29 t)) ∗
      (∃ _ : Vec F S512x128 .f32, owns (c : Thread nD τ) (st0_30 t) fullShare (iblk m c 30 t)) ∗
      (∃ _ : Vec F S512x128 .f32, owns (c : Thread nD τ) (st0_31 t) fullShare (iblk m c 31 t)) ∗
      (∃ _ : Vec F S512x128 .f32, owns (c : Thread nD τ) (st0_32 t) fullShare (iblk m c 32 t)) ∗
      (∃ _ : Vec F S4x128 .f32, owns (c : Thread nD τ) (st0_33 t) fullShare (iblk m c 33 t)) ∗
      (∃ _ : Vec F S4x128 .f32, owns (c : Thread nD τ) (st0_34 t) fullShare (iblk m c 34 t)) ∗
      (∃ _ : Vec F S4x128 .f32, owns (c : Thread nD τ) (st0_35 t) fullShare (iblk m c 35 t)) ∗
      (∃ _ : Vec F S1x1024 .f32, owns (c : Thread nD τ) (st0_36 t) fullShare (iblk m c 36 t)) ∗
      (∃ _ : Vec F S1x1024 .f32, owns (c : Thread nD τ) (st0_37 t) fullShare (iblk m c 37 t)) ∗
      (∃ _ : Vec F S1x1024 .f32, owns (c : Thread nD τ) (st0_38 t) fullShare (iblk m c 38 t)) ∗
      (∃ _ : Vec F S1x1024 .f32, owns (c : Thread nD τ) (st0_39 t) fullShare (iblk m c 39 t)) ∗
      (∃ _ : Vec F S1x1024 .f32, owns (c : Thread nD τ) (st0_40 t) fullShare (iblk m c 40 t)) ∗
      (∃ _ : Vec F S1x1024 .f32, owns (c : Thread nD τ) (st0_41 t) fullShare (iblk m c 41 t)) ∗
      (∃ d, owns (c : Thread nD τ) (st0_42 t) fullShare d) ∗ (∃ d, owns (c : Thread nD τ) (st0_43 t) fullShare d) ∗
      (∃ d, owns (c : Thread nD τ) (st0_44 t) fullShare d) ∗ (∃ d, owns (c : Thread nD τ) (st0_45 t) fullShare d) ∗
      (∃ d, owns (c : Thread nD τ) (st0_46 t) fullShare d) ∗ (∃ d, owns (c : Thread nD τ) (st0_47 t) fullShare d) ∗
      (∃ d, owns (c : Thread nD τ) (st0_48 t) fullShare d) ∗ (∃ d, owns (c : Thread nD τ) (st0_49 t) fullShare d) ∗
      (∃ d, owns (c : Thread nD τ) (st0_50 t) fullShare d) ∗ (∃ d, owns (c : Thread nD τ) (st0_51 t) fullShare d) ∗
      (∃ d, owns (c : Thread nD τ) (st0_52 t) fullShare d) ∗ (∃ d, owns (c : Thread nD τ) (st0_53 t) fullShare d) ∗
      (∃ d, owns (c : Thread nD τ) (st0_54 t) fullShare d) ∗ (∃ d, owns (c : Thread nD τ) (st0_55 t) fullShare d) ∗
      (∃ d, owns (c : Thread nD τ) (st0_56 t) fullShare d) ∗ (∃ d, owns (c : Thread nD τ) (st0_57 t) fullShare d) ∗
      (∃ d, owns (c : Thread nD τ) (st0_58 t) fullShare d) ∗ (∃ d, owns (c : Thread nD τ) (st0_59 t) fullShare d) ∗
      (∃ d, owns (c : Thread nD τ) (st0_60 t) fullShare d) ∗ (∃ d, owns (c : Thread nD τ) (st0_61 t) fullShare d) ∗
      (∃ d, owns (c : Thread nD τ) (st0_62 t) fullShare d) ∗ (∃ d, owns (c : Thread nD τ) (st0_63 t) fullShare d) ∗
      (∃ d, owns (c : Thread nD τ) (st0_64 t) fullShare d) ∗ (∃ d, owns (c : Thread nD τ) (st0_65 t) fullShare d) ∗
      (∃ d, owns (c : Thread nD τ) (st0_66 t) fullShare d) ∗ (∃ d, owns (c : Thread nD τ) (st0_67 t) fullShare d) ∗
      (∃ d, owns (c : Thread nD τ) (st0_68 t) fullShare d) ∗ (∃ d, owns (c : Thread nD τ) (st0_69 t) fullShare d) ∗
      (∃ d, owns (c : Thread nD τ) (st0_70 t) fullShare d) ∗ (∃ d, owns (c : Thread nD τ) (st0_71 t) fullShare d) ∗
      (∃ d, owns (c : Thread nD τ) (st0_72 t) fullShare d) ∗ (∃ d, owns (c : Thread nD τ) (st0_73 t) fullShare d) ∗
      (∃ d, owns (c : Thread nD τ) (st0_74 t) fullShare d) ∗ (∃ d, owns (c : Thread nD τ) (st0_75 t) fullShare d) ∗
      (∃ d, owns (c : Thread nD τ) (st0_76 t) fullShare d) ∗ (∃ d, owns (c : Thread nD τ) (st0_77 t) fullShare d) ∗
      (∃ d, owns (c : Thread nD τ) (st0_78 t) fullShare d) ∗ (∃ d, owns (c : Thread nD τ) (st0_79 t) fullShare d) ∗
      (∃ d, owns (c : Thread nD τ) (st0_80 t) fullShare d) ∗ (∃ d, owns (c : Thread nD τ) (st0_81 t) fullShare d) ∗
      (∃ d, owns (c : Thread nD τ) (st0_82 t) fullShare d) ∗ (∃ d, owns (c : Thread nD τ) (st0_83 t) fullShare d) ∗
      (∃ d, owns (c : Thread nD τ) (st0_84 t) fullShare d) ∗ (∃ d, owns (c : Thread nD τ) (st0_85 t) fullShare d) ∗
      (∃ d, owns (c : Thread nD τ) (st0_86 t) fullShare d) ∗ (∃ d, owns (c : Thread nD τ) (st0_87 t) fullShare d) ∗
      (∃ d, owns (c : Thread nD τ) (st0_88 t) fullShare d) ∗ (∃ d, owns (c : Thread nD τ) (st0_89 t) fullShare d)) :=
  (bigSep_mono fun w _ => found (dats m 0 c) w t).trans (BIBase.Entails.of_eq ((bigSep_W0 _).trans (by chain_rfl)))

set_option maxHeartbeats 4000000 in
theorem after_body (c : Dev nD) (t : Fin cfg0.N) :
    (bigSep Finset.univ fun w : Fin cfg0.W =>
      owns (c : Thread nD τ) ((cfg0.win w).stage (cfg0.slots t w)) fullShare ((dats m 0 c).after w t) : sProp 𝕄)
    = iprop(owns (c : Thread nD τ) (st0_0 t) fullShare (iblk m c 0 t) ∗ owns (c : Thread nD τ) (st0_1 t) fullShare (iblk m c 1 t) ∗
      owns (c : Thread nD τ) (st0_2 t) fullShare (iblk m c 2 t) ∗ owns (c : Thread nD τ) (st0_3 t) fullShare (iblk m c 3 t) ∗
      owns (c : Thread nD τ) (st0_4 t) fullShare (iblk m c 4 t) ∗ owns (c : Thread nD τ) (st0_5 t) fullShare (iblk m c 5 t) ∗
      owns (c : Thread nD τ) (st0_6 t) fullShare (iblk m c 6 t) ∗ owns (c : Thread nD τ) (st0_7 t) fullShare (iblk m c 7 t) ∗
      owns (c : Thread nD τ) (st0_8 t) fullShare (iblk m c 8 t) ∗ owns (c : Thread nD τ) (st0_9 t) fullShare (iblk m c 9 t) ∗
      owns (c : Thread nD τ) (st0_10 t) fullShare (iblk m c 10 t) ∗
      owns (c : Thread nD τ) (st0_11 t) fullShare (iblk m c 11 t) ∗
      owns (c : Thread nD τ) (st0_12 t) fullShare (iblk m c 12 t) ∗
      owns (c : Thread nD τ) (st0_13 t) fullShare (iblk m c 13 t) ∗
      owns (c : Thread nD τ) (st0_14 t) fullShare (iblk m c 14 t) ∗
      owns (c : Thread nD τ) (st0_15 t) fullShare (iblk m c 15 t) ∗
      owns (c : Thread nD τ) (st0_16 t) fullShare (iblk m c 16 t) ∗
      owns (c : Thread nD τ) (st0_17 t) fullShare (iblk m c 17 t) ∗
      owns (c : Thread nD τ) (st0_18 t) fullShare (iblk m c 18 t) ∗
      owns (c : Thread nD τ) (st0_19 t) fullShare (iblk m c 19 t) ∗
      owns (c : Thread nD τ) (st0_20 t) fullShare (iblk m c 20 t) ∗
      owns (c : Thread nD τ) (st0_21 t) fullShare (iblk m c 21 t) ∗
      owns (c : Thread nD τ) (st0_22 t) fullShare (iblk m c 22 t) ∗
      owns (c : Thread nD τ) (st0_23 t) fullShare (iblk m c 23 t) ∗
      owns (c : Thread nD τ) (st0_24 t) fullShare (iblk m c 24 t) ∗
      owns (c : Thread nD τ) (st0_25 t) fullShare (iblk m c 25 t) ∗
      owns (c : Thread nD τ) (st0_26 t) fullShare (iblk m c 26 t) ∗
      owns (c : Thread nD τ) (st0_27 t) fullShare (iblk m c 27 t) ∗
      owns (c : Thread nD τ) (st0_28 t) fullShare (iblk m c 28 t) ∗
      owns (c : Thread nD τ) (st0_29 t) fullShare (iblk m c 29 t) ∗
      owns (c : Thread nD τ) (st0_30 t) fullShare (iblk m c 30 t) ∗
      owns (c : Thread nD τ) (st0_31 t) fullShare (iblk m c 31 t) ∗
      owns (c : Thread nD τ) (st0_32 t) fullShare (iblk m c 32 t) ∗
      owns (c : Thread nD τ) (st0_33 t) fullShare (iblk m c 33 t) ∗
      owns (c : Thread nD τ) (st0_34 t) fullShare (iblk m c 34 t) ∗
      owns (c : Thread nD τ) (st0_35 t) fullShare (iblk m c 35 t) ∗
      owns (c : Thread nD τ) (st0_36 t) fullShare (iblk m c 36 t) ∗
      owns (c : Thread nD τ) (st0_37 t) fullShare (iblk m c 37 t) ∗
      owns (c : Thread nD τ) (st0_38 t) fullShare (iblk m c 38 t) ∗
      owns (c : Thread nD τ) (st0_39 t) fullShare (iblk m c 39 t) ∗
      owns (c : Thread nD τ) (st0_40 t) fullShare (iblk m c 40 t) ∗
      owns (c : Thread nD τ) (st0_41 t) fullShare (iblk m c 41 t) ∗
      owns (c : Thread nD τ) (st0_42 t) fullShare (put r0_1 (View.ld (iblk m c 0 t) r0_0)) ∗
      owns (c : Thread nD τ) (st0_43 t) fullShare (put r0_1 (k0_pay3 (View.ld (iblk m c 0 t) r0_0) (View.ld (iblk m c 6 t) r0_1) (View.ld (iblk m c 7 t) r0_1) (View.ld (iblk m c 8 t) r0_1))) ∗
      owns (c : Thread nD τ) (st0_44 t) fullShare (put r0_1 (k0_pay1 (View.ld (iblk m c 0 t) r0_0) (View.ld (iblk m c 7 t) r0_1))) ∗
      owns (c : Thread nD τ) (st0_45 t) fullShare (put r0_1 (k0_pay2 (View.ld (iblk m c 0 t) r0_0) (View.ld (iblk m c 8 t) r0_1))) ∗
      owns (c : Thread nD τ) (st0_46 t) fullShare (put r0_2 (View.ld (iblk m c 1 t) r0_2)) ∗
      owns (c : Thread nD τ) (st0_47 t) fullShare (put r0_2 (k0_pay6 (View.ld (iblk m c 1 t) r0_2) (View.ld (iblk m c 9 t) r0_2) (View.ld (iblk m c 10 t) r0_2) (View.ld (iblk m c 11 t) r0_2))) ∗
      owns (c : Thread nD τ) (st0_48 t) fullShare (put r0_2 (k0_pay4 (View.ld (iblk m c 1 t) r0_2) (View.ld (iblk m c 10 t) r0_2))) ∗
      owns (c : Thread nD τ) (st0_49 t) fullShare (put r0_2 (k0_pay5 (View.ld (iblk m c 1 t) r0_2) (View.ld (iblk m c 11 t) r0_2))) ∗
      owns (c : Thread nD τ) (st0_50 t) fullShare (put r0_4 (View.ld (iblk m c 2 t) r0_3)) ∗
      owns (c : Thread nD τ) (st0_51 t) fullShare (put r0_4 (k0_pay9 (View.ld (iblk m c 2 t) r0_3) (View.ld (iblk m c 12 t) r0_4) (View.ld (iblk m c 13 t) r0_4) (View.ld (iblk m c 14 t) r0_4))) ∗
      owns (c : Thread nD τ) (st0_52 t) fullShare (put r0_4 (k0_pay7 (View.ld (iblk m c 2 t) r0_3) (View.ld (iblk m c 13 t) r0_4))) ∗
      owns (c : Thread nD τ) (st0_53 t) fullShare (put r0_4 (k0_pay8 (View.ld (iblk m c 2 t) r0_3) (View.ld (iblk m c 14 t) r0_4))) ∗
      owns (c : Thread nD τ) (st0_54 t) fullShare (put r0_2 (View.ld (iblk m c 3 t) r0_2)) ∗
      owns (c : Thread nD τ) (st0_55 t) fullShare (put r0_2 (k0_pay12 (View.ld (iblk m c 3 t) r0_2) (View.ld (iblk m c 15 t) r0_2) (View.ld (iblk m c 16 t) r0_2) (View.ld (iblk m c 17 t) r0_2))) ∗
      owns (c : Thread nD τ) (st0_56 t) fullShare (put r0_2 (k0_pay10 (View.ld (iblk m c 3 t) r0_2) (View.ld (iblk m c 16 t) r0_2))) ∗
      owns (c : Thread nD τ) (st0_57 t) fullShare (put r0_2 (k0_pay11 (View.ld (iblk m c 3 t) r0_2) (View.ld (iblk m c 17 t) r0_2))) ∗
      owns (c : Thread nD τ) (st0_58 t) fullShare (put r0_4 (View.ld (iblk m c 2 t) r0_5)) ∗
      owns (c : Thread nD τ) (st0_59 t) fullShare (put r0_4 (k0_pay15 (View.ld (iblk m c 2 t) r0_5) (View.ld (iblk m c 18 t) r0_4) (View.ld (iblk m c 19 t) r0_4) (View.ld (iblk m c 20 t) r0_4))) ∗
      owns (c : Thread nD τ) (st0_60 t) fullShare (put r0_4 (k0_pay13 (View.ld (iblk m c 2 t) r0_5) (View.ld (iblk m c 19 t) r0_4))) ∗
      owns (c : Thread nD τ) (st0_61 t) fullShare (put r0_4 (k0_pay14 (View.ld (iblk m c 2 t) r0_5) (View.ld (iblk m c 20 t) r0_4))) ∗
      owns (c : Thread nD τ) (st0_62 t) fullShare (put r0_7 (View.ld (iblk m c 4 t) r0_6)) ∗
      owns (c : Thread nD τ) (st0_63 t) fullShare (put r0_7 (k0_pay18 (View.ld (iblk m c 4 t) r0_6) (View.ld (iblk m c 21 t) r0_7) (View.ld (iblk m c 22 t) r0_7) (View.ld (iblk m c 23 t) r0_7))) ∗
      owns (c : Thread nD τ) (st0_64 t) fullShare (put r0_7 (k0_pay16 (View.ld (iblk m c 4 t) r0_6) (View.ld (iblk m c 22 t) r0_7))) ∗
      owns (c : Thread nD τ) (st0_65 t) fullShare (put r0_7 (k0_pay17 (View.ld (iblk m c 4 t) r0_6) (View.ld (iblk m c 23 t) r0_7))) ∗
      owns (c : Thread nD τ) (st0_66 t) fullShare (put r0_7 (View.ld (iblk m c 4 t) r0_8)) ∗
      owns (c : Thread nD τ) (st0_67 t) fullShare (put r0_7 (k0_pay21 (View.ld (iblk m c 4 t) r0_8) (View.ld (iblk m c 24 t) r0_7) (View.ld (iblk m c 25 t) r0_7) (View.ld (iblk m c 26 t) r0_7))) ∗
      owns (c : Thread nD τ) (st0_68 t) fullShare (put r0_7 (k0_pay19 (View.ld (iblk m c 4 t) r0_8) (View.ld (iblk m c 25 t) r0_7))) ∗
      owns (c : Thread nD τ) (st0_69 t) fullShare (put r0_7 (k0_pay20 (View.ld (iblk m c 4 t) r0_8) (View.ld (iblk m c 26 t) r0_7))) ∗
      owns (c : Thread nD τ) (st0_70 t) fullShare (put r0_7 (View.ld (iblk m c 4 t) r0_9)) ∗
      owns (c : Thread nD τ) (st0_71 t) fullShare (put r0_7 (k0_pay24 (View.ld (iblk m c 4 t) r0_9) (View.ld (iblk m c 27 t) r0_7) (View.ld (iblk m c 28 t) r0_7) (View.ld (iblk m c 29 t) r0_7))) ∗
      owns (c : Thread nD τ) (st0_72 t) fullShare (put r0_7 (k0_pay22 (View.ld (iblk m c 4 t) r0_9) (View.ld (iblk m c 28 t) r0_7))) ∗
      owns (c : Thread nD τ) (st0_73 t) fullShare (put r0_7 (k0_pay23 (View.ld (iblk m c 4 t) r0_9) (View.ld (iblk m c 29 t) r0_7))) ∗
      owns (c : Thread nD τ) (st0_74 t) fullShare (put r0_11 (View.ld (iblk m c 5 t) r0_10)) ∗
      owns (c : Thread nD τ) (st0_75 t) fullShare (put r0_11 (k0_pay27 (View.ld (iblk m c 5 t) r0_10) (View.ld (iblk m c 30 t) r0_11) (View.ld (iblk m c 31 t) r0_11) (View.ld (iblk m c 32 t) r0_11))) ∗
      owns (c : Thread nD τ) (st0_76 t) fullShare (put r0_11 (k0_pay25 (View.ld (iblk m c 5 t) r0_10) (View.ld (iblk m c 31 t) r0_11))) ∗
      owns (c : Thread nD τ) (st0_77 t) fullShare (put r0_11 (k0_pay26 (View.ld (iblk m c 5 t) r0_10) (View.ld (iblk m c 32 t) r0_11))) ∗
      owns (c : Thread nD τ) (st0_78 t) fullShare (put r0_13 (View.ld (iblk m c 5 t) r0_12)) ∗
      owns (c : Thread nD τ) (st0_79 t) fullShare (put r0_13 (k0_pay30 (View.ld (iblk m c 5 t) r0_12) (View.ld (iblk m c 33 t) r0_13) (View.ld (iblk m c 34 t) r0_13) (View.ld (iblk m c 35 t) r0_13))) ∗
      owns (c : Thread nD τ) (st0_80 t) fullShare (put r0_13 (k0_pay28 (View.ld (iblk m c 5 t) r0_12) (View.ld (iblk m c 34 t) r0_13))) ∗
      owns (c : Thread nD τ) (st0_81 t) fullShare (put r0_13 (k0_pay29 (View.ld (iblk m c 5 t) r0_12) (View.ld (iblk m c 35 t) r0_13))) ∗
      owns (c : Thread nD τ) (st0_82 t) fullShare (put r0_1 (View.ld (iblk m c 0 t) r0_14)) ∗
      owns (c : Thread nD τ) (st0_83 t) fullShare (put r0_1 (k0_pay33 (View.ld (iblk m c 0 t) r0_14) (View.ld (iblk m c 36 t) r0_1) (View.ld (iblk m c 37 t) r0_1) (View.ld (iblk m c 38 t) r0_1))) ∗
      owns (c : Thread nD τ) (st0_84 t) fullShare (put r0_1 (k0_pay31 (View.ld (iblk m c 0 t) r0_14) (View.ld (iblk m c 37 t) r0_1))) ∗
      owns (c : Thread nD τ) (st0_85 t) fullShare (put r0_1 (k0_pay32 (View.ld (iblk m c 0 t) r0_14) (View.ld (iblk m c 38 t) r0_1))) ∗
      owns (c : Thread nD τ) (st0_86 t) fullShare (put r0_1 (View.ld (iblk m c 0 t) r0_15)) ∗
      owns (c : Thread nD τ) (st0_87 t) fullShare (put r0_1 (k0_pay36 (View.ld (iblk m c 0 t) r0_15) (View.ld (iblk m c 39 t) r0_1) (View.ld (iblk m c 40 t) r0_1) (View.ld (iblk m c 41 t) r0_1))) ∗
      owns (c : Thread nD τ) (st0_88 t) fullShare (put r0_1 (k0_pay34 (View.ld (iblk m c 0 t) r0_15) (View.ld (iblk m c 40 t) r0_1))) ∗
      owns (c : Thread nD τ) (st0_89 t) fullShare (put r0_1 (k0_pay35 (View.ld (iblk m c 0 t) r0_15) (View.ld (iblk m c 41 t) r0_1)))) :=
  (bigSep_W0 _).trans (by chain_rfl)

/-- The body the call runs at its point. -/
theorem row (t : Fin cfg0.N) : defs₀ (F := F) .tc cfg0.body (cfg0.bodyArgs t (cfg0.slots t)) = bodyAt0 t := by
  unfold defs₀; rw [Defs.onTc_tc]

set_option maxHeartbeats 4000000 in
theorem body (c : Dev nD) : BodyObligation (dats (F := F) m 0 c) (defs₀ (F := F)) Variants.none () Set.univ := fun t => by
  rw [row]
  exact (around (before_body m c t) (Eq.symm (after_body m c t) ▸ .rfl)).trans (sound c Set.univ
    (st0_0 t) (hstage0_0 0) (st0_1 t) (hstage0_1 0) (st0_2 t) (hstage0_2 0) (st0_3 t) (hstage0_3 0) (st0_4 t) (hstage0_4 0)
    (st0_5 t) (hstage0_5 0) (st0_6 t) (hstage0_6 0) (st0_7 t) (hstage0_7 0) (st0_8 t) (hstage0_8 0) (st0_9 t) (hstage0_9 0)
    (st0_10 t) (hstage0_10 0) (st0_11 t) (hstage0_11 0) (st0_12 t) (hstage0_12 0) (st0_13 t) (hstage0_13 0)
    (st0_14 t) (hstage0_14 0) (st0_15 t) (hstage0_15 0) (st0_16 t) (hstage0_16 0) (st0_17 t) (hstage0_17 0)
    (st0_18 t) (hstage0_18 0) (st0_19 t) (hstage0_19 0) (st0_20 t) (hstage0_20 0) (st0_21 t) (hstage0_21 0)
    (st0_22 t) (hstage0_22 0) (st0_23 t) (hstage0_23 0) (st0_24 t) (hstage0_24 0) (st0_25 t) (hstage0_25 0)
    (st0_26 t) (hstage0_26 0) (st0_27 t) (hstage0_27 0) (st0_28 t) (hstage0_28 0) (st0_29 t) (hstage0_29 0)
    (st0_30 t) (hstage0_30 0) (st0_31 t) (hstage0_31 0) (st0_32 t) (hstage0_32 0) (st0_33 t) (hstage0_33 0)
    (st0_34 t) (hstage0_34 0) (st0_35 t) (hstage0_35 0) (st0_36 t) (hstage0_36 0) (st0_37 t) (hstage0_37 0)
    (st0_38 t) (hstage0_38 0) (st0_39 t) (hstage0_39 0) (st0_40 t) (hstage0_40 0) (st0_41 t) (hstage0_41 0)
    (st0_42 t) (hstage0_42 0) (st0_43 t) (hstage0_43 0) (st0_44 t) (hstage0_44 0) (st0_45 t) (hstage0_45 0)
    (st0_46 t) (hstage0_46 0) (st0_47 t) (hstage0_47 0) (st0_48 t) (hstage0_48 0) (st0_49 t) (hstage0_49 0)
    (st0_50 t) (hstage0_50 0) (st0_51 t) (hstage0_51 0) (st0_52 t) (hstage0_52 0) (st0_53 t) (hstage0_53 0)
    (st0_54 t) (hstage0_54 0) (st0_55 t) (hstage0_55 0) (st0_56 t) (hstage0_56 0) (st0_57 t) (hstage0_57 0)
    (st0_58 t) (hstage0_58 0) (st0_59 t) (hstage0_59 0) (st0_60 t) (hstage0_60 0) (st0_61 t) (hstage0_61 0)
    (st0_62 t) (hstage0_62 0) (st0_63 t) (hstage0_63 0) (st0_64 t) (hstage0_64 0) (st0_65 t) (hstage0_65 0)
    (st0_66 t) (hstage0_66 0) (st0_67 t) (hstage0_67 0) (st0_68 t) (hstage0_68 0) (st0_69 t) (hstage0_69 0)
    (st0_70 t) (hstage0_70 0) (st0_71 t) (hstage0_71 0) (st0_72 t) (hstage0_72 0) (st0_73 t) (hstage0_73 0)
    (st0_74 t) (hstage0_74 0) (st0_75 t) (hstage0_75 0) (st0_76 t) (hstage0_76 0) (st0_77 t) (hstage0_77 0)
    (st0_78 t) (hstage0_78 0) (st0_79 t) (hstage0_79 0) (st0_80 t) (hstage0_80 0) (st0_81 t) (hstage0_81 0)
    (st0_82 t) (hstage0_82 0) (st0_83 t) (hstage0_83 0) (st0_84 t) (hstage0_84 0) (st0_85 t) (hstage0_85 0)
    (st0_86 t) (hstage0_86 0) (st0_87 t) (hstage0_87 0) (st0_88 t) (hstage0_88 0) (st0_89 t) (hstage0_89 0)
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t)
    (iblk m c 15 t) (iblk m c 16 t) (iblk m c 17 t) (iblk m c 18 t) (iblk m c 19 t) (iblk m c 20 t) (iblk m c 21 t)
    (iblk m c 22 t) (iblk m c 23 t) (iblk m c 24 t) (iblk m c 25 t) (iblk m c 26 t) (iblk m c 27 t) (iblk m c 28 t)
    (iblk m c 29 t) (iblk m c 30 t) (iblk m c 31 t) (iblk m c 32 t) (iblk m c 33 t) (iblk m c 34 t) (iblk m c 35 t)
    (iblk m c 36 t) (iblk m c 37 t) (iblk m c 38 t) (iblk m c 39 t) (iblk m c 40 t) (iblk m c 41 t) _)

/-! ## The run -/

set_option backward.isDefEq.respectTransparency.types false in
set_option maxHeartbeats 800000 in
/-- Every execution ends, each array at what the body leaves and every counter at zero. -/
theorem run : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body m c).loose) (hshare := fun c => (dats m 0 c).share_full fun _ => rfl)
    (howed := fun _ _ => rfl) (V := V m) (hmain := hmain m Variants.none) (hA := fun _ _ => rfl) (hΦ := fun _ _ => rfl)

/-- An input's array ends as it was. -/
theorem kept {r : PUnit × MemSt nD τ sig (Elt F)} (h : Pipeline.FramePost cfgs (dats m) 0 (V m) r) (c : Dev nD) (w : Fin cfg0.W)
    (hw : (cfg0.win w).isOut = false) :
    r.2.mem ((c : Thread nD τ).loc (Pipeline.arrRef spec0 w)) = m ((c : Thread nD τ).loc (Pipeline.arrRef spec0 w)) :=
  ((h c).1 w).trans ((dats m 0 c).arrAt_in w hw _)

set_option maxHeartbeats 4000000 in
theorem args {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41) :=
  ⟨kept m h c 0 rfl, kept m h c 1 rfl, kept m h c 2 rfl, kept m h c 3 rfl, kept m h c 4 rfl, kept m h c 5 rfl,
    kept m h c 6 rfl, kept m h c 7 rfl, kept m h c 8 rfl, kept m h c 9 rfl, kept m h c 10 rfl, kept m h c 11 rfl,
    kept m h c 12 rfl, kept m h c 13 rfl, kept m h c 14 rfl, kept m h c 15 rfl, kept m h c 16 rfl, kept m h c 17 rfl,
    kept m h c 18 rfl, kept m h c 19 rfl, kept m h c 20 rfl, kept m h c 21 rfl, kept m h c 22 rfl, kept m h c 23 rfl,
    kept m h c 24 rfl, kept m h c 25 rfl, kept m h c 26 rfl, kept m h c 27 rfl, kept m h c 28 rfl, kept m h c 29 rfl,
    kept m h c 30 rfl, kept m h c 31 rfl, kept m h c 32 rfl, kept m h c 33 rfl, kept m h c 34 rfl, kept m h c 35 rfl,
    kept m h c 36 rfl, kept m h c 37 rfl, kept m h c 38 rfl, kept m h c 39 rfl, kept m h c 40 rfl, kept m h c 41 rfl⟩

/-- The arguments end unchanged and every counter at zero. -/
theorem unchanged : θ_run defs (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41))
      ∧ r.2.sem = fun _ => 0) :=
  (θ_run defs _ _).mono (fun _ h => ⟨args m h.1, h.2⟩) (run m ρ)

end Small
-- ==== Proof.SmallValue.lean ====
/-
  The AdamW step on the twelve small parameters: what the 48 results hold, of the arrays as launched. A parameter's gradient is
  a row or a few rows of one of the six stacks; its moments and its update are the three functions below.
-/
module

public import proofs.«01_k».proof.Proof.SmallRun
public import Idealize.ShloMosaic.Lib.Pointwise
public import Idealize.ShloMosaic.Lib.Pipeline.ValueKit

@[expose] public section

set_option maxRecDepth 16384

noncomputable section

namespace Small

open Cert.Kernel8Ideal Cert.Kernel8Ideal.Gen
open Idealize.ShloMosaic Idealize.ShloMosaic.TcCoe Idealize.ShloMosaic.Tactic Idealize.SL.Sem

/-! ## The step, on a parameter of any shape -/

section Step

variable {S : Shape}

/-- The first moment: nine tenths of the old one and a tenth of the gradient. -/
def mom1 (g m : FVec Ideal S .f32) : FVec Ideal S .f32 :=
  addf (mulf (broadcast S (Scalar.ofBits .f32 0x3F666666#32)) m) (mulf (broadcast S (Scalar.ofBits .f32 0x3DCCCCCD#32)) g)

/-- The second moment: 0.999 of the old one and a thousandth of the gradient's square. -/
def mom2 (g v : FVec Ideal S .f32) : FVec Ideal S .f32 :=
  addf (mulf (broadcast S (Scalar.ofBits .f32 0x3F7FBE77#32)) v)
    (mulf (broadcast S (Scalar.ofBits .f32 0x3A83126F#32)) (mulf g g))

/-- The update: the corrected first moment over the root of the corrected second, with the weight's decay, scaled. -/
def step (g w m v : FVec Ideal S .f32) : FVec Ideal S .f32 :=
  mulf (broadcast S (Scalar.ofBits .f32 0xBA83126F#32))
    (addf
      (divf (divf (mom1 g m) (broadcast S (Scalar.ofBits .f32 0x3F26BD02#32)))
        (addf (sqrt (divf (mom2 g v) (broadcast S (Scalar.ofBits .f32 0x3C231ACC#32))))
          (broadcast S (Scalar.ofBits .f32 0x322BCC77#32))))
      (mulf (broadcast S (Scalar.ofBits .f32 0x3C23D70A#32)) w))

/-- Equal arrays give equal steps. -/
theorem entry {g g' w w' m m' v v' : FVec Ideal S .f32} (hg : g' = g) (hw : w' = w) (hm : m' = m) (hv : v' = v) :
    step g' w' m' v' = step g w m v ∧ mom1 g' m' = mom1 g m ∧ mom2 g' v' = mom2 g v := by
  subst hg hw hm hv; exact ⟨rfl, rfl, rfl⟩

/-- What a load of the block `r` reads. -/
abbrev load {s : Shape} (X : FVec Ideal s .f32) (r : Rect s) : FVec Ideal r.shape .f32 :=
  View.ld (Val := Elt Ideal) (e' := .f32) X r

/-- A load of whole rows, or of any block, is the slice at its corner. -/
theorem rows {s : Shape} (off size : Fin s.rank → Nat) (inb) (X : FVec Ideal s .f32) (h : s.Slices off ⟨s.rank, size⟩) :
    load X (Rect.unit off size inb) = extractStridedSlice ⟨s.rank, size⟩ off X h :=
  funext fun j => congrArg X (funext fun a => Fin.ext (Rect.idx_unit_val off size inb j a))

end Step

variable (m : (ℓ : Loc nD τ sig) → Buf (Elt Ideal) ℓ) (c : Dev nD)

/-! ## What is read: the arrays as launched -/

theorem index_zero : ∀ (w : Fin cfg0.W) (a : Fin (cfg0.win w).shape.rank), (cfg0.win w).index t0_0 a = 0 := by decide +kernel

theorem whole_out : ∀ w : Fin cfg0.W, (cfg0.win w).isOut = true → (cfg0.win w).WholeAt t0_0 := by decide +kernel

theorem in0 : iblk m c 0 t0_0 = m ((c : Thread nD τ).loc main_arg0) := funext fun j =>
  congrArg (m ((c : Thread nD τ).loc main_arg0)) (funext fun a => Fin.ext (Pipeline.Window.rect_emb_val_of_index_zero win0_0 t0_0 a (index_zero 0 a) j))
theorem in1 : iblk m c 1 t0_0 = m ((c : Thread nD τ).loc main_arg1) := funext fun j =>
  congrArg (m ((c : Thread nD τ).loc main_arg1)) (funext fun a => Fin.ext (Pipeline.Window.rect_emb_val_of_index_zero win0_1 t0_0 a (index_zero 1 a) j))
theorem in2 : iblk m c 2 t0_0 = m ((c : Thread nD τ).loc main_arg2) := funext fun j =>
  congrArg (m ((c : Thread nD τ).loc main_arg2)) (funext fun a => Fin.ext (Pipeline.Window.rect_emb_val_of_index_zero win0_2 t0_0 a (index_zero 2 a) j))
theorem in3 : iblk m c 3 t0_0 = m ((c : Thread nD τ).loc main_arg3) := funext fun j =>
  congrArg (m ((c : Thread nD τ).loc main_arg3)) (funext fun a => Fin.ext (Pipeline.Window.rect_emb_val_of_index_zero win0_3 t0_0 a (index_zero 3 a) j))
theorem in4 : iblk m c 4 t0_0 = m ((c : Thread nD τ).loc main_arg4) := funext fun j =>
  congrArg (m ((c : Thread nD τ).loc main_arg4)) (funext fun a => Fin.ext (Pipeline.Window.rect_emb_val_of_index_zero win0_4 t0_0 a (index_zero 4 a) j))
theorem in5 : iblk m c 5 t0_0 = m ((c : Thread nD τ).loc main_arg5) := funext fun j =>
  congrArg (m ((c : Thread nD τ).loc main_arg5)) (funext fun a => Fin.ext (Pipeline.Window.rect_emb_val_of_index_zero win0_5 t0_0 a (index_zero 5 a) j))
theorem in6 : iblk m c 6 t0_0 = m ((c : Thread nD τ).loc main_arg6) := funext fun j =>
  congrArg (m ((c : Thread nD τ).loc main_arg6)) (funext fun a => Fin.ext (Pipeline.Window.rect_emb_val_of_index_zero win0_6 t0_0 a (index_zero 6 a) j))
theorem in7 : iblk m c 7 t0_0 = m ((c : Thread nD τ).loc main_arg7) := funext fun j =>
  congrArg (m ((c : Thread nD τ).loc main_arg7)) (funext fun a => Fin.ext (Pipeline.Window.rect_emb_val_of_index_zero win0_7 t0_0 a (index_zero 7 a) j))
theorem in8 : iblk m c 8 t0_0 = m ((c : Thread nD τ).loc main_arg8) := funext fun j =>
  congrArg (m ((c : Thread nD τ).loc main_arg8)) (funext fun a => Fin.ext (Pipeline.Window.rect_emb_val_of_index_zero win0_8 t0_0 a (index_zero 8 a) j))
theorem in9 : iblk m c 9 t0_0 = m ((c : Thread nD τ).loc main_arg9) := funext fun j =>
  congrArg (m ((c : Thread nD τ).loc main_arg9)) (funext fun a => Fin.ext (Pipeline.Window.rect_emb_val_of_index_zero win0_9 t0_0 a (index_zero 9 a) j))
theorem in10 : iblk m c 10 t0_0 = m ((c : Thread nD τ).loc main_arg10) := funext fun j =>
  congrArg (m ((c : Thread nD τ).loc main_arg10)) (funext fun a => Fin.ext (Pipeline.Window.rect_emb_val_of_index_zero win0_10 t0_0 a (index_zero 10 a) j))
theorem in11 : iblk m c 11 t0_0 = m ((c : Thread nD τ).loc main_arg11) := funext fun j =>
  congrArg (m ((c : Thread nD τ).loc main_arg11)) (funext fun a => Fin.ext (Pipeline.Window.rect_emb_val_of_index_zero win0_11 t0_0 a (index_zero 11 a) j))
theorem in12 : iblk m c 12 t0_0 = m ((c : Thread nD τ).loc main_arg12) := funext fun j =>
  congrArg (m ((c : Thread nD τ).loc main_arg12)) (funext fun a => Fin.ext (Pipeline.Window.rect_emb_val_of_index_zero win0_12 t0_0 a (index_zero 12 a) j))
theorem in13 : iblk m c 13 t0_0 = m ((c : Thread nD τ).loc main_arg13) := funext fun j =>
  congrArg (m ((c : Thread nD τ).loc main_arg13)) (funext fun a => Fin.ext (Pipeline.Window.rect_emb_val_of_index_zero win0_13 t0_0 a (index_zero 13 a) j))
theorem in14 : iblk m c 14 t0_0 = m ((c : Thread nD τ).loc main_arg14) := funext fun j =>
  congrArg (m ((c : Thread nD τ).loc main_arg14)) (funext fun a => Fin.ext (Pipeline.Window.rect_emb_val_of_index_zero win0_14 t0_0 a (index_zero 14 a) j))
theorem in15 : iblk m c 15 t0_0 = m ((c : Thread nD τ).loc main_arg15) := funext fun j =>
  congrArg (m ((c : Thread nD τ).loc main_arg15)) (funext fun a => Fin.ext (Pipeline.Window.rect_emb_val_of_index_zero win0_15 t0_0 a (index_zero 15 a) j))
theorem in16 : iblk m c 16 t0_0 = m ((c : Thread nD τ).loc main_arg16) := funext fun j =>
  congrArg (m ((c : Thread nD τ).loc main_arg16)) (funext fun a => Fin.ext (Pipeline.Window.rect_emb_val_of_index_zero win0_16 t0_0 a (index_zero 16 a) j))
theorem in17 : iblk m c 17 t0_0 = m ((c : Thread nD τ).loc main_arg17) := funext fun j =>
  congrArg (m ((c : Thread nD τ).loc main_arg17)) (funext fun a => Fin.ext (Pipeline.Window.rect_emb_val_of_index_zero win0_17 t0_0 a (index_zero 17 a) j))
theorem in18 : iblk m c 18 t0_0 = m ((c : Thread nD τ).loc main_arg18) := funext fun j =>
  congrArg (m ((c : Thread nD τ).loc main_arg18)) (funext fun a => Fin.ext (Pipeline.Window.rect_emb_val_of_index_zero win0_18 t0_0 a (index_zero 18 a) j))
theorem in19 : iblk m c 19 t0_0 = m ((c : Thread nD τ).loc main_arg19) := funext fun j =>
  congrArg (m ((c : Thread nD τ).loc main_arg19)) (funext fun a => Fin.ext (Pipeline.Window.rect_emb_val_of_index_zero win0_19 t0_0 a (index_zero 19 a) j))
theorem in20 : iblk m c 20 t0_0 = m ((c : Thread nD τ).loc main_arg20) := funext fun j =>
  congrArg (m ((c : Thread nD τ).loc main_arg20)) (funext fun a => Fin.ext (Pipeline.Window.rect_emb_val_of_index_zero win0_20 t0_0 a (index_zero 20 a) j))
theorem in21 : iblk m c 21 t0_0 = m ((c : Thread nD τ).loc main_arg21) := funext fun j =>
  congrArg (m ((c : Thread nD τ).loc main_arg21)) (funext fun a => Fin.ext (Pipeline.Window.rect_emb_val_of_index_zero win0_21 t0_0 a (index_zero 21 a) j))
theorem in22 : iblk m c 22 t0_0 = m ((c : Thread nD τ).loc main_arg22) := funext fun j =>
  congrArg (m ((c : Thread nD τ).loc main_arg22)) (funext fun a => Fin.ext (Pipeline.Window.rect_emb_val_of_index_zero win0_22 t0_0 a (index_zero 22 a) j))
theorem in23 : iblk m c 23 t0_0 = m ((c : Thread nD τ).loc main_arg23) := funext fun j =>
  congrArg (m ((c : Thread nD τ).loc main_arg23)) (funext fun a => Fin.ext (Pipeline.Window.rect_emb_val_of_index_zero win0_23 t0_0 a (index_zero 23 a) j))
theorem in24 : iblk m c 24 t0_0 = m ((c : Thread nD τ).loc main_arg24) := funext fun j =>
  congrArg (m ((c : Thread nD τ).loc main_arg24)) (funext fun a => Fin.ext (Pipeline.Window.rect_emb_val_of_index_zero win0_24 t0_0 a (index_zero 24 a) j))
theorem in25 : iblk m c 25 t0_0 = m ((c : Thread nD τ).loc main_arg25) := funext fun j =>
  congrArg (m ((c : Thread nD τ).loc main_arg25)) (funext fun a => Fin.ext (Pipeline.Window.rect_emb_val_of_index_zero win0_25 t0_0 a (index_zero 25 a) j))
theorem in26 : iblk m c 26 t0_0 = m ((c : Thread nD τ).loc main_arg26) := funext fun j =>
  congrArg (m ((c : Thread nD τ).loc main_arg26)) (funext fun a => Fin.ext (Pipeline.Window.rect_emb_val_of_index_zero win0_26 t0_0 a (index_zero 26 a) j))
theorem in27 : iblk m c 27 t0_0 = m ((c : Thread nD τ).loc main_arg27) := funext fun j =>
  congrArg (m ((c : Thread nD τ).loc main_arg27)) (funext fun a => Fin.ext (Pipeline.Window.rect_emb_val_of_index_zero win0_27 t0_0 a (index_zero 27 a) j))
theorem in28 : iblk m c 28 t0_0 = m ((c : Thread nD τ).loc main_arg28) := funext fun j =>
  congrArg (m ((c : Thread nD τ).loc main_arg28)) (funext fun a => Fin.ext (Pipeline.Window.rect_emb_val_of_index_zero win0_28 t0_0 a (index_zero 28 a) j))
theorem in29 : iblk m c 29 t0_0 = m ((c : Thread nD τ).loc main_arg29) := funext fun j =>
  congrArg (m ((c : Thread nD τ).loc main_arg29)) (funext fun a => Fin.ext (Pipeline.Window.rect_emb_val_of_index_zero win0_29 t0_0 a (index_zero 29 a) j))
theorem in30 : iblk m c 30 t0_0 = m ((c : Thread nD τ).loc main_arg30) := funext fun j =>
  congrArg (m ((c : Thread nD τ).loc main_arg30)) (funext fun a => Fin.ext (Pipeline.Window.rect_emb_val_of_index_zero win0_30 t0_0 a (index_zero 30 a) j))
theorem in31 : iblk m c 31 t0_0 = m ((c : Thread nD τ).loc main_arg31) := funext fun j =>
  congrArg (m ((c : Thread nD τ).loc main_arg31)) (funext fun a => Fin.ext (Pipeline.Window.rect_emb_val_of_index_zero win0_31 t0_0 a (index_zero 31 a) j))
theorem in32 : iblk m c 32 t0_0 = m ((c : Thread nD τ).loc main_arg32) := funext fun j =>
  congrArg (m ((c : Thread nD τ).loc main_arg32)) (funext fun a => Fin.ext (Pipeline.Window.rect_emb_val_of_index_zero win0_32 t0_0 a (index_zero 32 a) j))
theorem in33 : iblk m c 33 t0_0 = m ((c : Thread nD τ).loc main_arg33) := funext fun j =>
  congrArg (m ((c : Thread nD τ).loc main_arg33)) (funext fun a => Fin.ext (Pipeline.Window.rect_emb_val_of_index_zero win0_33 t0_0 a (index_zero 33 a) j))
theorem in34 : iblk m c 34 t0_0 = m ((c : Thread nD τ).loc main_arg34) := funext fun j =>
  congrArg (m ((c : Thread nD τ).loc main_arg34)) (funext fun a => Fin.ext (Pipeline.Window.rect_emb_val_of_index_zero win0_34 t0_0 a (index_zero 34 a) j))
theorem in35 : iblk m c 35 t0_0 = m ((c : Thread nD τ).loc main_arg35) := funext fun j =>
  congrArg (m ((c : Thread nD τ).loc main_arg35)) (funext fun a => Fin.ext (Pipeline.Window.rect_emb_val_of_index_zero win0_35 t0_0 a (index_zero 35 a) j))
theorem in36 : iblk m c 36 t0_0 = m ((c : Thread nD τ).loc main_arg36) := funext fun j =>
  congrArg (m ((c : Thread nD τ).loc main_arg36)) (funext fun a => Fin.ext (Pipeline.Window.rect_emb_val_of_index_zero win0_36 t0_0 a (index_zero 36 a) j))
theorem in37 : iblk m c 37 t0_0 = m ((c : Thread nD τ).loc main_arg37) := funext fun j =>
  congrArg (m ((c : Thread nD τ).loc main_arg37)) (funext fun a => Fin.ext (Pipeline.Window.rect_emb_val_of_index_zero win0_37 t0_0 a (index_zero 37 a) j))
theorem in38 : iblk m c 38 t0_0 = m ((c : Thread nD τ).loc main_arg38) := funext fun j =>
  congrArg (m ((c : Thread nD τ).loc main_arg38)) (funext fun a => Fin.ext (Pipeline.Window.rect_emb_val_of_index_zero win0_38 t0_0 a (index_zero 38 a) j))
theorem in39 : iblk m c 39 t0_0 = m ((c : Thread nD τ).loc main_arg39) := funext fun j =>
  congrArg (m ((c : Thread nD τ).loc main_arg39)) (funext fun a => Fin.ext (Pipeline.Window.rect_emb_val_of_index_zero win0_39 t0_0 a (index_zero 39 a) j))
theorem in40 : iblk m c 40 t0_0 = m ((c : Thread nD τ).loc main_arg40) := funext fun j =>
  congrArg (m ((c : Thread nD τ).loc main_arg40)) (funext fun a => Fin.ext (Pipeline.Window.rect_emb_val_of_index_zero win0_40 t0_0 a (index_zero 40 a) j))
theorem in41 : iblk m c 41 t0_0 = m ((c : Thread nD τ).loc main_arg41) := funext fun j =>
  congrArg (m ((c : Thread nD τ).loc main_arg41)) (funext fun a => Fin.ext (Pipeline.Window.rect_emb_val_of_index_zero win0_41 t0_0 a (index_zero 41 a) j))

/-! ## Whole buffers, loaded and stored -/

theorem put1 (v : FVec Ideal S1x1024 .f32) : put (F := Ideal) r0_1 v = v := View.canon_cons_unit_lit _ _ _ (by decide)
theorem ld1 {v w : FVec Ideal S1x1024 .f32} (h : v = w) : load v r0_1 = w := (View.ld_unit_lit _ _ (by decide)).trans h
theorem put2 (v : FVec Ideal S16x32 .f32) : put (F := Ideal) r0_2 v = v := View.canon_cons_unit_lit _ _ _ (by decide)
theorem ld2 {v w : FVec Ideal S16x32 .f32} (h : v = w) : load v r0_2 = w := (View.ld_unit_lit _ _ (by decide)).trans h
theorem put4 (v : FVec Ideal S1x256 .f32) : put (F := Ideal) r0_4 v = v := View.canon_cons_unit_lit _ _ _ (by decide)
theorem ld4 {v w : FVec Ideal S1x256 .f32} (h : v = w) : load v r0_4 = w := (View.ld_unit_lit _ _ (by decide)).trans h
theorem put7 (v : FVec Ideal S1x512 .f32) : put (F := Ideal) r0_7 v = v := View.canon_cons_unit_lit _ _ _ (by decide)
theorem ld7 {v w : FVec Ideal S1x512 .f32} (h : v = w) : load v r0_7 = w := (View.ld_unit_lit _ _ (by decide)).trans h
theorem put11 (v : FVec Ideal S512x128 .f32) : put (F := Ideal) r0_11 v = v := View.canon_cons_unit_lit _ _ _ (by decide)
theorem ld11 {v w : FVec Ideal S512x128 .f32} (h : v = w) : load v r0_11 = w := (View.ld_unit_lit _ _ (by decide)).trans h
theorem put13 (v : FVec Ideal S4x128 .f32) : put (F := Ideal) r0_13 v = v := View.canon_cons_unit_lit _ _ _ (by decide)
theorem ld13 {v w : FVec Ideal S4x128 .f32} (h : v = w) : load v r0_13 = w := (View.ld_unit_lit _ _ (by decide)).trans h

/-! ## The gradients and the steps -/

/-- The gradient of norm1_g: rows of a stack. -/
abbrev g0 : FVec Ideal S1x1024 .f32 := extractStridedSlice (s := S8x1024) S1x1024 ![0, 0] (m ((c : Thread nD τ).loc main_arg0))
theorem grad0 : load (iblk m c 0 t0_0) r0_0 = g0 m c := (congrArg (fun x => load x r0_0) (in0 m c)).trans (rows _ _ _ _ _)

/-- The gradient of w_decay_f: a whole stack. -/
abbrev g1 : FVec Ideal S16x32 .f32 := m ((c : Thread nD τ).loc main_arg1)
theorem grad1 : load (iblk m c 1 t0_0) r0_2 = g1 m c := ld2 (in1 m c)

/-- The gradient of b_decay_f: rows of a stack. -/
abbrev g2 : FVec Ideal S1x256 .f32 := extractStridedSlice (s := S40x256) S1x256 ![0, 0] (m ((c : Thread nD τ).loc main_arg2))
theorem grad2 : load (iblk m c 2 t0_0) r0_3 = g2 m c := (congrArg (fun x => load x r0_3) (in2 m c)).trans (rows _ _ _ _ _)

/-- The gradient of w_decay_b: a whole stack. -/
abbrev g3 : FVec Ideal S16x32 .f32 := m ((c : Thread nD τ).loc main_arg3)
theorem grad3 : load (iblk m c 3 t0_0) r0_2 = g3 m c := ld2 (in3 m c)

/-- The gradient of b_decay_b: rows of a stack. -/
abbrev g4 : FVec Ideal S1x256 .f32 := extractStridedSlice (s := S40x256) S1x256 ![1, 0] (m ((c : Thread nD τ).loc main_arg2))
theorem grad4 : load (iblk m c 2 t0_0) r0_5 = g4 m c := (congrArg (fun x => load x r0_5) (in2 m c)).trans (rows _ _ _ _ _)

/-- The gradient of gla_norm_g: rows of a stack. -/
abbrev g5 : FVec Ideal S1x512 .f32 := extractStridedSlice (s := S8x512) S1x512 ![0, 0] (m ((c : Thread nD τ).loc main_arg4))
theorem grad5 : load (iblk m c 4 t0_0) r0_6 = g5 m c := (congrArg (fun x => load x r0_6) (in4 m c)).trans (rows _ _ _ _ _)

/-- The gradient of gmlp_ln_g: rows of a stack. -/
abbrev g6 : FVec Ideal S1x512 .f32 := extractStridedSlice (s := S8x512) S1x512 ![1, 0] (m ((c : Thread nD τ).loc main_arg4))
theorem grad6 : load (iblk m c 4 t0_0) r0_8 = g6 m c := (congrArg (fun x => load x r0_8) (in4 m c)).trans (rows _ _ _ _ _)

/-- The gradient of gmlp_ln_b: rows of a stack. -/
abbrev g7 : FVec Ideal S1x512 .f32 := extractStridedSlice (s := S8x512) S1x512 ![2, 0] (m ((c : Thread nD τ).loc main_arg4))
theorem grad7 : load (iblk m c 4 t0_0) r0_9 = g7 m c := (congrArg (fun x => load x r0_9) (in4 m c)).trans (rows _ _ _ _ _)

/-- The gradient of w_spatial: rows of a stack. -/
abbrev g8 : FVec Ideal S512x128 .f32 := extractStridedSlice (s := S520x128) S512x128 ![0, 0] (m ((c : Thread nD τ).loc main_arg5))
theorem grad8 : load (iblk m c 5 t0_0) r0_10 = g8 m c := (congrArg (fun x => load x r0_10) (in5 m c)).trans (rows _ _ _ _ _)

/-- The gradient of b_spatial: rows of a stack. -/
abbrev g9 : FVec Ideal S4x128 .f32 := extractStridedSlice (s := S520x128) S4x128 ![512, 0] (m ((c : Thread nD τ).loc main_arg5))
theorem grad9 : load (iblk m c 5 t0_0) r0_12 = g9 m c := (congrArg (fun x => load x r0_12) (in5 m c)).trans (rows _ _ _ _ _)

/-- The gradient of norm2_g: rows of a stack. -/
abbrev g10 : FVec Ideal S1x1024 .f32 := extractStridedSlice (s := S8x1024) S1x1024 ![1, 0] (m ((c : Thread nD τ).loc main_arg0))
theorem grad10 : load (iblk m c 0 t0_0) r0_14 = g10 m c := (congrArg (fun x => load x r0_14) (in0 m c)).trans (rows _ _ _ _ _)

/-- The gradient of final_norm_g: rows of a stack. -/
abbrev g11 : FVec Ideal S1x1024 .f32 := extractStridedSlice (s := S8x1024) S1x1024 ![2, 0] (m ((c : Thread nD τ).loc main_arg0))
theorem grad11 : load (iblk m c 0 t0_0) r0_15 = g11 m c := (congrArg (fun x => load x r0_15) (in0 m c)).trans (rows _ _ _ _ _)

/-! ## The 48 results -/

theorem out42 : (dats m 0 c).arrAt 42 cfg0.N = (g0 m c : FVec Ideal S1x1024 .f32) :=
  (dats m 0 c).arrAt_eq_of_after_last 42 t0_0 (whole_out 42 rfl) _ fun j =>
    Eq.trans (b := put (F := Ideal) r0_1 (View.ld (iblk m c 0 t0_0) r0_0) j) (by chain_rfl) (congrFun ((put1 _).trans (grad0 m c)) j)
theorem out43 : (dats m 0 c).arrAt 43 cfg0.N = (step (g0 m c) (m ((c : Thread nD τ).loc main_arg6)) (m ((c : Thread nD τ).loc main_arg7)) (m ((c : Thread nD τ).loc main_arg8)) : FVec Ideal S1x1024 .f32) :=
  (dats m 0 c).arrAt_eq_of_after_last 43 t0_0 (whole_out 43 rfl) _ fun j =>
    Eq.trans (b := put (F := Ideal) r0_1 (k0_pay3 (View.ld (iblk m c 0 t0_0) r0_0) (View.ld (iblk m c 6 t0_0) r0_1) (View.ld (iblk m c 7 t0_0) r0_1) (View.ld (iblk m c 8 t0_0) r0_1)) j) (by chain_rfl) (congrFun ((put1 _).trans ((entry (grad0 m c) (ld1 (in6 m c)) (ld1 (in7 m c)) (ld1 (in8 m c))).1)) j)
theorem out44 : (dats m 0 c).arrAt 44 cfg0.N = (mom1 (g0 m c) (m ((c : Thread nD τ).loc main_arg7)) : FVec Ideal S1x1024 .f32) :=
  (dats m 0 c).arrAt_eq_of_after_last 44 t0_0 (whole_out 44 rfl) _ fun j =>
    Eq.trans (b := put (F := Ideal) r0_1 (k0_pay1 (View.ld (iblk m c 0 t0_0) r0_0) (View.ld (iblk m c 7 t0_0) r0_1)) j) (by chain_rfl) (congrFun ((put1 _).trans ((entry (grad0 m c) (ld1 (in6 m c)) (ld1 (in7 m c)) (ld1 (in8 m c))).2.1)) j)
theorem out45 : (dats m 0 c).arrAt 45 cfg0.N = (mom2 (g0 m c) (m ((c : Thread nD τ).loc main_arg8)) : FVec Ideal S1x1024 .f32) :=
  (dats m 0 c).arrAt_eq_of_after_last 45 t0_0 (whole_out 45 rfl) _ fun j =>
    Eq.trans (b := put (F := Ideal) r0_1 (k0_pay2 (View.ld (iblk m c 0 t0_0) r0_0) (View.ld (iblk m c 8 t0_0) r0_1)) j) (by chain_rfl) (congrFun ((put1 _).trans ((entry (grad0 m c) (ld1 (in6 m c)) (ld1 (in7 m c)) (ld1 (in8 m c))).2.2)) j)

theorem out46 : (dats m 0 c).arrAt 46 cfg0.N = (g1 m c : FVec Ideal S16x32 .f32) :=
  (dats m 0 c).arrAt_eq_of_after_last 46 t0_0 (whole_out 46 rfl) _ fun j =>
    Eq.trans (b := put (F := Ideal) r0_2 (View.ld (iblk m c 1 t0_0) r0_2) j) (by chain_rfl) (congrFun ((put2 _).trans (grad1 m c)) j)
theorem out47 : (dats m 0 c).arrAt 47 cfg0.N = (step (g1 m c) (m ((c : Thread nD τ).loc main_arg9)) (m ((c : Thread nD τ).loc main_arg10)) (m ((c : Thread nD τ).loc main_arg11)) : FVec Ideal S16x32 .f32) :=
  (dats m 0 c).arrAt_eq_of_after_last 47 t0_0 (whole_out 47 rfl) _ fun j =>
    Eq.trans (b := put (F := Ideal) r0_2 (k0_pay6 (View.ld (iblk m c 1 t0_0) r0_2) (View.ld (iblk m c 9 t0_0) r0_2) (View.ld (iblk m c 10 t0_0) r0_2) (View.ld (iblk m c 11 t0_0) r0_2)) j) (by chain_rfl) (congrFun ((put2 _).trans ((entry (grad1 m c) (ld2 (in9 m c)) (ld2 (in10 m c)) (ld2 (in11 m c))).1)) j)
theorem out48 : (dats m 0 c).arrAt 48 cfg0.N = (mom1 (g1 m c) (m ((c : Thread nD τ).loc main_arg10)) : FVec Ideal S16x32 .f32) :=
  (dats m 0 c).arrAt_eq_of_after_last 48 t0_0 (whole_out 48 rfl) _ fun j =>
    Eq.trans (b := put (F := Ideal) r0_2 (k0_pay4 (View.ld (iblk m c 1 t0_0) r0_2) (View.ld (iblk m c 10 t0_0) r0_2)) j) (by chain_rfl) (congrFun ((put2 _).trans ((entry (grad1 m c) (ld2 (in9 m c)) (ld2 (in10 m c)) (ld2 (in11 m c))).2.1)) j)
theorem out49 : (dats m 0 c).arrAt 49 cfg0.N = (mom2 (g1 m c) (m ((c : Thread nD τ).loc main_arg11)) : FVec Ideal S16x32 .f32) :=
  (dats m 0 c).arrAt_eq_of_after_last 49 t0_0 (whole_out 49 rfl) _ fun j =>
    Eq.trans (b := put (F := Ideal) r0_2 (k0_pay5 (View.ld (iblk m c 1 t0_0) r0_2) (View.ld (iblk m c 11 t0_0) r0_2)) j) (by chain_rfl) (congrFun ((put2 _).trans ((entry (grad1 m c) (ld2 (in9 m c)) (ld2 (in10 m c)) (ld2 (in11 m c))).2.2)) j)

theorem out50 : (dats m 0 c).arrAt 50 cfg0.N = (g2 m c : FVec Ideal S1x256 .f32) :=
  (dats m 0 c).arrAt_eq_of_after_last 50 t0_0 (whole_out 50 rfl) _ fun j =>
    Eq.trans (b := put (F := Ideal) r0_4 (View.ld (iblk m c 2 t0_0) r0_3) j) (by chain_rfl) (congrFun ((put4 _).trans (grad2 m c)) j)
theorem out51 : (dats m 0 c).arrAt 51 cfg0.N = (step (g2 m c) (m ((c : Thread nD τ).loc main_arg12)) (m ((c : Thread nD τ).loc main_arg13)) (m ((c : Thread nD τ).loc main_arg14)) : FVec Ideal S1x256 .f32) :=
  (dats m 0 c).arrAt_eq_of_after_last 51 t0_0 (whole_out 51 rfl) _ fun j =>
    Eq.trans (b := put (F := Ideal) r0_4 (k0_pay9 (View.ld (iblk m c 2 t0_0) r0_3) (View.ld (iblk m c 12 t0_0) r0_4) (View.ld (iblk m c 13 t0_0) r0_4) (View.ld (iblk m c 14 t0_0) r0_4)) j) (by chain_rfl) (congrFun ((put4 _).trans ((entry (grad2 m c) (ld4 (in12 m c)) (ld4 (in13 m c)) (ld4 (in14 m c))).1)) j)
theorem out52 : (dats m 0 c).arrAt 52 cfg0.N = (mom1 (g2 m c) (m ((c : Thread nD τ).loc main_arg13)) : FVec Ideal S1x256 .f32) :=
  (dats m 0 c).arrAt_eq_of_after_last 52 t0_0 (whole_out 52 rfl) _ fun j =>
    Eq.trans (b := put (F := Ideal) r0_4 (k0_pay7 (View.ld (iblk m c 2 t0_0) r0_3) (View.ld (iblk m c 13 t0_0) r0_4)) j) (by chain_rfl) (congrFun ((put4 _).trans ((entry (grad2 m c) (ld4 (in12 m c)) (ld4 (in13 m c)) (ld4 (in14 m c))).2.1)) j)
theorem out53 : (dats m 0 c).arrAt 53 cfg0.N = (mom2 (g2 m c) (m ((c : Thread nD τ).loc main_arg14)) : FVec Ideal S1x256 .f32) :=
  (dats m 0 c).arrAt_eq_of_after_last 53 t0_0 (whole_out 53 rfl) _ fun j =>
    Eq.trans (b := put (F := Ideal) r0_4 (k0_pay8 (View.ld (iblk m c 2 t0_0) r0_3) (View.ld (iblk m c 14 t0_0) r0_4)) j) (by chain_rfl) (congrFun ((put4 _).trans ((entry (grad2 m c) (ld4 (in12 m c)) (ld4 (in13 m c)) (ld4 (in14 m c))).2.2)) j)

theorem out54 : (dats m 0 c).arrAt 54 cfg0.N = (g3 m c : FVec Ideal S16x32 .f32) :=
  (dats m 0 c).arrAt_eq_of_after_last 54 t0_0 (whole_out 54 rfl) _ fun j =>
    Eq.trans (b := put (F := Ideal) r0_2 (View.ld (iblk m c 3 t0_0) r0_2) j) (by chain_rfl) (congrFun ((put2 _).trans (grad3 m c)) j)
theorem out55 : (dats m 0 c).arrAt 55 cfg0.N = (step (g3 m c) (m ((c : Thread nD τ).loc main_arg15)) (m ((c : Thread nD τ).loc main_arg16)) (m ((c : Thread nD τ).loc main_arg17)) : FVec Ideal S16x32 .f32) :=
  (dats m 0 c).arrAt_eq_of_after_last 55 t0_0 (whole_out 55 rfl) _ fun j =>
    Eq.trans (b := put (F := Ideal) r0_2 (k0_pay12 (View.ld (iblk m c 3 t0_0) r0_2) (View.ld (iblk m c 15 t0_0) r0_2) (View.ld (iblk m c 16 t0_0) r0_2) (View.ld (iblk m c 17 t0_0) r0_2)) j) (by chain_rfl) (congrFun ((put2 _).trans ((entry (grad3 m c) (ld2 (in15 m c)) (ld2 (in16 m c)) (ld2 (in17 m c))).1)) j)
theorem out56 : (dats m 0 c).arrAt 56 cfg0.N = (mom1 (g3 m c) (m ((c : Thread nD τ).loc main_arg16)) : FVec Ideal S16x32 .f32) :=
  (dats m 0 c).arrAt_eq_of_after_last 56 t0_0 (whole_out 56 rfl) _ fun j =>
    Eq.trans (b := put (F := Ideal) r0_2 (k0_pay10 (View.ld (iblk m c 3 t0_0) r0_2) (View.ld (iblk m c 16 t0_0) r0_2)) j) (by chain_rfl) (congrFun ((put2 _).trans ((entry (grad3 m c) (ld2 (in15 m c)) (ld2 (in16 m c)) (ld2 (in17 m c))).2.1)) j)
theorem out57 : (dats m 0 c).arrAt 57 cfg0.N = (mom2 (g3 m c) (m ((c : Thread nD τ).loc main_arg17)) : FVec Ideal S16x32 .f32) :=
  (dats m 0 c).arrAt_eq_of_after_last 57 t0_0 (whole_out 57 rfl) _ fun j =>
    Eq.trans (b := put (F := Ideal) r0_2 (k0_pay11 (View.ld (iblk m c 3 t0_0) r0_2) (View.ld (iblk m c 17 t0_0) r0_2)) j) (by chain_rfl) (congrFun ((put2 _).trans ((entry (grad3 m c) (ld2 (in15 m c)) (ld2 (in16 m c)) (ld2 (in17 m c))).2.2)) j)

theorem out58 : (dats m 0 c).arrAt 58 cfg0.N = (g4 m c : FVec Ideal S1x256 .f32) :=
  (dats m 0 c).arrAt_eq_of_after_last 58 t0_0 (whole_out 58 rfl) _ fun j =>
    Eq.trans (b := put (F := Ideal) r0_4 (View.ld (iblk m c 2 t0_0) r0_5) j) (by chain_rfl) (congrFun ((put4 _).trans (grad4 m c)) j)
theorem out59 : (dats m 0 c).arrAt 59 cfg0.N = (step (g4 m c) (m ((c : Thread nD τ).loc main_arg18)) (m ((c : Thread nD τ).loc main_arg19)) (m ((c : Thread nD τ).loc main_arg20)) : FVec Ideal S1x256 .f32) :=
  (dats m 0 c).arrAt_eq_of_after_last 59 t0_0 (whole_out 59 rfl) _ fun j =>
    Eq.trans (b := put (F := Ideal) r0_4 (k0_pay15 (View.ld (iblk m c 2 t0_0) r0_5) (View.ld (iblk m c 18 t0_0) r0_4) (View.ld (iblk m c 19 t0_0) r0_4) (View.ld (iblk m c 20 t0_0) r0_4)) j) (by chain_rfl) (congrFun ((put4 _).trans ((entry (grad4 m c) (ld4 (in18 m c)) (ld4 (in19 m c)) (ld4 (in20 m c))).1)) j)
theorem out60 : (dats m 0 c).arrAt 60 cfg0.N = (mom1 (g4 m c) (m ((c : Thread nD τ).loc main_arg19)) : FVec Ideal S1x256 .f32) :=
  (dats m 0 c).arrAt_eq_of_after_last 60 t0_0 (whole_out 60 rfl) _ fun j =>
    Eq.trans (b := put (F := Ideal) r0_4 (k0_pay13 (View.ld (iblk m c 2 t0_0) r0_5) (View.ld (iblk m c 19 t0_0) r0_4)) j) (by chain_rfl) (congrFun ((put4 _).trans ((entry (grad4 m c) (ld4 (in18 m c)) (ld4 (in19 m c)) (ld4 (in20 m c))).2.1)) j)
theorem out61 : (dats m 0 c).arrAt 61 cfg0.N = (mom2 (g4 m c) (m ((c : Thread nD τ).loc main_arg20)) : FVec Ideal S1x256 .f32) :=
  (dats m 0 c).arrAt_eq_of_after_last 61 t0_0 (whole_out 61 rfl) _ fun j =>
    Eq.trans (b := put (F := Ideal) r0_4 (k0_pay14 (View.ld (iblk m c 2 t0_0) r0_5) (View.ld (iblk m c 20 t0_0) r0_4)) j) (by chain_rfl) (congrFun ((put4 _).trans ((entry (grad4 m c) (ld4 (in18 m c)) (ld4 (in19 m c)) (ld4 (in20 m c))).2.2)) j)

theorem out62 : (dats m 0 c).arrAt 62 cfg0.N = (g5 m c : FVec Ideal S1x512 .f32) :=
  (dats m 0 c).arrAt_eq_of_after_last 62 t0_0 (whole_out 62 rfl) _ fun j =>
    Eq.trans (b := put (F := Ideal) r0_7 (View.ld (iblk m c 4 t0_0) r0_6) j) (by chain_rfl) (congrFun ((put7 _).trans (grad5 m c)) j)
theorem out63 : (dats m 0 c).arrAt 63 cfg0.N = (step (g5 m c) (m ((c : Thread nD τ).loc main_arg21)) (m ((c : Thread nD τ).loc main_arg22)) (m ((c : Thread nD τ).loc main_arg23)) : FVec Ideal S1x512 .f32) :=
  (dats m 0 c).arrAt_eq_of_after_last 63 t0_0 (whole_out 63 rfl) _ fun j =>
    Eq.trans (b := put (F := Ideal) r0_7 (k0_pay18 (View.ld (iblk m c 4 t0_0) r0_6) (View.ld (iblk m c 21 t0_0) r0_7) (View.ld (iblk m c 22 t0_0) r0_7) (View.ld (iblk m c 23 t0_0) r0_7)) j) (by chain_rfl) (congrFun ((put7 _).trans ((entry (grad5 m c) (ld7 (in21 m c)) (ld7 (in22 m c)) (ld7 (in23 m c))).1)) j)
theorem out64 : (dats m 0 c).arrAt 64 cfg0.N = (mom1 (g5 m c) (m ((c : Thread nD τ).loc main_arg22)) : FVec Ideal S1x512 .f32) :=
  (dats m 0 c).arrAt_eq_of_after_last 64 t0_0 (whole_out 64 rfl) _ fun j =>
    Eq.trans (b := put (F := Ideal) r0_7 (k0_pay16 (View.ld (iblk m c 4 t0_0) r0_6) (View.ld (iblk m c 22 t0_0) r0_7)) j) (by chain_rfl) (congrFun ((put7 _).trans ((entry (grad5 m c) (ld7 (in21 m c)) (ld7 (in22 m c)) (ld7 (in23 m c))).2.1)) j)
theorem out65 : (dats m 0 c).arrAt 65 cfg0.N = (mom2 (g5 m c) (m ((c : Thread nD τ).loc main_arg23)) : FVec Ideal S1x512 .f32) :=
  (dats m 0 c).arrAt_eq_of_after_last 65 t0_0 (whole_out 65 rfl) _ fun j =>
    Eq.trans (b := put (F := Ideal) r0_7 (k0_pay17 (View.ld (iblk m c 4 t0_0) r0_6) (View.ld (iblk m c 23 t0_0) r0_7)) j) (by chain_rfl) (congrFun ((put7 _).trans ((entry (grad5 m c) (ld7 (in21 m c)) (ld7 (in22 m c)) (ld7 (in23 m c))).2.2)) j)

theorem out66 : (dats m 0 c).arrAt 66 cfg0.N = (g6 m c : FVec Ideal S1x512 .f32) :=
  (dats m 0 c).arrAt_eq_of_after_last 66 t0_0 (whole_out 66 rfl) _ fun j =>
    Eq.trans (b := put (F := Ideal) r0_7 (View.ld (iblk m c 4 t0_0) r0_8) j) (by chain_rfl) (congrFun ((put7 _).trans (grad6 m c)) j)
theorem out67 : (dats m 0 c).arrAt 67 cfg0.N = (step (g6 m c) (m ((c : Thread nD τ).loc main_arg24)) (m ((c : Thread nD τ).loc main_arg25)) (m ((c : Thread nD τ).loc main_arg26)) : FVec Ideal S1x512 .f32) :=
  (dats m 0 c).arrAt_eq_of_after_last 67 t0_0 (whole_out 67 rfl) _ fun j =>
    Eq.trans (b := put (F := Ideal) r0_7 (k0_pay21 (View.ld (iblk m c 4 t0_0) r0_8) (View.ld (iblk m c 24 t0_0) r0_7) (View.ld (iblk m c 25 t0_0) r0_7) (View.ld (iblk m c 26 t0_0) r0_7)) j) (by chain_rfl) (congrFun ((put7 _).trans ((entry (grad6 m c) (ld7 (in24 m c)) (ld7 (in25 m c)) (ld7 (in26 m c))).1)) j)
theorem out68 : (dats m 0 c).arrAt 68 cfg0.N = (mom1 (g6 m c) (m ((c : Thread nD τ).loc main_arg25)) : FVec Ideal S1x512 .f32) :=
  (dats m 0 c).arrAt_eq_of_after_last 68 t0_0 (whole_out 68 rfl) _ fun j =>
    Eq.trans (b := put (F := Ideal) r0_7 (k0_pay19 (View.ld (iblk m c 4 t0_0) r0_8) (View.ld (iblk m c 25 t0_0) r0_7)) j) (by chain_rfl) (congrFun ((put7 _).trans ((entry (grad6 m c) (ld7 (in24 m c)) (ld7 (in25 m c)) (ld7 (in26 m c))).2.1)) j)
theorem out69 : (dats m 0 c).arrAt 69 cfg0.N = (mom2 (g6 m c) (m ((c : Thread nD τ).loc main_arg26)) : FVec Ideal S1x512 .f32) :=
  (dats m 0 c).arrAt_eq_of_after_last 69 t0_0 (whole_out 69 rfl) _ fun j =>
    Eq.trans (b := put (F := Ideal) r0_7 (k0_pay20 (View.ld (iblk m c 4 t0_0) r0_8) (View.ld (iblk m c 26 t0_0) r0_7)) j) (by chain_rfl) (congrFun ((put7 _).trans ((entry (grad6 m c) (ld7 (in24 m c)) (ld7 (in25 m c)) (ld7 (in26 m c))).2.2)) j)

theorem out70 : (dats m 0 c).arrAt 70 cfg0.N = (g7 m c : FVec Ideal S1x512 .f32) :=
  (dats m 0 c).arrAt_eq_of_after_last 70 t0_0 (whole_out 70 rfl) _ fun j =>
    Eq.trans (b := put (F := Ideal) r0_7 (View.ld (iblk m c 4 t0_0) r0_9) j) (by chain_rfl) (congrFun ((put7 _).trans (grad7 m c)) j)
theorem out71 : (dats m 0 c).arrAt 71 cfg0.N = (step (g7 m c) (m ((c : Thread nD τ).loc main_arg27)) (m ((c : Thread nD τ).loc main_arg28)) (m ((c : Thread nD τ).loc main_arg29)) : FVec Ideal S1x512 .f32) :=
  (dats m 0 c).arrAt_eq_of_after_last 71 t0_0 (whole_out 71 rfl) _ fun j =>
    Eq.trans (b := put (F := Ideal) r0_7 (k0_pay24 (View.ld (iblk m c 4 t0_0) r0_9) (View.ld (iblk m c 27 t0_0) r0_7) (View.ld (iblk m c 28 t0_0) r0_7) (View.ld (iblk m c 29 t0_0) r0_7)) j) (by chain_rfl) (congrFun ((put7 _).trans ((entry (grad7 m c) (ld7 (in27 m c)) (ld7 (in28 m c)) (ld7 (in29 m c))).1)) j)
theorem out72 : (dats m 0 c).arrAt 72 cfg0.N = (mom1 (g7 m c) (m ((c : Thread nD τ).loc main_arg28)) : FVec Ideal S1x512 .f32) :=
  (dats m 0 c).arrAt_eq_of_after_last 72 t0_0 (whole_out 72 rfl) _ fun j =>
    Eq.trans (b := put (F := Ideal) r0_7 (k0_pay22 (View.ld (iblk m c 4 t0_0) r0_9) (View.ld (iblk m c 28 t0_0) r0_7)) j) (by chain_rfl) (congrFun ((put7 _).trans ((entry (grad7 m c) (ld7 (in27 m c)) (ld7 (in28 m c)) (ld7 (in29 m c))).2.1)) j)
theorem out73 : (dats m 0 c).arrAt 73 cfg0.N = (mom2 (g7 m c) (m ((c : Thread nD τ).loc main_arg29)) : FVec Ideal S1x512 .f32) :=
  (dats m 0 c).arrAt_eq_of_after_last 73 t0_0 (whole_out 73 rfl) _ fun j =>
    Eq.trans (b := put (F := Ideal) r0_7 (k0_pay23 (View.ld (iblk m c 4 t0_0) r0_9) (View.ld (iblk m c 29 t0_0) r0_7)) j) (by chain_rfl) (congrFun ((put7 _).trans ((entry (grad7 m c) (ld7 (in27 m c)) (ld7 (in28 m c)) (ld7 (in29 m c))).2.2)) j)

theorem out74 : (dats m 0 c).arrAt 74 cfg0.N = (g8 m c : FVec Ideal S512x128 .f32) :=
  (dats m 0 c).arrAt_eq_of_after_last 74 t0_0 (whole_out 74 rfl) _ fun j =>
    Eq.trans (b := put (F := Ideal) r0_11 (View.ld (iblk m c 5 t0_0) r0_10) j) (by chain_rfl) (congrFun ((put11 _).trans (grad8 m c)) j)
theorem out75 : (dats m 0 c).arrAt 75 cfg0.N = (step (g8 m c) (m ((c : Thread nD τ).loc main_arg30)) (m ((c : Thread nD τ).loc main_arg31)) (m ((c : Thread nD τ).loc main_arg32)) : FVec Ideal S512x128 .f32) :=
  (dats m 0 c).arrAt_eq_of_after_last 75 t0_0 (whole_out 75 rfl) _ fun j =>
    Eq.trans (b := put (F := Ideal) r0_11 (k0_pay27 (View.ld (iblk m c 5 t0_0) r0_10) (View.ld (iblk m c 30 t0_0) r0_11) (View.ld (iblk m c 31 t0_0) r0_11) (View.ld (iblk m c 32 t0_0) r0_11)) j) (by chain_rfl) (congrFun ((put11 _).trans ((entry (grad8 m c) (ld11 (in30 m c)) (ld11 (in31 m c)) (ld11 (in32 m c))).1)) j)
theorem out76 : (dats m 0 c).arrAt 76 cfg0.N = (mom1 (g8 m c) (m ((c : Thread nD τ).loc main_arg31)) : FVec Ideal S512x128 .f32) :=
  (dats m 0 c).arrAt_eq_of_after_last 76 t0_0 (whole_out 76 rfl) _ fun j =>
    Eq.trans (b := put (F := Ideal) r0_11 (k0_pay25 (View.ld (iblk m c 5 t0_0) r0_10) (View.ld (iblk m c 31 t0_0) r0_11)) j) (by chain_rfl) (congrFun ((put11 _).trans ((entry (grad8 m c) (ld11 (in30 m c)) (ld11 (in31 m c)) (ld11 (in32 m c))).2.1)) j)
theorem out77 : (dats m 0 c).arrAt 77 cfg0.N = (mom2 (g8 m c) (m ((c : Thread nD τ).loc main_arg32)) : FVec Ideal S512x128 .f32) :=
  (dats m 0 c).arrAt_eq_of_after_last 77 t0_0 (whole_out 77 rfl) _ fun j =>
    Eq.trans (b := put (F := Ideal) r0_11 (k0_pay26 (View.ld (iblk m c 5 t0_0) r0_10) (View.ld (iblk m c 32 t0_0) r0_11)) j) (by chain_rfl) (congrFun ((put11 _).trans ((entry (grad8 m c) (ld11 (in30 m c)) (ld11 (in31 m c)) (ld11 (in32 m c))).2.2)) j)

theorem out78 : (dats m 0 c).arrAt 78 cfg0.N = (g9 m c : FVec Ideal S4x128 .f32) :=
  (dats m 0 c).arrAt_eq_of_after_last 78 t0_0 (whole_out 78 rfl) _ fun j =>
    Eq.trans (b := put (F := Ideal) r0_13 (View.ld (iblk m c 5 t0_0) r0_12) j) (by chain_rfl) (congrFun ((put13 _).trans (grad9 m c)) j)
theorem out79 : (dats m 0 c).arrAt 79 cfg0.N = (step (g9 m c) (m ((c : Thread nD τ).loc main_arg33)) (m ((c : Thread nD τ).loc main_arg34)) (m ((c : Thread nD τ).loc main_arg35)) : FVec Ideal S4x128 .f32) :=
  (dats m 0 c).arrAt_eq_of_after_last 79 t0_0 (whole_out 79 rfl) _ fun j =>
    Eq.trans (b := put (F := Ideal) r0_13 (k0_pay30 (View.ld (iblk m c 5 t0_0) r0_12) (View.ld (iblk m c 33 t0_0) r0_13) (View.ld (iblk m c 34 t0_0) r0_13) (View.ld (iblk m c 35 t0_0) r0_13)) j) (by chain_rfl) (congrFun ((put13 _).trans ((entry (grad9 m c) (ld13 (in33 m c)) (ld13 (in34 m c)) (ld13 (in35 m c))).1)) j)
theorem out80 : (dats m 0 c).arrAt 80 cfg0.N = (mom1 (g9 m c) (m ((c : Thread nD τ).loc main_arg34)) : FVec Ideal S4x128 .f32) :=
  (dats m 0 c).arrAt_eq_of_after_last 80 t0_0 (whole_out 80 rfl) _ fun j =>
    Eq.trans (b := put (F := Ideal) r0_13 (k0_pay28 (View.ld (iblk m c 5 t0_0) r0_12) (View.ld (iblk m c 34 t0_0) r0_13)) j) (by chain_rfl) (congrFun ((put13 _).trans ((entry (grad9 m c) (ld13 (in33 m c)) (ld13 (in34 m c)) (ld13 (in35 m c))).2.1)) j)
theorem out81 : (dats m 0 c).arrAt 81 cfg0.N = (mom2 (g9 m c) (m ((c : Thread nD τ).loc main_arg35)) : FVec Ideal S4x128 .f32) :=
  (dats m 0 c).arrAt_eq_of_after_last 81 t0_0 (whole_out 81 rfl) _ fun j =>
    Eq.trans (b := put (F := Ideal) r0_13 (k0_pay29 (View.ld (iblk m c 5 t0_0) r0_12) (View.ld (iblk m c 35 t0_0) r0_13)) j) (by chain_rfl) (congrFun ((put13 _).trans ((entry (grad9 m c) (ld13 (in33 m c)) (ld13 (in34 m c)) (ld13 (in35 m c))).2.2)) j)

theorem out82 : (dats m 0 c).arrAt 82 cfg0.N = (g10 m c : FVec Ideal S1x1024 .f32) :=
  (dats m 0 c).arrAt_eq_of_after_last 82 t0_0 (whole_out 82 rfl) _ fun j =>
    Eq.trans (b := put (F := Ideal) r0_1 (View.ld (iblk m c 0 t0_0) r0_14) j) (by chain_rfl) (congrFun ((put1 _).trans (grad10 m c)) j)
theorem out83 : (dats m 0 c).arrAt 83 cfg0.N = (step (g10 m c) (m ((c : Thread nD τ).loc main_arg36)) (m ((c : Thread nD τ).loc main_arg37)) (m ((c : Thread nD τ).loc main_arg38)) : FVec Ideal S1x1024 .f32) :=
  (dats m 0 c).arrAt_eq_of_after_last 83 t0_0 (whole_out 83 rfl) _ fun j =>
    Eq.trans (b := put (F := Ideal) r0_1 (k0_pay33 (View.ld (iblk m c 0 t0_0) r0_14) (View.ld (iblk m c 36 t0_0) r0_1) (View.ld (iblk m c 37 t0_0) r0_1) (View.ld (iblk m c 38 t0_0) r0_1)) j) (by chain_rfl) (congrFun ((put1 _).trans ((entry (grad10 m c) (ld1 (in36 m c)) (ld1 (in37 m c)) (ld1 (in38 m c))).1)) j)
theorem out84 : (dats m 0 c).arrAt 84 cfg0.N = (mom1 (g10 m c) (m ((c : Thread nD τ).loc main_arg37)) : FVec Ideal S1x1024 .f32) :=
  (dats m 0 c).arrAt_eq_of_after_last 84 t0_0 (whole_out 84 rfl) _ fun j =>
    Eq.trans (b := put (F := Ideal) r0_1 (k0_pay31 (View.ld (iblk m c 0 t0_0) r0_14) (View.ld (iblk m c 37 t0_0) r0_1)) j) (by chain_rfl) (congrFun ((put1 _).trans ((entry (grad10 m c) (ld1 (in36 m c)) (ld1 (in37 m c)) (ld1 (in38 m c))).2.1)) j)
theorem out85 : (dats m 0 c).arrAt 85 cfg0.N = (mom2 (g10 m c) (m ((c : Thread nD τ).loc main_arg38)) : FVec Ideal S1x1024 .f32) :=
  (dats m 0 c).arrAt_eq_of_after_last 85 t0_0 (whole_out 85 rfl) _ fun j =>
    Eq.trans (b := put (F := Ideal) r0_1 (k0_pay32 (View.ld (iblk m c 0 t0_0) r0_14) (View.ld (iblk m c 38 t0_0) r0_1)) j) (by chain_rfl) (congrFun ((put1 _).trans ((entry (grad10 m c) (ld1 (in36 m c)) (ld1 (in37 m c)) (ld1 (in38 m c))).2.2)) j)

theorem out86 : (dats m 0 c).arrAt 86 cfg0.N = (g11 m c : FVec Ideal S1x1024 .f32) :=
  (dats m 0 c).arrAt_eq_of_after_last 86 t0_0 (whole_out 86 rfl) _ fun j =>
    Eq.trans (b := put (F := Ideal) r0_1 (View.ld (iblk m c 0 t0_0) r0_15) j) (by chain_rfl) (congrFun ((put1 _).trans (grad11 m c)) j)
theorem out87 : (dats m 0 c).arrAt 87 cfg0.N = (step (g11 m c) (m ((c : Thread nD τ).loc main_arg39)) (m ((c : Thread nD τ).loc main_arg40)) (m ((c : Thread nD τ).loc main_arg41)) : FVec Ideal S1x1024 .f32) :=
  (dats m 0 c).arrAt_eq_of_after_last 87 t0_0 (whole_out 87 rfl) _ fun j =>
    Eq.trans (b := put (F := Ideal) r0_1 (k0_pay36 (View.ld (iblk m c 0 t0_0) r0_15) (View.ld (iblk m c 39 t0_0) r0_1) (View.ld (iblk m c 40 t0_0) r0_1) (View.ld (iblk m c 41 t0_0) r0_1)) j) (by chain_rfl) (congrFun ((put1 _).trans ((entry (grad11 m c) (ld1 (in39 m c)) (ld1 (in40 m c)) (ld1 (in41 m c))).1)) j)
theorem out88 : (dats m 0 c).arrAt 88 cfg0.N = (mom1 (g11 m c) (m ((c : Thread nD τ).loc main_arg40)) : FVec Ideal S1x1024 .f32) :=
  (dats m 0 c).arrAt_eq_of_after_last 88 t0_0 (whole_out 88 rfl) _ fun j =>
    Eq.trans (b := put (F := Ideal) r0_1 (k0_pay34 (View.ld (iblk m c 0 t0_0) r0_15) (View.ld (iblk m c 40 t0_0) r0_1)) j) (by chain_rfl) (congrFun ((put1 _).trans ((entry (grad11 m c) (ld1 (in39 m c)) (ld1 (in40 m c)) (ld1 (in41 m c))).2.1)) j)
theorem out89 : (dats m 0 c).arrAt 89 cfg0.N = (mom2 (g11 m c) (m ((c : Thread nD τ).loc main_arg41)) : FVec Ideal S1x1024 .f32) :=
  (dats m 0 c).arrAt_eq_of_after_last 89 t0_0 (whole_out 89 rfl) _ fun j =>
    Eq.trans (b := put (F := Ideal) r0_1 (k0_pay35 (View.ld (iblk m c 0 t0_0) r0_15) (View.ld (iblk m c 41 t0_0) r0_1)) j) (by chain_rfl) (congrFun ((put1 _).trans ((entry (grad11 m c) (ld1 (in39 m c)) (ld1 (in40 m c)) (ld1 (in41 m c))).2.2)) j)

end Small

end
-- ==== Proof.SmallClaim.lean ====
/-
  The AdamW step on the twelve small parameters: the kernel's 48 results and the reference's are the same functions of the
  arguments, on any extended reals, and both leave the arguments as they were.
-/
module

public import proofs.«01_k».proof.Defs
public import proofs.«01_k».proof.Proof.Gen.Kernel8
public import proofs.«01_k».proof.Proof.Gen.Reference8Ideal.Run
public import proofs.«01_k».proof.Proof.SmallValue
public import Idealize.ShloMosaic.Adequacy
public import Idealize.ShloMosaic.Init

@[expose] public section

set_option maxRecDepth 16384

noncomputable section

namespace Small

open Cert.Kernel8Ideal Cert.Kernel8Ideal.Gen
open Idealize.ShloMosaic Idealize.ShloMosaic.TcCoe Idealize.ShloMosaic.Tactic Idealize.SL.Sem

/-! ## The frames -/

theorem frame_kernelIdeal : Cert.quiescent_Kernel8Ideal := fun m ρ _ => unchanged (F := Ideal) m ρ

/-- The kernel's text is its idealization's: the run is the same, on words. -/
theorem frame_kernel : Cert.quiescent_Kernel8 :=
  Eq.mp (by chain_rfl) (fun m ρ (_ : True) => unchanged (F := Bits) m ρ)

theorem frame_reference : Cert.quiescent_Reference8Ideal := fun m ρ _ =>
  (θ_run Cert.Reference8Ideal.defs _ _).mono (fun r h => ⟨fun c => (h c).2.2.2.2.2.2.2.2.2.2.2.2.2.2.2.2.2.2.2.2.2.2.2.2.2.2.2.2.2.2.2.2.2.2.2.2.2.2.2.2.2.2.2.2.2.2.2.2,
    Idealize.ShloMosaic.sem_eq_zero_of_no_sems (by decide) r.2⟩) (Cert.Reference8Ideal.Value.run m ρ)

/-! ## The kernel's results -/

set_option maxHeartbeats 4000000 in
theorem results (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = g0 m c
      ∧ r.2.mem ((c.tc : Thread nD τ).loc main_v0_1) = step (g0 m c) (m ((c : Thread nD τ).loc main_arg6)) (m ((c : Thread nD τ).loc main_arg7)) (m ((c : Thread nD τ).loc main_arg8))
      ∧ r.2.mem ((c.tc : Thread nD τ).loc main_v0_2) = mom1 (g0 m c) (m ((c : Thread nD τ).loc main_arg7))
      ∧ r.2.mem ((c.tc : Thread nD τ).loc main_v0_3) = mom2 (g0 m c) (m ((c : Thread nD τ).loc main_arg8))
      ∧ r.2.mem ((c.tc : Thread nD τ).loc main_v0_4) = g1 m c
      ∧ r.2.mem ((c.tc : Thread nD τ).loc main_v0_5) = step (g1 m c) (m ((c : Thread nD τ).loc main_arg9)) (m ((c : Thread nD τ).loc main_arg10)) (m ((c : Thread nD τ).loc main_arg11))
      ∧ r.2.mem ((c.tc : Thread nD τ).loc main_v0_6) = mom1 (g1 m c) (m ((c : Thread nD τ).loc main_arg10))
      ∧ r.2.mem ((c.tc : Thread nD τ).loc main_v0_7) = mom2 (g1 m c) (m ((c : Thread nD τ).loc main_arg11))
      ∧ r.2.mem ((c.tc : Thread nD τ).loc main_v0_8) = g2 m c
      ∧ r.2.mem ((c.tc : Thread nD τ).loc main_v0_9) = step (g2 m c) (m ((c : Thread nD τ).loc main_arg12)) (m ((c : Thread nD τ).loc main_arg13)) (m ((c : Thread nD τ).loc main_arg14))
      ∧ r.2.mem ((c.tc : Thread nD τ).loc main_v0_10) = mom1 (g2 m c) (m ((c : Thread nD τ).loc main_arg13))
      ∧ r.2.mem ((c.tc : Thread nD τ).loc main_v0_11) = mom2 (g2 m c) (m ((c : Thread nD τ).loc main_arg14))
      ∧ r.2.mem ((c.tc : Thread nD τ).loc main_v0_12) = g3 m c
      ∧ r.2.mem ((c.tc : Thread nD τ).loc main_v0_13) = step (g3 m c) (m ((c : Thread nD τ).loc main_arg15)) (m ((c : Thread nD τ).loc main_arg16)) (m ((c : Thread nD τ).loc main_arg17))
      ∧ r.2.mem ((c.tc : Thread nD τ).loc main_v0_14) = mom1 (g3 m c) (m ((c : Thread nD τ).loc main_arg16))
      ∧ r.2.mem ((c.tc : Thread nD τ).loc main_v0_15) = mom2 (g3 m c) (m ((c : Thread nD τ).loc main_arg17))
      ∧ r.2.mem ((c.tc : Thread nD τ).loc main_v0_16) = g4 m c
      ∧ r.2.mem ((c.tc : Thread nD τ).loc main_v0_17) = step (g4 m c) (m ((c : Thread nD τ).loc main_arg18)) (m ((c : Thread nD τ).loc main_arg19)) (m ((c : Thread nD τ).loc main_arg20))
      ∧ r.2.mem ((c.tc : Thread nD τ).loc main_v0_18) = mom1 (g4 m c) (m ((c : Thread nD τ).loc main_arg19))
      ∧ r.2.mem ((c.tc : Thread nD τ).loc main_v0_19) = mom2 (g4 m c) (m ((c : Thread nD τ).loc main_arg20))
      ∧ r.2.mem ((c.tc : Thread nD τ).loc main_v0_20) = g5 m c
      ∧ r.2.mem ((c.tc : Thread nD τ).loc main_v0_21) = step (g5 m c) (m ((c : Thread nD τ).loc main_arg21)) (m ((c : Thread nD τ).loc main_arg22)) (m ((c : Thread nD τ).loc main_arg23))
      ∧ r.2.mem ((c.tc : Thread nD τ).loc main_v0_22) = mom1 (g5 m c) (m ((c : Thread nD τ).loc main_arg22))
      ∧ r.2.mem ((c.tc : Thread nD τ).loc main_v0_23) = mom2 (g5 m c) (m ((c : Thread nD τ).loc main_arg23))
      ∧ r.2.mem ((c.tc : Thread nD τ).loc main_v0_24) = g6 m c
      ∧ r.2.mem ((c.tc : Thread nD τ).loc main_v0_25) = step (g6 m c) (m ((c : Thread nD τ).loc main_arg24)) (m ((c : Thread nD τ).loc main_arg25)) (m ((c : Thread nD τ).loc main_arg26))
      ∧ r.2.mem ((c.tc : Thread nD τ).loc main_v0_26) = mom1 (g6 m c) (m ((c : Thread nD τ).loc main_arg25))
      ∧ r.2.mem ((c.tc : Thread nD τ).loc main_v0_27) = mom2 (g6 m c) (m ((c : Thread nD τ).loc main_arg26))
      ∧ r.2.mem ((c.tc : Thread nD τ).loc main_v0_28) = g7 m c
      ∧ r.2.mem ((c.tc : Thread nD τ).loc main_v0_29) = step (g7 m c) (m ((c : Thread nD τ).loc main_arg27)) (m ((c : Thread nD τ).loc main_arg28)) (m ((c : Thread nD τ).loc main_arg29))
      ∧ r.2.mem ((c.tc : Thread nD τ).loc main_v0_30) = mom1 (g7 m c) (m ((c : Thread nD τ).loc main_arg28))
      ∧ r.2.mem ((c.tc : Thread nD τ).loc main_v0_31) = mom2 (g7 m c) (m ((c : Thread nD τ).loc main_arg29))
      ∧ r.2.mem ((c.tc : Thread nD τ).loc main_v0_32) = g8 m c
      ∧ r.2.mem ((c.tc : Thread nD τ).loc main_v0_33) = step (g8 m c) (m ((c : Thread nD τ).loc main_arg30)) (m ((c : Thread nD τ).loc main_arg31)) (m ((c : Thread nD τ).loc main_arg32))
      ∧ r.2.mem ((c.tc : Thread nD τ).loc main_v0_34) = mom1 (g8 m c) (m ((c : Thread nD τ).loc main_arg31))
      ∧ r.2.mem ((c.tc : Thread nD τ).loc main_v0_35) = mom2 (g8 m c) (m ((c : Thread nD τ).loc main_arg32))
      ∧ r.2.mem ((c.tc : Thread nD τ).loc main_v0_36) = g9 m c
      ∧ r.2.mem ((c.tc : Thread nD τ).loc main_v0_37) = step (g9 m c) (m ((c : Thread nD τ).loc main_arg33)) (m ((c : Thread nD τ).loc main_arg34)) (m ((c : Thread nD τ).loc main_arg35))
      ∧ r.2.mem ((c.tc : Thread nD τ).loc main_v0_38) = mom1 (g9 m c) (m ((c : Thread nD τ).loc main_arg34))
      ∧ r.2.mem ((c.tc : Thread nD τ).loc main_v0_39) = mom2 (g9 m c) (m ((c : Thread nD τ).loc main_arg35))
      ∧ r.2.mem ((c.tc : Thread nD τ).loc main_v0_40) = g10 m c
      ∧ r.2.mem ((c.tc : Thread nD τ).loc main_v0_41) = step (g10 m c) (m ((c : Thread nD τ).loc main_arg36)) (m ((c : Thread nD τ).loc main_arg37)) (m ((c : Thread nD τ).loc main_arg38))
      ∧ r.2.mem ((c.tc : Thread nD τ).loc main_v0_42) = mom1 (g10 m c) (m ((c : Thread nD τ).loc main_arg37))
      ∧ r.2.mem ((c.tc : Thread nD τ).loc main_v0_43) = mom2 (g10 m c) (m ((c : Thread nD τ).loc main_arg38))
      ∧ r.2.mem ((c.tc : Thread nD τ).loc main_v0_44) = g11 m c
      ∧ r.2.mem ((c.tc : Thread nD τ).loc main_v0_45) = step (g11 m c) (m ((c : Thread nD τ).loc main_arg39)) (m ((c : Thread nD τ).loc main_arg40)) (m ((c : Thread nD τ).loc main_arg41))
      ∧ r.2.mem ((c.tc : Thread nD τ).loc main_v0_46) = mom1 (g11 m c) (m ((c : Thread nD τ).loc main_arg40))
      ∧ r.2.mem ((c.tc : Thread nD τ).loc main_v0_47) = mom2 (g11 m c) (m ((c : Thread nD τ).loc main_arg41))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)) :=
  (θ_run defs _ _).mono (fun r h c => ⟨((h.1 c).1 42).trans (out42 m c), ((h.1 c).1 43).trans (out43 m c), ((h.1 c).1 44).trans (out44 m c),
    ((h.1 c).1 45).trans (out45 m c), ((h.1 c).1 46).trans (out46 m c), ((h.1 c).1 47).trans (out47 m c),
    ((h.1 c).1 48).trans (out48 m c), ((h.1 c).1 49).trans (out49 m c), ((h.1 c).1 50).trans (out50 m c),
    ((h.1 c).1 51).trans (out51 m c), ((h.1 c).1 52).trans (out52 m c), ((h.1 c).1 53).trans (out53 m c),
    ((h.1 c).1 54).trans (out54 m c), ((h.1 c).1 55).trans (out55 m c), ((h.1 c).1 56).trans (out56 m c),
    ((h.1 c).1 57).trans (out57 m c), ((h.1 c).1 58).trans (out58 m c), ((h.1 c).1 59).trans (out59 m c),
    ((h.1 c).1 60).trans (out60 m c), ((h.1 c).1 61).trans (out61 m c), ((h.1 c).1 62).trans (out62 m c),
    ((h.1 c).1 63).trans (out63 m c), ((h.1 c).1 64).trans (out64 m c), ((h.1 c).1 65).trans (out65 m c),
    ((h.1 c).1 66).trans (out66 m c), ((h.1 c).1 67).trans (out67 m c), ((h.1 c).1 68).trans (out68 m c),
    ((h.1 c).1 69).trans (out69 m c), ((h.1 c).1 70).trans (out70 m c), ((h.1 c).1 71).trans (out71 m c),
    ((h.1 c).1 72).trans (out72 m c), ((h.1 c).1 73).trans (out73 m c), ((h.1 c).1 74).trans (out74 m c),
    ((h.1 c).1 75).trans (out75 m c), ((h.1 c).1 76).trans (out76 m c), ((h.1 c).1 77).trans (out77 m c),
    ((h.1 c).1 78).trans (out78 m c), ((h.1 c).1 79).trans (out79 m c), ((h.1 c).1 80).trans (out80 m c),
    ((h.1 c).1 81).trans (out81 m c), ((h.1 c).1 82).trans (out82 m c), ((h.1 c).1 83).trans (out83 m c),
    ((h.1 c).1 84).trans (out84 m c), ((h.1 c).1 85).trans (out85 m c), ((h.1 c).1 86).trans (out86 m c),
    ((h.1 c).1 87).trans (out87 m c), ((h.1 c).1 88).trans (out88 m c), ((h.1 c).1 89).trans (out89 m c), args m h.1 c⟩)
    (run m ρ)

/-! ## The reference's -/

/-- The same slice of equal arrays. -/
theorem rows_eq {s t : Shape} (off : Fin s.rank → Nat) (h : s.Slices off t) {x y : FVec Ideal s .f32} (e : x = y) :
    extractStridedSlice t off x h = extractStridedSlice t off y h := by rw [e]

section Reference

open Cert.Reference8Ideal (S_)

variable {S : Shape} (b : S_.BroadcastsInDim S ![])

theorem ref_mom1 (g m : FVec Ideal S .f32) :
    addf (mulf (broadcastInDim S ![] b (constant (F := Ideal) S_ .f32 0x3F666666#32)) m)
      (mulf (broadcastInDim S ![] b (constant (F := Ideal) S_ .f32 0x3DCCCCCD#32)) g) = mom1 g m := rfl

theorem ref_mom2 (g v : FVec Ideal S .f32) :
    addf (mulf (broadcastInDim S ![] b (constant (F := Ideal) S_ .f32 0x3F7FBE77#32)) v)
      (mulf (broadcastInDim S ![] b (constant (F := Ideal) S_ .f32 0x3A83126F#32)) (mulf g g)) = mom2 g v := rfl

theorem ref_step (g w m v : FVec Ideal S .f32) :
    mulf (broadcastInDim S ![] b (constant (F := Ideal) S_ .f32 0xBA83126F#32))
      (addf
        (Host.divf
          (Host.divf
            (addf (mulf (broadcastInDim S ![] b (constant (F := Ideal) S_ .f32 0x3F666666#32)) m)
              (mulf (broadcastInDim S ![] b (constant (F := Ideal) S_ .f32 0x3DCCCCCD#32)) g))
            (broadcastInDim S ![] b (constant (F := Ideal) S_ .f32 0x3F26BD02#32)))
          (addf
            (Host.sqrt (Host.divf
              (addf (mulf (broadcastInDim S ![] b (constant (F := Ideal) S_ .f32 0x3F7FBE77#32)) v)
                (mulf (broadcastInDim S ![] b (constant (F := Ideal) S_ .f32 0x3A83126F#32)) (mulf g g)))
              (broadcastInDim S ![] b (constant (F := Ideal) S_ .f32 0x3C231ACC#32))))
            (broadcastInDim S ![] b (constant (F := Ideal) S_ .f32 0x322BCC77#32))))
        (mulf (broadcastInDim S ![] b (constant (F := Ideal) S_ .f32 0x3C23D70A#32)) w))
    = step g w m v := rfl

end Reference

set_option maxHeartbeats 4000000 in
theorem algebraic : Cert.algebraic_Kernel8Ideal_Reference8Ideal := by
  intro m ρ m' ρ' _ hagree
  refine ⟨_, _, _, _, _, _, _, _, _, _, _, _, _, _, _, _, _, _, _, _, _, _, _, _, _, _, _, _, _, _, _, _, _, _, _, _, _, _, _, _, _,
    _, _, _, _, _, _, _, results m ρ,
    (θ_run Cert.Reference8Ideal.defs _ _).mono (fun r h c => ?_) (Cert.Reference8Ideal.Value.run m' ρ')⟩
  obtain ⟨e0, e1, e2, e3, e4, e5, e6, e7, e8, e9, e10, e11, e12, e13, e14, e15, e16, e17, e18, e19, e20, e21, e22, e23, e24, e25,
    e26, e27, e28, e29, e30, e31, e32, e33, e34, e35, e36, e37, e38, e39, e40, e41, e42, e43, e44, e45, e46, e47, ha⟩ := h c
  obtain ⟨a0, a1, a2, a3, a4, a5, a6, a7, a8, a9, a10, a11, a12, a13, a14, a15, a16, a17, a18, a19, a20, a21, a22, a23, a24, a25,
    a26, a27, a28, a29, a30, a31, a32, a33, a34, a35, a36, a37, a38, a39, a40, a41⟩ := hagree c
  have d0 : Cert.Reference8Ideal.Value.res_main_v0 (F := Ideal) (Idealize.ShloMosaic.StableHlo.launchContents m' c) = g0 m c :=
    rows_eq (s := S8x1024) (t := S1x1024) ![0, 0] (by decide) a0
  have s0 := entry (S := S1x1024) d0 a6 a7 a8
  have s1 := entry (S := S16x32) a1 a9 a10 a11
  have d2 : Cert.Reference8Ideal.Value.res_main_v49 (F := Ideal) (Idealize.ShloMosaic.StableHlo.launchContents m' c) = g2 m c :=
    rows_eq (s := S40x256) (t := S1x256) ![0, 0] (by decide) a2
  have s2 := entry (S := S1x256) d2 a12 a13 a14
  have s3 := entry (S := S16x32) a3 a15 a16 a17
  have d4 : Cert.Reference8Ideal.Value.res_main_v98 (F := Ideal) (Idealize.ShloMosaic.StableHlo.launchContents m' c) = g4 m c :=
    rows_eq (s := S40x256) (t := S1x256) ![1, 0] (by decide) a2
  have s4 := entry (S := S1x256) d4 a18 a19 a20
  have d5 : Cert.Reference8Ideal.Value.res_main_v123 (F := Ideal) (Idealize.ShloMosaic.StableHlo.launchContents m' c) = g5 m c :=
    rows_eq (s := S8x512) (t := S1x512) ![0, 0] (by decide) a4
  have s5 := entry (S := S1x512) d5 a21 a22 a23
  have d6 : Cert.Reference8Ideal.Value.res_main_v148 (F := Ideal) (Idealize.ShloMosaic.StableHlo.launchContents m' c) = g6 m c :=
    rows_eq (s := S8x512) (t := S1x512) ![1, 0] (by decide) a4
  have s6 := entry (S := S1x512) d6 a24 a25 a26
  have d7 : Cert.Reference8Ideal.Value.res_main_v173 (F := Ideal) (Idealize.ShloMosaic.StableHlo.launchContents m' c) = g7 m c :=
    rows_eq (s := S8x512) (t := S1x512) ![2, 0] (by decide) a4
  have s7 := entry (S := S1x512) d7 a27 a28 a29
  have d8 : Cert.Reference8Ideal.Value.res_main_v198 (F := Ideal) (Idealize.ShloMosaic.StableHlo.launchContents m' c) = g8 m c :=
    rows_eq (s := S520x128) (t := S512x128) ![0, 0] (by decide) a5
  have s8 := entry (S := S512x128) d8 a30 a31 a32
  have d9 : Cert.Reference8Ideal.Value.res_main_v223 (F := Ideal) (Idealize.ShloMosaic.StableHlo.launchContents m' c) = g9 m c :=
    rows_eq (s := S520x128) (t := S4x128) ![512, 0] (by decide) a5
  have s9 := entry (S := S4x128) d9 a33 a34 a35
  have d10 : Cert.Reference8Ideal.Value.res_main_v248 (F := Ideal) (Idealize.ShloMosaic.StableHlo.launchContents m' c) = g10 m c :=
    rows_eq (s := S8x1024) (t := S1x1024) ![1, 0] (by decide) a0
  have s10 := entry (S := S1x1024) d10 a36 a37 a38
  have d11 : Cert.Reference8Ideal.Value.res_main_v273 (F := Ideal) (Idealize.ShloMosaic.StableHlo.launchContents m' c) = g11 m c :=
    rows_eq (s := S8x1024) (t := S1x1024) ![2, 0] (by decide) a0
  have s11 := entry (S := S1x1024) d11 a39 a40 a41
  exact ⟨e0.trans d0, e1.trans ((ref_step _ _ _ _ _).trans s0.1), e2.trans ((ref_mom1 _ _ _).trans s0.2.1),
    e3.trans ((ref_mom2 _ _ _).trans s0.2.2), e4.trans a1, e5.trans ((ref_step _ _ _ _ _).trans s1.1),
    e6.trans ((ref_mom1 _ _ _).trans s1.2.1), e7.trans ((ref_mom2 _ _ _).trans s1.2.2), e8.trans d2,
    e9.trans ((ref_step _ _ _ _ _).trans s2.1), e10.trans ((ref_mom1 _ _ _).trans s2.2.1),
    e11.trans ((ref_mom2 _ _ _).trans s2.2.2), e12.trans a3, e13.trans ((ref_step _ _ _ _ _).trans s3.1),
    e14.trans ((ref_mom1 _ _ _).trans s3.2.1), e15.trans ((ref_mom2 _ _ _).trans s3.2.2), e16.trans d4,
    e17.trans ((ref_step _ _ _ _ _).trans s4.1), e18.trans ((ref_mom1 _ _ _).trans s4.2.1),
    e19.trans ((ref_mom2 _ _ _).trans s4.2.2), e20.trans d5, e21.trans ((ref_step _ _ _ _ _).trans s5.1),
    e22.trans ((ref_mom1 _ _ _).trans s5.2.1), e23.trans ((ref_mom2 _ _ _).trans s5.2.2), e24.trans d6,
    e25.trans ((ref_step _ _ _ _ _).trans s6.1), e26.trans ((ref_mom1 _ _ _).trans s6.2.1),
    e27.trans ((ref_mom2 _ _ _).trans s6.2.2), e28.trans d7, e29.trans ((ref_step _ _ _ _ _).trans s7.1),
    e30.trans ((ref_mom1 _ _ _).trans s7.2.1), e31.trans ((ref_mom2 _ _ _).trans s7.2.2), e32.trans d8,
    e33.trans ((ref_step _ _ _ _ _).trans s8.1), e34.trans ((ref_mom1 _ _ _).trans s8.2.1),
    e35.trans ((ref_mom2 _ _ _).trans s8.2.2), e36.trans d9, e37.trans ((ref_step _ _ _ _ _).trans s9.1),
    e38.trans ((ref_mom1 _ _ _).trans s9.2.1), e39.trans ((ref_mom2 _ _ _).trans s9.2.2), e40.trans d10,
    e41.trans ((ref_step _ _ _ _ _).trans s10.1), e42.trans ((ref_mom1 _ _ _).trans s10.2.1),
    e43.trans ((ref_mom2 _ _ _).trans s10.2.2), e44.trans d11, e45.trans ((ref_step _ _ _ _ _).trans s11.1),
    e46.trans ((ref_mom1 _ _ _).trans s11.2.1), e47.trans ((ref_mom2 _ _ _).trans s11.2.2), ha⟩

end Small

end
-- ==== Proof.lean ====
/-
  The certificate of parts of the training step: the feed-forward half, its three weights' gradients, the backward call of
  the input projection, and the AdamW step of five weights and of the small parameters. Each kernel and its idealization run
  to the end with every semaphore at zero, the idealization is the kernel's own text, and its results are the reference's: for
  the feed-forward half on finite arguments, for the others on all.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Kernel4.Frame
public import proofs.«01_k».proof.Proof.Gen.Kernel4Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel8
public import proofs.«01_k».proof.Proof.Gen.Kernel8Ideal.Launch
public import proofs.«01_k».proof.Proof.Gen.Kernel8Ideal.Skeleton
public import proofs.«01_k».proof.Proof.Gen.Kernel8Ideal.Points
public import proofs.«01_k».proof.Proof.Gen.Reference8Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Finite
public import proofs.«01_k».proof.Proof.WeightGrad
public import proofs.«01_k».proof.Proof.InProjOut
public import proofs.«01_k».proof.Proof.Adam
public import proofs.«01_k».proof.Proof.AdamOut
public import proofs.«01_k».proof.Proof.AdamIn
public import proofs.«01_k».proof.Proof.AdamIn1
public import proofs.«01_k».proof.Proof.SmallClaim
public import Idealize.ShloMosaic.Adequacy
public import Idealize.ShloMosaic.Init

@[expose] public section

noncomputable section

namespace Cert.Proof

open Idealize.ShloMosaic Idealize.SL.Sem Spec Arrays

/-- Each array over index pairs that is a real number at each pair is the array of those numbers. -/
theorem eq_arr {φ : FTy} {a b : ℕ} {v : FVec Ideal ⟨2, ![a, b]⟩ φ} {f : Fin a → Fin b → ℝ}
    (h : ∀ i j, v (ix2 i j) = ((f i j : ℝ) : EReal)) : v = arr f := funext fun i => by rw [eq_ix2 i]; exact h _ _

theorem frame_reference : Cert.quiescent_ReferenceIdeal := fun m ρ _ =>
  (θ_run Cert.ReferenceIdeal.defs _ _).mono (fun r h => ⟨fun c => (h c).2.2.2.2.2.2.2.2.2,
    Idealize.ShloMosaic.sem_eq_zero_of_no_sems (by decide) r.2⟩) (Cert.ReferenceIdeal.Value.run m ρ)

theorem algebraic : Cert.algebraic_KernelIdeal_ReferenceIdeal_pre_finite := by
  intro m ρ m' ρ' hpre hagree
  choose W X T H using Finite.args hpre
  refine ⟨fun c => arr (φ := .f32) fun i j => dx1 (W c) (X c i) (T c i) j,
    fun c => arr (φ := .bf16) fun i j => h2 (W c) (X c i) j,
    fun c => arr (φ := .bf16) fun i f => dgate (W c) (X c i) (T c i) f,
    fun c => arr (φ := .bf16) fun i f => dup (W c) (X c i) (T c i) f,
    fun c => arr (φ := .bf16) fun i f => act (W c) (X c i) f,
    fun c => arr (φ := .bf16) fun i j => dx2 (W c) (X c i) (T c i) j,
    fun c => arr (φ := .f32) fun _ _ => 1 / 2 * ∑ i, lossRow (W c) (X c i) (T c i),
    fun c => arr (φ := .f32) fun _ j => ∑ i, dgfRow (W c) (X c i) (T c i) j,
    fun c => arr (φ := .f32) fun _ j => ∑ i, dg2Row (W c) (X c i) (T c i) j, ?_, ?_⟩
  · refine (θ_run Cert.KernelIdeal.defs _ _).mono (fun r h c => ?_) (Cert.KernelIdeal.Value.run_blocks m ρ)
    obtain ⟨e0, e1, e2, e3, e4, e5, e6, e7, e8, ha⟩ := h c
    exact ⟨e0.trans (a7 (H c)), e1.trans (a8 (H c)), e2.trans (a9 (H c)), e3.trans (a10 (H c)), e4.trans (a11 (H c)),
      e5.trans (a12 (H c)), e6.trans (a13 (H c)), e7.trans (a14 (H c)), e8.trans (a15 (H c)), ha⟩
  · refine (θ_run Cert.ReferenceIdeal.defs _ _).mono (fun r h c => ?_) (Cert.ReferenceIdeal.Value.run m' ρ')
    obtain ⟨e0, e1, e2, e3, e4, e5, e6, e7, e8, ha⟩ := h c
    have H' := H c
    obtain ⟨g0, g1, g2, g3, g4, g5, g6⟩ := hagree c
    unfold Inputs.Args at H'
    rw [← g0, ← g1, ← g2, ← g3, ← g4, ← g5, ← g6] at H'
    exact ⟨e0.trans ((Cert.ReferenceIdeal.Read.val_main_v100_eq _).trans (eq_arr (Reference.v100 H'))),
      e1.trans ((Cert.ReferenceIdeal.Read.val_main_v101_eq _).trans (eq_arr (Reference.v101 H'))),
      e2.trans ((Cert.ReferenceIdeal.Read.val_main_v102_eq _).trans (eq_arr (Reference.v102 H'))),
      e3.trans ((Cert.ReferenceIdeal.Read.val_main_v103_eq _).trans (eq_arr (Reference.v103 H'))),
      e4.trans ((Cert.ReferenceIdeal.Read.val_main_v104_eq _).trans (eq_arr (Reference.v104 H'))),
      e5.trans ((Cert.ReferenceIdeal.Read.val_main_v105_eq _).trans (eq_arr (Reference.v105 H'))),
      e6.trans ((Cert.ReferenceIdeal.Read.val_main_v106_eq _).trans (eq_arr (Reference.v106 H'))),
      e7.trans ((Cert.ReferenceIdeal.Read.val_main_v107_eq _).trans (eq_arr (Reference.v107 H'))),
      e8.trans ((Cert.ReferenceIdeal.Read.val_main_v108_eq _).trans (eq_arr (Reference.v108 H'))), ha⟩

/-! ## The weights' gradients -/

theorem frame_reference2 : Cert.quiescent_Reference2Ideal := fun m ρ _ =>
  (θ_run Cert.Reference2Ideal.defs _ _).mono (fun r h => ⟨fun c => (h c).2,
    Idealize.ShloMosaic.sem_eq_zero_of_no_sems (by decide) r.2⟩) (Cert.Reference2Ideal.Value.run m ρ)

theorem frame_reference3 : Cert.quiescent_Reference3Ideal := fun m ρ _ =>
  (θ_run Cert.Reference3Ideal.defs _ _).mono (fun r h => ⟨fun c => (h c).2,
    Idealize.ShloMosaic.sem_eq_zero_of_no_sems (by decide) r.2⟩) (Cert.Reference3Ideal.Value.run m ρ)

theorem run2 (m : (ℓ : Loc Cert.Kernel2Ideal.nD Cert.Kernel2Ideal.τ Cert.Kernel2Ideal.sig) → Buf (Elt Ideal) ℓ) (ρ) :
    θ_run (Cert.Kernel2Ideal.defs (F := Ideal)) (onTc (τ := Cert.Kernel2Ideal.τ) (Cert.Kernel2Ideal.main (F := Ideal))) ⟨m, fun _ => 0, ρ⟩
      fun r => ∀ c : Dev Cert.Kernel2Ideal.nD,
        r.2.mem ((c.tc : Thread Cert.Kernel2Ideal.nD Cert.Kernel2Ideal.τ).loc Cert.Kernel2Ideal.main_v0)
          = WeightGrad.grad (m ((c.tc : Thread Cert.Kernel2Ideal.nD Cert.Kernel2Ideal.τ).loc Cert.Kernel2Ideal.main_arg0))
            (m ((c.tc : Thread Cert.Kernel2Ideal.nD Cert.Kernel2Ideal.τ).loc Cert.Kernel2Ideal.main_arg1))
        ∧ r.2.mem ((c.tc : Thread Cert.Kernel2Ideal.nD Cert.Kernel2Ideal.τ).loc Cert.Kernel2Ideal.main_arg0)
          = m ((c.tc : Thread Cert.Kernel2Ideal.nD Cert.Kernel2Ideal.τ).loc Cert.Kernel2Ideal.main_arg0)
        ∧ r.2.mem ((c.tc : Thread Cert.Kernel2Ideal.nD Cert.Kernel2Ideal.τ).loc Cert.Kernel2Ideal.main_arg1)
          = m ((c.tc : Thread Cert.Kernel2Ideal.nD Cert.Kernel2Ideal.τ).loc Cert.Kernel2Ideal.main_arg1) :=
  (θ_run Cert.Kernel2Ideal.defs _ _).mono (fun r h c => ⟨(h c).1.trans (WeightGrad.result m c), (h c).2⟩)
    (Cert.Kernel2Ideal.Value.run_blocks m ρ)

theorem algebraic2 : Cert.algebraic_Kernel2Ideal_Reference2Ideal := by
  intro m ρ m' ρ' _ hagree
  refine ⟨_, run2 m ρ, (θ_run Cert.Reference2Ideal.defs _ _).mono (fun r h c => ?_) (Cert.Reference2Ideal.Value.run m' ρ')⟩
  obtain ⟨e, ha⟩ := h c
  obtain ⟨g0, g1⟩ := hagree c
  refine ⟨e.trans ((Cert.Reference2Ideal.Read.val_main_v5_eq _ _).trans ((WeightGrad.reference2 _ _).trans ?_)), ha⟩
  exact congrArg₂ WeightGrad.grad g0 g1

theorem algebraic3 : Cert.algebraic_Kernel2Ideal_Reference3Ideal := by
  intro m ρ m' ρ' _ hagree
  refine ⟨_, run2 m ρ, (θ_run Cert.Reference3Ideal.defs _ _).mono (fun r h c => ?_) (Cert.Reference3Ideal.Value.run m' ρ')⟩
  obtain ⟨e, ha⟩ := h c
  obtain ⟨g0, g1⟩ := hagree c
  refine ⟨e.trans ((Cert.Reference3Ideal.Read.val_main_v6_eq _ _).trans ((WeightGrad.reference3 _ _).trans ?_)), ha⟩
  exact congrArg₂ WeightGrad.grad g0 g1

/-! ## The projection's backward call -/

theorem frame_reference4 : Cert.quiescent_Reference4Ideal := fun m ρ _ =>
  (θ_run Cert.Reference4Ideal.defs _ _).mono (fun r h => ⟨fun c => (h c).2.2.2,
    Idealize.ShloMosaic.sem_eq_zero_of_no_sems (by decide) r.2⟩) (Cert.Reference4Ideal.Value.run m ρ)

theorem algebraic4 : Cert.algebraic_Kernel4Ideal_Reference4Ideal := by
  intro m ρ m' ρ' _ hagree
  refine ⟨fun c => Cert.Reference4Ideal.Read.val_main_v55 (F := Ideal) (InProj.a0 m c) (InProj.a1 m c) (InProj.a2 m c) (InProj.a3 m c)
      (InProj.a4 m c) (InProj.a5 m c) (InProj.a6 m c) (InProj.a7 m c) (InProj.a8 m c) (InProj.a9 m c) (InProj.a10 m c) (InProj.a11 m c) (InProj.a12 m c) (InProj.a13 m c) (InProj.a14 m c),
    fun c => Cert.Reference4Ideal.Read.val_main_v56 (F := Ideal) (InProj.a4 m c) (InProj.a5 m c) (InProj.a6 m c) (InProj.a7 m c) (InProj.a8 m c) (InProj.a9 m c) (InProj.a10 m c) (InProj.a11 m c) (InProj.a12 m c) (InProj.a13 m c) (InProj.a14 m c),
    fun c => Cert.Reference4Ideal.Read.val_main_v57 (F := Ideal) (InProj.a0 m c) (InProj.a2 m c)
      (InProj.a4 m c) (InProj.a5 m c) (InProj.a6 m c) (InProj.a7 m c) (InProj.a8 m c) (InProj.a9 m c) (InProj.a10 m c) (InProj.a11 m c) (InProj.a12 m c) (InProj.a13 m c) (InProj.a14 m c),
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run m' ρ')⟩
  · obtain ⟨e0, e1, e2, ha⟩ := h c
    exact ⟨e0.trans (InProj.r15 m c), e1.trans (InProj.r16 m c), e2.trans (InProj.r17 m c), ha⟩
  · obtain ⟨e0, e1, e2, ha⟩ := h c
    obtain ⟨g0, g1, g2, g3, g4, g5, g6, g7, g8, g9, g10, g11, g12, g13, g14⟩ := hagree c
    refine ⟨e0.trans ((Cert.Reference4Ideal.Read.val_main_v55_eq _ _).trans ?_), e1.trans ((Cert.Reference4Ideal.Read.val_main_v56_eq _ _ _ _ _ _ _ _ _ _ _).trans ?_),
      e2.trans ((Cert.Reference4Ideal.Read.val_main_v57_eq _ _ _ _ _ _ _ _ _ _ _ _ _).trans ?_), ha⟩
    · rw [g0, g1, g2, g3, g4, g5, g6, g7, g8, g9, g10, g11, g12, g13, g14]
    · rw [g4, g5, g6, g7, g8, g9, g10, g11, g12, g13, g14]
    · rw [g0, g2, g4, g5, g6, g7, g8, g9, g10, g11, g12, g13, g14]

/-! ## The optimiser -/

theorem frame_reference5 : Cert.quiescent_Reference5Ideal := fun m ρ _ =>
  (θ_run Cert.Reference5Ideal.defs _ _).mono (fun r h => ⟨fun c => (h c).2.2.2.2,
    Idealize.ShloMosaic.sem_eq_zero_of_no_sems (by decide) r.2⟩) (Cert.Reference5Ideal.Value.run m ρ)

theorem algebraic5 : Cert.algebraic_Kernel5Ideal_Reference5Ideal := by
  intro m ρ m' ρ' _ hagree
  refine ⟨fun c => Cert.Reference5Ideal.Read.val_main_v2 (F := Ideal) (Adam.a0 m c) (Adam.a1 m c),
    fun c => Cert.Reference5Ideal.Read.val_main_v26 (F := Ideal) (Adam.a0 m c) (Adam.a1 m c) (Adam.a2 m c) (Adam.a3 m c) (Adam.a4 m c),
    fun c => Cert.Reference5Ideal.Read.val_main_v7 (F := Ideal) (Adam.a0 m c) (Adam.a1 m c) (Adam.a3 m c),
    fun c => Cert.Reference5Ideal.Read.val_main_v13 (F := Ideal) (Adam.a0 m c) (Adam.a1 m c) (Adam.a4 m c),
    (θ_run Cert.Kernel5Ideal.defs _ _).mono (fun r h c => ?_) (Cert.Kernel5Ideal.Value.run_blocks m ρ),
    (θ_run Cert.Reference5Ideal.defs _ _).mono (fun r h c => ?_) (Cert.Reference5Ideal.Value.run m' ρ')⟩
  · obtain ⟨e0, e1, e2, e3, ha⟩ := h c
    exact ⟨e0.trans (Adam.r5 m c), e1.trans (Adam.r6 m c), e2.trans (Adam.r7 m c), e3.trans (Adam.r8 m c), ha⟩
  · obtain ⟨e0, e1, e2, e3, ha⟩ := h c
    obtain ⟨g0, g1, g2, g3, g4⟩ := hagree c
    refine ⟨e0.trans ((Cert.Reference5Ideal.Read.val_main_v2_eq _ _).trans ?_), e1.trans ((Cert.Reference5Ideal.Read.val_main_v26_eq _ _ _ _ _).trans ?_),
      e2.trans ((Cert.Reference5Ideal.Read.val_main_v7_eq _ _ _).trans ?_), e3.trans ((Cert.Reference5Ideal.Read.val_main_v13_eq _ _ _).trans ?_), ha⟩
    · rw [g0, g1]
    · rw [g0, g1, g2, g3, g4]
    · rw [g0, g1, g3]
    · rw [g0, g1, g4]

theorem frame_reference6 : Cert.quiescent_Reference6Ideal := fun m ρ _ =>
  (θ_run Cert.Reference6Ideal.defs _ _).mono (fun r h => ⟨fun c => (h c).2.2.2.2,
    Idealize.ShloMosaic.sem_eq_zero_of_no_sems (by decide) r.2⟩) (Cert.Reference6Ideal.Value.run m ρ)

theorem algebraic6 : Cert.algebraic_Kernel6Ideal_Reference6Ideal := by
  intro m ρ m' ρ' _ hagree
  refine ⟨fun c => Cert.Reference6Ideal.Read.val_main_v2 (F := Ideal) (AdamOut.a0 m c) (AdamOut.a1 m c),
    fun c => Cert.Reference6Ideal.Read.val_main_v26 (F := Ideal) (AdamOut.a0 m c) (AdamOut.a1 m c) (AdamOut.a2 m c) (AdamOut.a3 m c) (AdamOut.a4 m c),
    fun c => Cert.Reference6Ideal.Read.val_main_v7 (F := Ideal) (AdamOut.a0 m c) (AdamOut.a1 m c) (AdamOut.a3 m c),
    fun c => Cert.Reference6Ideal.Read.val_main_v13 (F := Ideal) (AdamOut.a0 m c) (AdamOut.a1 m c) (AdamOut.a4 m c),
    (θ_run Cert.Kernel6Ideal.defs _ _).mono (fun r h c => ?_) (Cert.Kernel6Ideal.Value.run_blocks m ρ),
    (θ_run Cert.Reference6Ideal.defs _ _).mono (fun r h c => ?_) (Cert.Reference6Ideal.Value.run m' ρ')⟩
  · obtain ⟨e0, e1, e2, e3, ha⟩ := h c
    exact ⟨e0.trans (AdamOut.r5 m c), e1.trans (AdamOut.r6 m c), e2.trans (AdamOut.r7 m c), e3.trans (AdamOut.r8 m c), ha⟩
  · obtain ⟨e0, e1, e2, e3, ha⟩ := h c
    obtain ⟨g0, g1, g2, g3, g4⟩ := hagree c
    refine ⟨e0.trans ((Cert.Reference6Ideal.Read.val_main_v2_eq _ _).trans ?_), e1.trans ((Cert.Reference6Ideal.Read.val_main_v26_eq _ _ _ _ _).trans ?_),
      e2.trans ((Cert.Reference6Ideal.Read.val_main_v7_eq _ _ _).trans ?_), e3.trans ((Cert.Reference6Ideal.Read.val_main_v13_eq _ _ _).trans ?_), ha⟩
    · rw [g0, g1]
    · rw [g0, g1, g2, g3, g4]
    · rw [g0, g1, g3]
    · rw [g0, g1, g4]

theorem frame_reference7 : Cert.quiescent_Reference7Ideal := fun m ρ _ =>
  (θ_run Cert.Reference7Ideal.defs _ _).mono (fun r h => ⟨fun c => (h c).2.2.2.2,
    Idealize.ShloMosaic.sem_eq_zero_of_no_sems (by decide) r.2⟩) (Cert.Reference7Ideal.Value.run m ρ)

theorem algebraic7 : Cert.algebraic_Kernel7Ideal_Reference7Ideal := by
  intro m ρ m' ρ' _ hagree
  refine ⟨fun c => Cert.Reference7Ideal.Read.val_main_v4 (F := Ideal) (AdamIn.a0 m c) (AdamIn.a1 m c),
    fun c => Cert.Reference7Ideal.Read.val_main_v28 (F := Ideal) (AdamIn.a0 m c) (AdamIn.a1 m c) (AdamIn.a2 m c) (AdamIn.a3 m c) (AdamIn.a4 m c),
    fun c => Cert.Reference7Ideal.Read.val_main_v9 (F := Ideal) (AdamIn.a0 m c) (AdamIn.a1 m c) (AdamIn.a3 m c),
    fun c => Cert.Reference7Ideal.Read.val_main_v15 (F := Ideal) (AdamIn.a0 m c) (AdamIn.a1 m c) (AdamIn.a4 m c),
    (θ_run Cert.Kernel7Ideal.defs _ _).mono (fun r h c => ?_) (Cert.Kernel7Ideal.Value.run_blocks m ρ),
    (θ_run Cert.Reference7Ideal.defs _ _).mono (fun r h c => ?_) (Cert.Reference7Ideal.Value.run m' ρ')⟩
  · obtain ⟨e0, e1, e2, e3, ha⟩ := h c
    exact ⟨e0.trans (AdamIn.r5 m c), e1.trans (AdamIn.r6 m c), e2.trans (AdamIn.r7 m c), e3.trans (AdamIn.r8 m c), ha⟩
  · obtain ⟨e0, e1, e2, e3, ha⟩ := h c
    obtain ⟨g0, g1, g2, g3, g4⟩ := hagree c
    refine ⟨e0.trans ((Cert.Reference7Ideal.Read.val_main_v4_eq _ _).trans ?_), e1.trans ((Cert.Reference7Ideal.Read.val_main_v28_eq _ _ _ _ _).trans ?_),
      e2.trans ((Cert.Reference7Ideal.Read.val_main_v9_eq _ _ _).trans ?_), e3.trans ((Cert.Reference7Ideal.Read.val_main_v15_eq _ _ _).trans ?_), ha⟩
    · rw [g0, g1]
    · rw [g0, g1, g2, g3, g4]
    · rw [g0, g1, g3]
    · rw [g0, g1, g4]

theorem frame_reference9 : Cert.quiescent_Reference9Ideal := fun m ρ _ =>
  (θ_run Cert.Reference9Ideal.defs _ _).mono (fun r h => ⟨fun c => (h c).2.2.2.2,
    Idealize.ShloMosaic.sem_eq_zero_of_no_sems (by decide) r.2⟩) (Cert.Reference9Ideal.Value.run m ρ)

theorem algebraic9 : Cert.algebraic_Kernel9Ideal_Reference9Ideal := by
  intro m ρ m' ρ' _ hagree
  refine ⟨fun c => Cert.Reference9Ideal.Read.val_main_v4 (F := Ideal) (AdamIn1.a0 m c) (AdamIn1.a1 m c),
    fun c => Cert.Reference9Ideal.Read.val_main_v28 (F := Ideal) (AdamIn1.a0 m c) (AdamIn1.a1 m c) (AdamIn1.a2 m c) (AdamIn1.a3 m c) (AdamIn1.a4 m c),
    fun c => Cert.Reference9Ideal.Read.val_main_v9 (F := Ideal) (AdamIn1.a0 m c) (AdamIn1.a1 m c) (AdamIn1.a3 m c),
    fun c => Cert.Reference9Ideal.Read.val_main_v15 (F := Ideal) (AdamIn1.a0 m c) (AdamIn1.a1 m c) (AdamIn1.a4 m c),
    (θ_run Cert.Kernel9Ideal.defs _ _).mono (fun r h c => ?_) (Cert.Kernel9Ideal.Value.run_blocks m ρ),
    (θ_run Cert.Reference9Ideal.defs _ _).mono (fun r h c => ?_) (Cert.Reference9Ideal.Value.run m' ρ')⟩
  · obtain ⟨e0, e1, e2, e3, ha⟩ := h c
    exact ⟨e0.trans (AdamIn1.r5 m c), e1.trans (AdamIn1.r6 m c), e2.trans (AdamIn1.r7 m c), e3.trans (AdamIn1.r8 m c), ha⟩
  · obtain ⟨e0, e1, e2, e3, ha⟩ := h c
    obtain ⟨g0, g1, g2, g3, g4⟩ := hagree c
    refine ⟨e0.trans ((Cert.Reference9Ideal.Read.val_main_v4_eq _ _).trans ?_), e1.trans ((Cert.Reference9Ideal.Read.val_main_v28_eq _ _ _ _ _).trans ?_),
      e2.trans ((Cert.Reference9Ideal.Read.val_main_v9_eq _ _ _).trans ?_), e3.trans ((Cert.Reference9Ideal.Read.val_main_v15_eq _ _ _).trans ?_), ha⟩
    · rw [g0, g1]
    · rw [g0, g1, g2, g3, g4]
    · rw [g0, g1, g3]
    · rw [g0, g1, g4]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  Small.frame_kernel, Small.frame_kernelIdeal, Small.frame_reference,
  fun m ρ _ => Cert.Kernel9.Gen.frame m ρ, fun m ρ _ => Cert.Kernel9Ideal.Gen.frame m ρ, frame_reference9,
  trivial, algebraic, trivial, algebraic2, algebraic3, trivial, algebraic4, trivial, algebraic5, trivial, algebraic6, trivial, algebraic7,
  trivial, Small.algebraic, trivial, algebraic9⟩

end Cert.Proof

end
